-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_scores [hPre_finite_scores : Cert.Pre_finite_scores.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_scores.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_scores [hPre_finite_scores : Cert.Pre_finite_scores.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_scores.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Kernel10Ideal_pre_finite_scores [hKernel10Ideal : Cert.Kernel10Ideal.Facts] [hPre_finite_scores : Cert.Pre_finite_scores.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_scores m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Reference10Ideal_pre_finite_scores [hReference10Ideal : Cert.Reference10Ideal.Facts] [hPre_finite_scores : Cert.Pre_finite_scores.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_scores m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4)
      ∧ r.2.mem ((c.tc : Thread Cert.Kernel32.nD Cert.Kernel32.τ).loc Cert.Kernel32.main_arg5) = m ((c.tc : Thread Cert.Kernel32.nD Cert.Kernel32.τ).loc Cert.Kernel32.main_arg5))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
      ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4)
      ∧ r.2.mem ((c.tc : Thread Cert.Reference32Ideal.nD Cert.Reference32Ideal.τ).loc Cert.Reference32Ideal.main_arg5) = m ((c.tc : Thread Cert.Reference32Ideal.nD Cert.Reference32Ideal.τ).loc Cert.Reference32Ideal.main_arg5))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_v14) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_v13) = v1 c
          ∧ r.2.mem ((c.tc : Thread Cert.Reference6Ideal.nD Cert.Reference6Ideal.τ).loc Cert.Reference6Ideal.main_v16) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  IdealRules.named_const.Statement Cert.Kernel10Ideal.κ "mask" .f32 0xF149F2CA#32 ⊥

def algebraic_Kernel10Ideal_Reference10Ideal_pre_finite_scores [hKernel10Ideal : Cert.Kernel10Ideal.Facts] [hReference10Ideal : Cert.Reference10Ideal.Facts] [hPre_finite_scores : Cert.Pre_finite_scores.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_scores m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v15)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v15) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v60) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)) (v2 : (c : Dev Cert.Kernel11Ideal.nD) → Buf (Elt Ideal) ((c.tc : Thread Cert.Kernel11Ideal.nD Cert.Kernel11Ideal.τ).loc Cert.Kernel11Ideal.main_v4_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_v4_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v24) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v26) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)) (v2 : (c : Dev Cert.Kernel12Ideal.nD) → Buf (Elt Ideal) ((c.tc : Thread Cert.Kernel12Ideal.nD Cert.Kernel12Ideal.τ).loc Cert.Kernel12Ideal.main_v4_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_v4_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v24) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v26) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)) (v2 : (c : Dev Cert.Kernel13Ideal.nD) → Buf (Elt Ideal) ((c.tc : Thread Cert.Kernel13Ideal.nD Cert.Kernel13Ideal.τ).loc Cert.Kernel13Ideal.main_v4_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_v4_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v24) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v26) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)) (v2 : (c : Dev Cert.Kernel14Ideal.nD) → Buf (Elt Ideal) ((c.tc : Thread Cert.Kernel14Ideal.nD Cert.Kernel14Ideal.τ).loc Cert.Kernel14Ideal.main_v4_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_v4_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v24) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v26) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v4_0)) (v1 : (c : Dev Cert.Kernel15Ideal.nD) → Buf (Elt Ideal) ((c.tc : Thread Cert.Kernel15Ideal.nD Cert.Kernel15Ideal.τ).loc Cert.Kernel15Ideal.main_v4_1)) (v2 : (c : Dev Cert.Kernel15Ideal.nD) → Buf (Elt Ideal) ((c.tc : Thread Cert.Kernel15Ideal.nD Cert.Kernel15Ideal.τ).loc Cert.Kernel15Ideal.main_v4_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4_0) = v0 c
          ∧ r.2.mem ((c.tc : Thread Cert.Kernel15Ideal.nD Cert.Kernel15Ideal.τ).loc Cert.Kernel15Ideal.main_v4_1) = v1 c
          ∧ r.2.mem ((c.tc : Thread Cert.Kernel15Ideal.nD Cert.Kernel15Ideal.τ).loc Cert.Kernel15Ideal.main_v4_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v24) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v26) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v8_0)) (v1 : (c : Dev Cert.Kernel16Ideal.nD) → Buf (Elt Ideal) ((c.tc : Thread Cert.Kernel16Ideal.nD Cert.Kernel16Ideal.τ).loc Cert.Kernel16Ideal.main_v8_1)) (v2 : (c : Dev Cert.Kernel16Ideal.nD) → Buf (Elt Ideal) ((c.tc : Thread Cert.Kernel16Ideal.nD Cert.Kernel16Ideal.τ).loc Cert.Kernel16Ideal.main_v8_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v8_0) = v0 c
          ∧ r.2.mem ((c.tc : Thread Cert.Kernel16Ideal.nD Cert.Kernel16Ideal.τ).loc Cert.Kernel16Ideal.main_v8_1) = v1 c
          ∧ r.2.mem ((c.tc : Thread Cert.Kernel16Ideal.nD Cert.Kernel16Ideal.τ).loc Cert.Kernel16Ideal.main_v8_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v25) = v0 c
          ∧ r.2.mem ((c.tc : Thread Cert.Reference16Ideal.nD Cert.Reference16Ideal.τ).loc Cert.Reference16Ideal.main_v27) = v1 c
          ∧ r.2.mem ((c.tc : Thread Cert.Reference16Ideal.nD Cert.Reference16Ideal.τ).loc Cert.Reference16Ideal.main_v29) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v6) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v8) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v3) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v4) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v8) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v8) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v1) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v13) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v2_0)) (v1 : (c : Dev Cert.Kernel29Ideal.nD) → Buf (Elt Ideal) ((c.tc : Thread Cert.Kernel29Ideal.nD Cert.Kernel29Ideal.τ).loc Cert.Kernel29Ideal.main_v2_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v2_0) = v0 c
          ∧ r.2.mem ((c.tc : Thread Cert.Kernel29Ideal.nD Cert.Kernel29Ideal.τ).loc Cert.Kernel29Ideal.main_v2_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v13) = v0 c
          ∧ r.2.mem ((c.tc : Thread Cert.Reference29Ideal.nD Cert.Reference29Ideal.τ).loc Cert.Reference29Ideal.main_v27) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v1_0)) (v1 : (c : Dev Cert.Kernel30Ideal.nD) → Buf (Elt Ideal) ((c.tc : Thread Cert.Kernel30Ideal.nD Cert.Kernel30Ideal.τ).loc Cert.Kernel30Ideal.main_v1_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1_0) = v0 c
          ∧ r.2.mem ((c.tc : Thread Cert.Kernel30Ideal.nD Cert.Kernel30Ideal.τ).loc Cert.Kernel30Ideal.main_v1_1) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v36) = v0 c
          ∧ r.2.mem ((c.tc : Thread Cert.Reference30Ideal.nD Cert.Reference30Ideal.τ).loc Cert.Reference30Ideal.main_v37) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v1_0)) (v1 : (c : Dev Cert.Kernel31Ideal.nD) → Buf (Elt Ideal) ((c.tc : Thread Cert.Kernel31Ideal.nD Cert.Kernel31Ideal.τ).loc Cert.Kernel31Ideal.main_v1_1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1_0) = v0 c
          ∧ r.2.mem ((c.tc : Thread Cert.Kernel31Ideal.nD Cert.Kernel31Ideal.τ).loc Cert.Kernel31Ideal.main_v1_1) = v1 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v36) = v0 c
          ∧ r.2.mem ((c.tc : Thread Cert.Reference31Ideal.nD Cert.Reference31Ideal.τ).loc Cert.Reference31Ideal.main_v37) = v1 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)
      ∧ m' ((c.tc : Thread Cert.Reference32Ideal.nD Cert.Reference32Ideal.τ).loc Cert.Reference32Ideal.main_arg5) = m ((c.tc : Thread Cert.Kernel32Ideal.nD Cert.Kernel32Ideal.τ).loc Cert.Kernel32Ideal.main_arg5)) →
    ∃ (v0 : (c : Dev Cert.Kernel32Ideal.nD) → Buf (Elt Ideal) ((c.tc : Thread Cert.Kernel32Ideal.nD Cert.Kernel32Ideal.τ).loc Cert.Kernel32Ideal.main_v2_0)) (v1 : (c : Dev Cert.Kernel32Ideal.nD) → Buf (Elt Ideal) ((c.tc : Thread Cert.Kernel32Ideal.nD Cert.Kernel32Ideal.τ).loc Cert.Kernel32Ideal.main_v2_1)) (v2 : (c : Dev Cert.Kernel32Ideal.nD) → Buf (Elt Ideal) ((c.tc : Thread Cert.Kernel32Ideal.nD Cert.Kernel32Ideal.τ).loc Cert.Kernel32Ideal.main_v2_2)) (v3 : (c : Dev Cert.Kernel32Ideal.nD) → Buf (Elt Ideal) ((c.tc : Thread Cert.Kernel32Ideal.nD Cert.Kernel32Ideal.τ).loc Cert.Kernel32Ideal.main_v2_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v2_0) = v0 c
          ∧ r.2.mem ((c.tc : Thread Cert.Kernel32Ideal.nD Cert.Kernel32Ideal.τ).loc Cert.Kernel32Ideal.main_v2_1) = v1 c
          ∧ r.2.mem ((c.tc : Thread Cert.Kernel32Ideal.nD Cert.Kernel32Ideal.τ).loc Cert.Kernel32Ideal.main_v2_2) = v2 c
          ∧ r.2.mem ((c.tc : Thread Cert.Kernel32Ideal.nD Cert.Kernel32Ideal.τ).loc Cert.Kernel32Ideal.main_v2_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
          ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v36) = v0 c
          ∧ r.2.mem ((c.tc : Thread Cert.Reference32Ideal.nD Cert.Reference32Ideal.τ).loc Cert.Reference32Ideal.main_v73) = v1 c
          ∧ r.2.mem ((c.tc : Thread Cert.Reference32Ideal.nD Cert.Reference32Ideal.τ).loc Cert.Reference32Ideal.main_v74) = v2 c
          ∧ r.2.mem ((c.tc : Thread Cert.Reference32Ideal.nD Cert.Reference32Ideal.τ).loc Cert.Reference32Ideal.main_v75) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4)
          ∧ r.2.mem ((c.tc : Thread Cert.Reference32Ideal.nD Cert.Reference32Ideal.τ).loc Cert.Reference32Ideal.main_arg5) = m' ((c.tc : Thread Cert.Reference32Ideal.nD Cert.Reference32Ideal.τ).loc Cert.Reference32Ideal.main_arg5))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v15) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hPre_finite : Cert.Pre_finite.Facts) (hPre_finite_scores : Cert.Pre_finite_scores.Facts),
    quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite_scores (hKernel10Ideal := hKernel10Ideal) (hPre_finite_scores := hPre_finite_scores)
    ∧ quiescent_Reference10Ideal (hReference10Ideal := hReference10Ideal)
    ∧ quiescent_Reference10Ideal_pre_finite_scores (hReference10Ideal := hReference10Ideal) (hPre_finite_scores := hPre_finite_scores)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite_scores (hKernel10Ideal := hKernel10Ideal) (hReference10Ideal := hReference10Ideal) (hPre_finite_scores := hPre_finite_scores)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
-- ==== Pre_finite.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn {F : FTy → Type} [FloatOps F] (main_arg0 : FVec F S8192x1024 .bf16) (main_arg1 : FVec F S2816x1024 .bf16) (main_arg2 : FVec F S8192x2816 .bf16) (main_arg3 : FVec F S8192x2816 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : FVec F S8192x2816 .f32 := (extf .f32 · bitsLt_bf16_f32) main_arg3
  let main_v11 : FVec F S8192x2816 .f32 := Host.absf main_v10
  let main_cst_2 : FVec F S_ .f32 := constant S_ .f32 0x7F800000#32
  let main_v12 : FVec F S8192x2816 .f32 := broadcastInDim S8192x2816 ![] bcast_S_S8192x2816 main_cst_2
  let main_v13 : IVec S8192x2816 1 := cmpf .olt main_v11 main_v12
  let main_c_3 : IVec S_ 1 := constantI S_ 1 1#1
  let main_v14 : IVec S_ 1 := (fun x v => Host.reduce IntOp.andi x v reducesTo_S8192x2816_S_d0_1 h_S_) main_v13 main_c_3
  let main_v15 : IVec S_ 1 := andi main_v4 main_v9
  let main_v16 : IVec S_ 1 := andi main_v15 main_v14
  main_v16
-- ==== Pre_finite_scores.lean ====
abbrev S8192x3072 : Shape := ⟨2, ![8192, 3072]⟩
abbrev S8x513 : Shape := ⟨2, ![8, 513]⟩
abbrev S8192x1024 : Shape := ⟨2, ![8192, 1024]⟩
abbrev S_ : Shape := ⟨0, ![]⟩

class Facts : Prop where
  slices_S8192x3072_S8192x1024_0_0 : S8192x3072.Slices ![0, 0] S8192x1024
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8x513 : S_.BroadcastsInDim S8x513 (![] : Fin 0 → Fin S8x513.rank)
  reducesTo_S8x513_S_d0_1 : S8x513.ReducesTo [0, 1] S_

variable [Facts]

def fn {F : FTy → Type} [FloatOps F] (main_arg0 : FVec F S8192x3072 .bf16) (main_arg1 : FVec F S8x513 .f32) : IVec S_ 1 :=
  let main_v0 : FVec F S8192x1024 .bf16 := (extractStridedSlice S8192x1024 ![0, 0] · slices_S8192x3072_S8192x1024_0_0) main_arg0
  let main_v1 : FVec F S8192x1024 .f32 := (extf .f32 · bitsLt_bf16_f32) main_v0
  let main_v2 : FVec F S8192x1024 .f32 := Host.absf main_v1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_c : IVec S_ 1 := constantI S_ 1 1#1
  let main_v5 : IVec S_ 1 := (fun x v => Host.reduce IntOp.andi x v reducesTo_S8192x1024_S_d0_1 h_S_) main_v4 main_c
  let main_v6 : FVec F S8x513 .f32 := Host.absf main_arg1
  let main_cst_0 : FVec F S_ .f32 := constant S_ .f32 0x7F800000#32
  let main_v7 : FVec F S8x513 .f32 := broadcastInDim S8x513 ![] bcast_S_S8x513 main_cst_0
  let main_v8 : IVec S8x513 1 := cmpf .olt main_v6 main_v7
  let main_c_1 : IVec S_ 1 := constantI S_ 1 1#1
  let main_v9 : IVec S_ 1 := (fun x v => Host.reduce IntOp.andi x v reducesTo_S8x513_S_d0_1 h_S_) main_v8 main_c_1
  let main_v10 : IVec S_ 1 := andi main_v5 main_v9
  main_v10
-- ==== Kernel2.lean ====
abbrev S8192x1024 : Shape := ⟨2, ![8192, 1024]⟩
abbrev S2816x1024 : Shape := ⟨2, ![2816, 1024]⟩
abbrev S8192x2816 : Shape := ⟨2, ![8192, 2816]⟩
abbrev S1x4x704x1024 : Shape := ⟨4, ![1, 4, 704, 1024]⟩
abbrev S8192x4x704 : Shape := ⟨3, ![8192, 4, 704]⟩
abbrev S4x8192x704 : Shape := ⟨3, ![4, 8192, 704]⟩
abbrev S1024x1024 : Shape := ⟨2, ![1024, 1024]⟩
abbrev S1x1x704x1024 : Shape := ⟨4, ![1, 1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 11
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S1x4x704x1024, .bf16⟩
  | .hbm, ⟨5, _⟩ => ⟨S8192x4x704, .bf16⟩
  | .hbm, ⟨6, _⟩ => ⟨S4x8192x704, .bf16⟩
  | .hbm, ⟨7, _⟩ => ⟨S8192x4x704, .bf16⟩
  | .hbm, ⟨8, _⟩ => ⟨S4x8192x704, .bf16⟩
  | .hbm, ⟨9, _⟩ => ⟨S4x8192x704, .bf16⟩
  | .hbm, ⟨10, _⟩ => ⟨S4x8192x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩
abbrev S8192x4x704 : Shape := ⟨3, ![8192, 4, 704]⟩
abbrev S4x8192x704 : Shape := ⟨3, ![4, 8192, 704]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S2816x1024, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .bf16⟩
  | .hbm, ⟨31, _⟩ => ⟨S8192x4x704, .bf16⟩
  | .hbm, ⟨32, _⟩ => ⟨S4x8192x704, .bf16⟩
  | .hbm, ⟨33, _⟩ => ⟨S8192x2816, .bf16⟩
  | .hbm, ⟨34, _⟩ => ⟨S8192x4x704, .bf16⟩
  | .hbm, ⟨35, _⟩ => ⟨S4x8192x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩

abbrev nD : Nat := 1
abbrev τ : Topo := Topo.v7x

variable {F : FTy → Type} [FloatOps F]
-- ==== Kernel3.lean ====
abbrev S8192x2816 : Shape := ⟨2, ![8192, 2816]⟩
abbrev S1024x2816 : Shape := ⟨2, ![1024, 2816]⟩
abbrev S2816x1024 : Shape := ⟨2, ![2816, 1024]⟩
abbrev S1x4x704x1024 : Shape := ⟨4, ![1, 4, 704, 1024]⟩
abbrev S8192x4x704 : Shape := ⟨3, ![8192, 4, 704]⟩
abbrev S4x8192x704 : Shape := ⟨3, ![4, 8192, 704]⟩
abbrev S8192x1024 : Shape := ⟨2, ![8192, 1024]⟩
abbrev S1x512x704 : Shape := ⟨3, ![1, 512, 704]⟩
abbrev S1x1x704x1024 : Shape := ⟨4, ![1, 1, 704, 1024]⟩
abbrev S512x1024 : Shape := ⟨2, ![512, 1024]⟩
abbrev S512x704 : Shape := ⟨2, ![512, 704]⟩
abbrev S704x1024 : Shape := ⟨2, ![704, 1024]⟩

abbrev nBuf : Space → Nat
  | .hbm => 13
  | .vmem => 26
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1x4x704x1024, .bf16⟩
  | .hbm, ⟨6, _⟩ => ⟨S2816x1024, .bf16⟩
  | .hbm, ⟨7, _⟩ => ⟨S1x4x704x1024, .bf16⟩
  | .hbm, ⟨8, _⟩ => ⟨S8192x4x704, .bf16⟩
  | .hbm, ⟨9, _⟩ => ⟨S4x8192x704, .bf16⟩
  | .hbm, ⟨10, _⟩ => ⟨S8192x4x704, .bf16⟩
  | .hbm, ⟨11, _⟩ => ⟨S4x8192x704, .bf16⟩
  | .hbm, ⟨12, _⟩ => ⟨S8192x1024, .f32⟩
  | .local _ .vmem, ⟨0, _⟩ => ⟨S1x512x704, .bf16⟩
  | .local _ .vmem, ⟨1, _⟩ => ⟨S1x512x704, .bf16⟩
  | .local _ .vmem, ⟨2, _⟩ => ⟨S1x1x704x1024, .bf16⟩
  | .local _ .vmem, ⟨3, _⟩ => ⟨S1x512x704, .bf16⟩
  | .local _ .vmem, ⟨4, _⟩ => ⟨S1x512x704, .bf16⟩
  | .local _ .vmem, ⟨5, _⟩ => ⟨S1x1x704x1024, .bf16⟩
  | .local _ .vmem, ⟨6, _⟩ => ⟨S1x512x704, .bf16⟩
  | .local _ .vmem, ⟨7, _⟩ => ⟨S1x512x704, .bf16⟩
  | .local _ .vmem, ⟨8, _⟩ => ⟨S1x1x704x1024, .bf16⟩
  | .local _ .vmem, ⟨9, _⟩ => ⟨S1x512x704, .bf16⟩
  | .local _ .vmem, ⟨10, _⟩ => ⟨S1x512x704, .bf16⟩
  | .local _ .vmem, ⟨11, _⟩ => ⟨S1x1x704x1024, .bf16⟩
  | .local _ .vmem, ⟨12, _⟩ => ⟨S1x512x704, .bf16⟩
  | .local _ .vmem, ⟨13, _⟩ => ⟨S1x512x704, .bf16⟩
  | .local _ .vmem, ⟨14, _⟩ => ⟨S1x1x704x1024, .bf16⟩
  | .local _ .vmem, ⟨15, _⟩ => ⟨S1x512x704, .bf16⟩
  | .local _ .vmem, ⟨16, _⟩ => ⟨S1x512x704, .bf16⟩
  | .local _ .vmem, ⟨17, _⟩ => ⟨S1x1x704x1024, .bf16⟩
  | .local _ .vmem, ⟨18, _⟩ => ⟨S1x512x704, .bf16⟩
  | .local _ .vmem, ⟨19, _⟩ => ⟨S1x512x704, .bf16⟩
  | .local _ .vmem, ⟨20, _⟩ => ⟨S1x1x704x1024, .bf16⟩
  | .local _ .vmem, ⟨21, _⟩ => ⟨S1x512x704, .bf16⟩
  | .local _ .vmem, ⟨22, _⟩ => ⟨S1x512x704, .bf16⟩
  | .local _ .vmem, ⟨23, _⟩ => ⟨S1x1x704x1024, .bf16⟩
  | .local _ .vmem, ⟨24, _⟩ => ⟨S512x1024, .f32⟩
  | .local _ .vmem, ⟨25, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, arg0.toNat, c0_i32.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, c3_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, arg0.toNat, c0_i32.toNat]

def cc0_transform_15 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, c3_i32.toNat, c0_i32_0.toNat, c0_i32_1.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 1 → Memref sig .tc .vmem S1x1x704x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 1 → Memref sig .tc .vmem S1x1x704x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S1x512x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]

abbrev stage0_13 : Fin 1 → Memref sig .tc .vmem S1x1x704x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 2 → Memref sig .tc .vmem S1x512x704 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false, false]

abbrev stage0_15 : Fin 1 → Memref sig .tc .vmem S1x1x704x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false, false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false, false]
-- ==== Reference3Ideal.lean ====
abbrev S8192x2816 : Shape := ⟨2, ![8192, 2816]⟩
abbrev S1024x2816 : Shape := ⟨2, ![1024, 2816]⟩
abbrev S_ : Shape := ⟨0, ![]⟩
abbrev S8192x1024 : Shape := ⟨2, ![8192, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x2816, .bf16⟩
  | .hbm, ⟨3, _⟩ => ⟨S1024x2816, .bf16⟩
  | .hbm, ⟨4, _⟩ => ⟨S_, .f32⟩
  | .hbm, ⟨5, _⟩ => ⟨S8192x1024, .f32⟩
  | .hbm, ⟨6, _⟩ => ⟨S1024x2816, .f32⟩
  | .hbm, ⟨7, _⟩ => ⟨S8192x2816, .f32⟩
  | .hbm, ⟨8, _⟩ => ⟨S1024x2816, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S8192x1024, .f32⟩
  | .hbm, ⟨13, _⟩ => ⟨S8192x1024, .f32⟩
  | .hbm, ⟨14, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel4.lean ====
abbrev S8192x1024 : Shape := ⟨2, ![8192, 1024]⟩
abbrev S8192x2816 : Shape := ⟨2, ![8192, 2816]⟩
abbrev S8192x4x704 : Shape := ⟨3, ![8192, 4, 704]⟩
abbrev S4x8192x704 : Shape := ⟨3, ![4, 8192, 704]⟩
abbrev S1x4x704x1024 : Shape := ⟨4, ![1, 4, 704, 1024]⟩
abbrev S2048x1024 : Shape := ⟨2, ![2048, 1024]⟩
abbrev S1x2048x704 : Shape := ⟨3, ![1, 2048, 704]⟩
abbrev S1x1x704x1024 : Shape := ⟨4, ![1, 1, 704, 1024]⟩
abbrev S704x1024 : Shape := ⟨2, ![704, 1024]⟩
abbrev S2048x704 : Shape := ⟨2, ![2048, 704]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S8192x4x704, .bf16⟩
  | .hbm, ⟨4, _⟩ => ⟨S4x8192x704, .bf16⟩
  | .hbm, ⟨5, _⟩ => ⟨S8192x4x704, .bf16⟩
  | .hbm, ⟨6, _⟩ => ⟨S4x8192x704, .bf16⟩
  | .hbm, ⟨7, _⟩ => ⟨S1x4x704x1024, .f32⟩
  | .hbm, ⟨8, _⟩ => ⟨S1x4x704x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x1x704x1024, .f32⟩
  | .local _ .vmem, ⟨7, _⟩ => ⟨S1x1x704x1024, .f32⟩
  | .local _ .vmem, ⟨8, _⟩ => ⟨S1x1x704x1024, .f32⟩
  | .local _ .vmem, ⟨9, _⟩ => ⟨S1x1x704x1024, .f32⟩
  | .local _ .vmem, ⟨10, _⟩ => ⟨S704x1024, .f32⟩
  | .local _ .vmem, ⟨11, _⟩ => ⟨S704x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x704x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩
abbrev S1x4x704x1024 : Shape := ⟨4, ![1, 4, 704, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S_, .f32⟩
  | .hbm, ⟨4, _⟩ => ⟨S1024x2816, .f32⟩
  | .hbm, ⟨5, _⟩ => ⟨S8192x1024, .f32⟩
  | .hbm, ⟨6, _⟩ => ⟨S8192x2816, .f32⟩
  | .hbm, ⟨7, _⟩ => ⟨S8192x1024, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S2816x1024, .f32⟩
  | .hbm, ⟨12, _⟩ => ⟨S1024x2816, .f32⟩
  | .hbm, ⟨13, _⟩ => ⟨S2816x1024, .f32⟩
  | .hbm, ⟨14, _⟩ => ⟨S1024x2816, .f32⟩
  | .hbm, ⟨15, _⟩ => ⟨S2816x1024, .f32⟩
  | .hbm, ⟨16, _⟩ => ⟨S1x4x704x1024, .f32⟩
  | .hbm, ⟨17, _⟩ => ⟨S2816x1024, .f32⟩
  | .hbm, ⟨18, _⟩ => ⟨S1x4x704x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S8192x4x704 : Shape := ⟨3, ![8192, 4, 704]⟩
abbrev S4x8192x704 : Shape := ⟨3, ![4, 8192, 704]⟩
abbrev S1x4x704x1024 : Shape := ⟨4, ![1, 4, 704, 1024]⟩
abbrev S1x4096x704 : Shape := ⟨3, ![1, 4096, 704]⟩
abbrev S4096x1024 : Shape := ⟨2, ![4096, 1024]⟩
abbrev S1x1x704x1024 : Shape := ⟨4, ![1, 1, 704, 1024]⟩
abbrev S704x1024 : Shape := ⟨2, ![704, 1024]⟩
abbrev S4096x704 : Shape := ⟨2, ![4096, 704]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x4x704, .bf16⟩
  | .hbm, ⟨3, _⟩ => ⟨S4x8192x704, .bf16⟩
  | .hbm, ⟨4, _⟩ => ⟨S1x4x704x1024, .f32⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S4096x1024, .bf16⟩
  | .local _ .vmem, ⟨4, _⟩ => ⟨S1x1x704x1024, .f32⟩
  | .local _ .vmem, ⟨5, _⟩ => ⟨S1x1x704x1024, .f32⟩
  | .local _ .vmem, ⟨6, _⟩ => ⟨S704x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S1x4x704x1024 : Shape := ⟨4, ![1, 4, 704, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S1x4x704x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x1024 : Shape := ⟨2, ![8192, 1024]⟩
abbrev S1024x2816 : Shape := ⟨2, ![1024, 2816]⟩
abbrev S2816x1024 : Shape := ⟨2, ![2816, 1024]⟩
abbrev S1x4x704x1024 : Shape := ⟨4, ![1, 4, 704, 1024]⟩
abbrev S4x8192x704 : Shape := ⟨3, ![4, 8192, 704]⟩
abbrev S1024x1024 : Shape := ⟨2, ![1024, 1024]⟩
abbrev S1x1x704x1024 : Shape := ⟨4, ![1, 1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 10
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S1x4x704x1024, .bf16⟩
  | .hbm, ⟨5, _⟩ => ⟨S2816x1024, .bf16⟩
  | .hbm, ⟨6, _⟩ => ⟨S1x4x704x1024, .bf16⟩
  | .hbm, ⟨7, _⟩ => ⟨S4x8192x704, .bf16⟩
  | .hbm, ⟨8, _⟩ => ⟨S4x8192x704, .bf16⟩
  | .hbm, ⟨9, _⟩ => ⟨S4x8192x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8192x1024 : Shape := ⟨2, ![8192, 1024]⟩
abbrev S1024x2816 : Shape := ⟨2, ![1024, 2816]⟩
abbrev S8192x2816 : Shape := ⟨2, ![8192, 2816]⟩
abbrev S_ : Shape := ⟨0, ![]⟩
abbrev S8192x4x704 : Shape := ⟨3, ![8192, 4, 704]⟩
abbrev S4x8192x704 : Shape := ⟨3, ![4, 8192, 704]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S8192x1024, .f32⟩
  | .hbm, ⟨4, _⟩ => ⟨S1024x2816, .f32⟩
  | .hbm, ⟨5, _⟩ => ⟨S8192x2816, .f32⟩
  | .hbm, ⟨6, _⟩ => ⟨S8192x1024, .f32⟩
  | .hbm, ⟨7, _⟩ => ⟨S1024x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .bf16⟩
  | .hbm, ⟨20, _⟩ => ⟨S8192x4x704, .bf16⟩
  | .hbm, ⟨21, _⟩ => ⟨S4x8192x704, .bf16⟩
  | .hbm, ⟨22, _⟩ => ⟨S8192x2816, .bf16⟩
  | .hbm, ⟨23, _⟩ => ⟨S8192x4x704, .bf16⟩
  | .hbm, ⟨24, _⟩ => ⟨S4x8192x704, .bf16⟩
  | .hbm, ⟨25, _⟩ => ⟨S8192x2816, .bf16⟩
  | .hbm, ⟨26, _⟩ => ⟨S8192x4x704, .bf16⟩
  | .hbm, ⟨27, _⟩ => ⟨S4x8192x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]
-- ==== Kernel7.lean ====
abbrev S8192x2816 : Shape := ⟨2, ![8192, 2816]⟩
abbrev S2816x1024 : Shape := ⟨2, ![2816, 1024]⟩
abbrev S8192x4x704 : Shape := ⟨3, ![8192, 4, 704]⟩
abbrev S4x8192x704 : Shape := ⟨3, ![4, 8192, 704]⟩
abbrev S1x4x704x1024 : Shape := ⟨4, ![1, 4, 704, 1024]⟩
abbrev S8192x1024 : Shape := ⟨2, ![8192, 1024]⟩
abbrev S1x1024x704 : Shape := ⟨3, ![1, 1024, 704]⟩
abbrev S1x1x704x1024 : Shape := ⟨4, ![1, 1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 6
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x4x704, .bf16⟩
  | .hbm, ⟨3, _⟩ => ⟨S4x8192x704, .bf16⟩
  | .hbm, ⟨4, _⟩ => ⟨S1x4x704x1024, .bf16⟩
  | .hbm, ⟨5, _⟩ => ⟨S8192x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1x704x1024, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1x704x1024, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1x704x1024, .bf16⟩
  | .local _ .vmem, ⟨12, _⟩ => ⟨S1024x1024, .f32⟩
  | .local _ .vmem, ⟨13, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, arg0.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, c3_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== Reference7Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S8192x3072 : Shape := ⟨2, ![8192, 3072]⟩
abbrev S1024x3072 : Shape := ⟨2, ![1024, 3072]⟩
abbrev S1024x4x768 : Shape := ⟨3, ![1024, 4, 768]⟩
abbrev S4x1024x768 : Shape := ⟨3, ![4, 1024, 768]⟩
abbrev S1x4x1024x768 : Shape := ⟨4, ![1, 4, 1024, 768]⟩
abbrev S8192x1024 : Shape := ⟨2, ![8192, 1024]⟩
abbrev S1024x768 : Shape := ⟨2, ![1024, 768]⟩
abbrev S1x1x1024x768 : Shape := ⟨4, ![1, 1, 1024, 768]⟩
abbrev S1024x1024 : Shape := ⟨2, ![1024, 1024]⟩

abbrev nBuf : Space → Nat
  | .hbm => 6
  | .vmem => 14
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S1024x4x768, .bf16⟩
  | .hbm, ⟨3, _⟩ => ⟨S4x1024x768, .bf16⟩
  | .hbm, ⟨4, _⟩ => ⟨S1x4x1024x768, .bf16⟩
  | .hbm, ⟨5, _⟩ => ⟨S8192x1024, .f32⟩
  | .local _ .vmem, ⟨0, _⟩ => ⟨S1024x768, .bf16⟩
  | .local _ .vmem, ⟨1, _⟩ => ⟨S1024x768, .bf16⟩
  | .local _ .vmem, ⟨2, _⟩ => ⟨S1x1x1024x768, .bf16⟩
  | .local _ .vmem, ⟨3, _⟩ => ⟨S1024x768, .bf16⟩
  | .local _ .vmem, ⟨4, _⟩ => ⟨S1024x768, .bf16⟩
  | .local _ .vmem, ⟨5, _⟩ => ⟨S1x1x1024x768, .bf16⟩
  | .local _ .vmem, ⟨6, _⟩ => ⟨S1024x768, .bf16⟩
  | .local _ .vmem, ⟨7, _⟩ => ⟨S1024x768, .bf16⟩
  | .local _ .vmem, ⟨8, _⟩ => ⟨S1x1x1024x768, .bf16⟩
  | .local _ .vmem, ⟨9, _⟩ => ⟨S1024x768, .bf16⟩
  | .local _ .vmem, ⟨10, _⟩ => ⟨S1024x768, .bf16⟩
  | .local _ .vmem, ⟨11, _⟩ => ⟨S1x1x1024x768, .bf16⟩
  | .local _ .vmem, ⟨12, _⟩ => ⟨S1024x1024, .f32⟩
  | .local _ .vmem, ⟨13, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, c2_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg0.toNat, c3_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, c3_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1x1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1x1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1x1024x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== Reference8Ideal.lean ====
abbrev S8192x3072 : Shape := ⟨2, ![8192, 3072]⟩
abbrev S1024x3072 : Shape := ⟨2, ![1024, 3072]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S_, .f32⟩
  | .hbm, ⟨3, _⟩ => ⟨S8192x1024, .f32⟩
  | .hbm, ⟨4, _⟩ => ⟨S1024x3072, .f32⟩
  | .hbm, ⟨5, _⟩ => ⟨S8192x3072, .f32⟩
  | .hbm, ⟨6, _⟩ => ⟨S8192x3072, .f32⟩
  | .hbm, ⟨7, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x1024 : Shape := ⟨2, ![8192, 1024]⟩
abbrev S8192x3072 : Shape := ⟨2, ![8192, 3072]⟩
abbrev S1x4x1024x768 : Shape := ⟨4, ![1, 4, 1024, 768]⟩
abbrev S4096x1024 : Shape := ⟨2, ![4096, 1024]⟩
abbrev S4096x768 : Shape := ⟨2, ![4096, 768]⟩
abbrev S1x1x1024x768 : Shape := ⟨4, ![1, 1, 1024, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1x4x1024x768, .f32⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S1x1x1024x768, .f32⟩
  | .local _ .vmem, ⟨5, _⟩ => ⟨S1x1x1024x768, .f32⟩
  | .local _ .vmem, ⟨6, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference9Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩
abbrev S1024x4x768 : Shape := ⟨3, ![1024, 4, 768]⟩
abbrev S4x1024x768 : Shape := ⟨3, ![4, 1024, 768]⟩
abbrev S1x4x1024x768 : Shape := ⟨4, ![1, 4, 1024, 768]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x4x768, .f32⟩
  | .hbm, ⟨10, _⟩ => ⟨S4x1024x768, .f32⟩
  | .hbm, ⟨11, _⟩ => ⟨S1x4x1024x768, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel10.lean ====
abbrev S8192x3072 : Shape := ⟨2, ![8192, 3072]⟩
abbrev S8x513 : Shape := ⟨2, ![8, 513]⟩
abbrev S8192x512 : Shape := ⟨2, ![8192, 512]⟩
abbrev S_ : Shape := ⟨0, ![]⟩
abbrev S8704x512 : Shape := ⟨2, ![8704, 512]⟩
abbrev S8x1 : Shape := ⟨2, ![8, 1]⟩
abbrev S8x383 : Shape := ⟨2, ![8, 383]⟩
abbrev S8x385 : Shape := ⟨2, ![8, 385]⟩
abbrev S8x768 : Shape := ⟨2, ![8, 768]⟩
abbrev S8x1x768 : Shape := ⟨3, ![8, 1, 768]⟩
abbrev S8x128x768 : Shape := ⟨3, ![8, 128, 768]⟩
abbrev S8x98304 : Shape := ⟨2, ![8, 98304]⟩
abbrev S8x98176 : Shape := ⟨2, ![8, 98176]⟩
abbrev S8x128x767 : Shape := ⟨3, ![8, 128, 767]⟩
abbrev S8x128x640 : Shape := ⟨3, ![8, 128, 640]⟩
abbrev S2048x128 : Shape := ⟨2, ![2048, 128]⟩
abbrev S8704x128 : Shape := ⟨2, ![8704, 128]⟩
abbrev S2x128x640 : Shape := ⟨3, ![2, 128, 640]⟩
abbrev S128x640 : Shape := ⟨2, ![128, 640]⟩
abbrev S640x128 : Shape := ⟨2, ![640, 128]⟩
abbrev S128x128 : Shape := ⟨2, ![128, 128]⟩
abbrev S1x128x640 : Shape := ⟨3, ![1, 128, 640]⟩
abbrev S128 : Shape := ⟨1, ![128]⟩
abbrev S128x1 : Shape := ⟨2, ![128, 1]⟩

abbrev nBuf : Space → Nat
  | .hbm => 22
  | .vmem => 10
  | .smem => 0
  | _ => 0

abbrev bufTy : (tb : Table) → Fin (tcTables nBuf tb) → BufTy
  | .hbm, ⟨0, _⟩ => ⟨S8192x3072, .bf16⟩
  | .hbm, ⟨1, _⟩ => ⟨S8x513, .f32⟩
  | .hbm, ⟨2, _⟩ => ⟨S8192x512, .bf16⟩
  | .hbm, ⟨3, _⟩ => ⟨S_, .i32⟩
  | .hbm, ⟨4, _⟩ => ⟨S_, .bf16⟩
  | .hbm, ⟨5, _⟩ => ⟨S8704x512, .bf16⟩
  | .hbm, ⟨6, _⟩ => ⟨S8192x512, .bf16⟩
  | .hbm, ⟨7, _⟩ => ⟨S_, .i32⟩
  | .hbm, ⟨8, _⟩ => ⟨S_, .bf16⟩
  | .hbm, ⟨9, _⟩ => ⟨S8704x512, .bf16⟩
  | .hbm, ⟨10, _⟩ => ⟨S8x1, .f32⟩
  | .hbm, ⟨11, _⟩ => ⟨S8x383, .f32⟩
  | .hbm, ⟨12, _⟩ => ⟨S8x385, .f32⟩
  | .hbm, ⟨13, _⟩ => ⟨S8x385, .f32⟩
  | .hbm, ⟨14, _⟩ => ⟨S8x768, .f32⟩
  | .hbm, ⟨15, _⟩ => ⟨S8x1x768, .f32⟩
  | .hbm, ⟨16, _⟩ => ⟨S8x128x768, .f32⟩
  | .hbm, ⟨17, _⟩ => ⟨S8x98304, .f32⟩
  | .hbm, ⟨18, _⟩ => ⟨S8x98176, .f32⟩
  | .hbm, ⟨19, _⟩ => ⟨S8x128x767, .f32⟩
  | .hbm, ⟨20, _⟩ => ⟨S8x128x640, .f32⟩
  | .hbm, ⟨21, _⟩ => ⟨S8192x512, .bf16⟩
  | .local _ .vmem, ⟨0, _⟩ => ⟨S2048x128, .bf16⟩
  | .local _ .vmem, ⟨1, _⟩ => ⟨S2048x128, .bf16⟩
  | .local _ .vmem, ⟨2, _⟩ => ⟨S8704x128, .bf16⟩
  | .local _ .vmem, ⟨3, _⟩ => ⟨S8704x128, .bf16⟩
  | .local _ .vmem, ⟨4, _⟩ => ⟨S8704x128, .bf16⟩
  | .local _ .vmem, ⟨5, _⟩ => ⟨S8704x128, .bf16⟩
  | .local _ .vmem, ⟨6, _⟩ => ⟨S2x128x640, .f32⟩
  | .local _ .vmem, ⟨7, _⟩ => ⟨S2x128x640, .f32⟩
  | .local _ .vmem, ⟨8, _⟩ => ⟨S2048x128, .bf16⟩
  | .local _ .vmem, ⟨9, _⟩ => ⟨S2048x128, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c16_i32 : BitVec 32 := 16#32
  let v0 : BitVec 32 := Scalar.muli arg1 c16_i32
  let c0_i32 : BitVec 32 := 0#32
  let v1 : BitVec 32 := Scalar.addi v0 c0_i32
  let c128_i32 : BitVec 32 := 128#32
  let v2 : BitVec 32 := Scalar.muli v1 c128_i32
  v2
def k0_off1 (i : grid0.Coords) (c0_i32 : BitVec 32) : Fin 2 → Nat :=
  let arg1 : BitVec 32 := BitVec.ofNat 32 (i 1).val
  let c16_i32 : BitVec 32 := 16#32
  let v0 : BitVec 32 := Scalar.muli arg1 c16_i32
  let v1 : BitVec 32 := Scalar.addi v0 c0_i32
  let c128_i32 : BitVec 32 := 128#32
  let v2 : BitVec 32 := Scalar.muli v1 c128_i32
  let v3 : BitVec 32 := v2
  let v64 : Index := Scalar.indexCast v3
  let c0 : Index := 0#32
  ![v64.toNat, 0]
def k0_mult2 (i : grid0.Coords) : BitVec 32 :=
  let arg1 : BitVec 32 := BitVec.ofNat 32 (i 1).val
  let c16_i32_44 : BitVec 32 := 16#32
  let v140 : BitVec 32 := Scalar.muli arg1 c16_i32_44
  let c1_i32_45 : BitVec 32 := 1#32
  let v141 : BitVec 32 := Scalar.addi v140 c1_i32_45
  let c128_i32_46 : BitVec 32 := 128#32
  let v142 : BitVec 32 := Scalar.muli v141 c128_i32_46
  v142
def k0_mult3 (i : grid0.Coords) : BitVec 32 :=
  let arg1 : BitVec 32 := BitVec.ofNat 32 (i 1).val
  let c16_i32_97 : BitVec 32 := 16#32
  let v280 : BitVec 32 := Scalar.muli arg1 c16_i32_97
  let c2_i32 : BitVec 32 := 2#32
  let v281 : BitVec 32 := Scalar.addi v280 c2_i32
  let c128_i32_98 : BitVec 32 := 128#32
  let v282 : BitVec 32 := Scalar.muli v281 c128_i32_98
  v282
def k0_mult4 (i : grid0.Coords) : BitVec 32 :=
  let arg1 : BitVec 32 := BitVec.ofNat 32 (i 1).val
  let c16_i32_149 : BitVec 32 := 16#32
  let v420 : BitVec 32 := Scalar.muli arg1 c16_i32_149
  let c3_i32 : BitVec 32 := 3#32
  let v421 : BitVec 32 := Scalar.addi v420 c3_i32
  let c128_i32_150 : BitVec 32 := 128#32
  let v422 : BitVec 32 := Scalar.muli v421 c128_i32_150
  v422
def k0_mult5 (i : grid0.Coords) : BitVec 32 :=
  let arg1 : BitVec 32 := BitVec.ofNat 32 (i 1).val
  let c16_i32_201 : BitVec 32 := 16#32
  let v560 : BitVec 32 := Scalar.muli arg1 c16_i32_201
  let c4_i32 : BitVec 32 := 4#32
  let v561 : BitVec 32 := Scalar.addi v560 c4_i32
  let c128_i32_202 : BitVec 32 := 128#32
  let v562 : BitVec 32 := Scalar.muli v561 c128_i32_202
  v562
def k0_mult6 (i : grid0.Coords) : BitVec 32 :=
  let arg1 : BitVec 32 := BitVec.ofNat 32 (i 1).val
  let c16_i32_253 : BitVec 32 := 16#32
  let v700 : BitVec 32 := Scalar.muli arg1 c16_i32_253
  let c5_i32 : BitVec 32 := 5#32
  let v701 : BitVec 32 := Scalar.addi v700 c5_i32
  let c128_i32_254 : BitVec 32 := 128#32
  let v702 : BitVec 32 := Scalar.muli v701 c128_i32_254
  v702
def k0_mult7 (i : grid0.Coords) : BitVec 32 :=
  let arg1 : BitVec 32 := BitVec.ofNat 32 (i 1).val
  let c16_i32_305 : BitVec 32 := 16#32
  let v840 : BitVec 32 := Scalar.muli arg1 c16_i32_305
  let c6_i32 : BitVec 32 := 6#32
  let v841 : BitVec 32 := Scalar.addi v840 c6_i32
  let c128_i32_306 : BitVec 32 := 128#32
  let v842 : BitVec 32 := Scalar.muli v841 c128_i32_306
  v842
def k0_mult8 (i : grid0.Coords) : BitVec 32 :=
  let arg1 : BitVec 32 := BitVec.ofNat 32 (i 1).val
  let c16_i32_357 : BitVec 32 := 16#32
  let v980 : BitVec 32 := Scalar.muli arg1 c16_i32_357
  let c7_i32 : BitVec 32 := 7#32
  let v981 : BitVec 32 := Scalar.addi v980 c7_i32
  let c128_i32_358 : BitVec 32 := 128#32
  let v982 : BitVec 32 := Scalar.muli v981 c128_i32_358
  v982
def k0_mult9 (i : grid0.Coords) : BitVec 32 :=
  let arg1 : BitVec 32 := BitVec.ofNat 32 (i 1).val
  let c16_i32_409 : BitVec 32 := 16#32
  let v1120 : BitVec 32 := Scalar.muli arg1 c16_i32_409
  let c8_i32_410 : BitVec 32 := 8#32
  let v1121 : BitVec 32 := Scalar.addi v1120 c8_i32_410
  let c128_i32_411 : BitVec 32 := 128#32
  let v1122 : BitVec 32 := Scalar.muli v1121 c128_i32_411
  v1122
def k0_mult10 (i : grid0.Coords) : BitVec 32 :=
  let arg1 : BitVec 32 := BitVec.ofNat 32 (i 1).val
  let c16_i32_462 : BitVec 32 := 16#32
  let v1260 : BitVec 32 := Scalar.muli arg1 c16_i32_462
  let c9_i32 : BitVec 32 := 9#32
  let v1261 : BitVec 32 := Scalar.addi v1260 c9_i32
  let c128_i32_463 : BitVec 32 := 128#32
  let v1262 : BitVec 32 := Scalar.muli v1261 c128_i32_463
  v1262
def k0_mult11 (i : grid0.Coords) : BitVec 32 :=
  let arg1 : BitVec 32 := BitVec.ofNat 32 (i 1).val
  let c16_i32_514 : BitVec 32 := 16#32
  let v1400 : BitVec 32 := Scalar.muli arg1 c16_i32_514
  let c10_i32 : BitVec 32 := 10#32
  let v1401 : BitVec 32 := Scalar.addi v1400 c10_i32
  let c128_i32_515 : BitVec 32 := 128#32
  let v1402 : BitVec 32 := Scalar.muli v1401 c128_i32_515
  v1402
def k0_mult12 (i : grid0.Coords) : BitVec 32 :=
  let arg1 : BitVec 32 := BitVec.ofNat 32 (i 1).val
  let c16_i32_566 : BitVec 32 := 16#32
  let v1540 : BitVec 32 := Scalar.muli arg1 c16_i32_566
  let c11_i32 : BitVec 32 := 11#32
  let v1541 : BitVec 32 := Scalar.addi v1540 c11_i32
  let c128_i32_567 : BitVec 32 := 128#32
  let v1542 : BitVec 32 := Scalar.muli v1541 c128_i32_567
  v1542
def k0_mult13 (i : grid0.Coords) : BitVec 32 :=
  let arg1 : BitVec 32 := BitVec.ofNat 32 (i 1).val
  let c16_i32_618 : BitVec 32 := 16#32
  let v1680 : BitVec 32 := Scalar.muli arg1 c16_i32_618
  let c12_i32 : BitVec 32 := 12#32
  let v1681 : BitVec 32 := Scalar.addi v1680 c12_i32
  let c128_i32_619 : BitVec 32 := 128#32
  let v1682 : BitVec 32 := Scalar.muli v1681 c128_i32_619
  v1682
def k0_mult14 (i : grid0.Coords) : BitVec 32 :=
  let arg1 : BitVec 32 := BitVec.ofNat 32 (i 1).val
  let c16_i32_670 : BitVec 32 := 16#32
  let v1820 : BitVec 32 := Scalar.muli arg1 c16_i32_670
  let c13_i32 : BitVec 32 := 13#32
  let v1821 : BitVec 32 := Scalar.addi v1820 c13_i32
  let c128_i32_671 : BitVec 32 := 128#32
  let v1822 : BitVec 32 := Scalar.muli v1821 c128_i32_671
  v1822
def k0_mult15 (i : grid0.Coords) : BitVec 32 :=
  let arg1 : BitVec 32 := BitVec.ofNat 32 (i 1).val
  let c16_i32_722 : BitVec 32 := 16#32
  let v1960 : BitVec 32 := Scalar.muli arg1 c16_i32_722
  let c14_i32 : BitVec 32 := 14#32
  let v1961 : BitVec 32 := Scalar.addi v1960 c14_i32
  let c128_i32_723 : BitVec 32 := 128#32
  let v1962 : BitVec 32 := Scalar.muli v1961 c128_i32_723
  v1962
def k0_mult16 (i : grid0.Coords) : BitVec 32 :=
  let arg1 : BitVec 32 := BitVec.ofNat 32 (i 1).val
  let c16_i32_774 : BitVec 32 := 16#32
  let v2100 : BitVec 32 := Scalar.muli arg1 c16_i32_774
  let c15_i32 : BitVec 32 := 15#32
  let v2101 : BitVec 32 := Scalar.addi v2100 c15_i32
  let c128_i32_775 : BitVec 32 := 128#32
  let v2102 : BitVec 32 := Scalar.muli v2101 c128_i32_775
  v2102
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8704x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8704x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x128x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel10Ideal.lean ====
variable {F : FTy → Type} [FloatOps F] [Named F]
def κ : String → Option EReal := fun
  | "mask" => some ⊥
  | _ => none
-- ==== Reference10Ideal.lean ====
abbrev S8192x3072 : Shape := ⟨2, ![8192, 3072]⟩
abbrev S8x513 : Shape := ⟨2, ![8, 513]⟩
abbrev S8192x1536 : Shape := ⟨2, ![8192, 1536]⟩
abbrev S8192x512 : Shape := ⟨2, ![8192, 512]⟩
abbrev S8192x8x64 : Shape := ⟨3, ![8192, 8, 64]⟩
abbrev S8192 : Shape := ⟨1, ![8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S8x8192x8192 : Shape := ⟨3, ![8, 8192, 8192]⟩
abbrev S8192x8192x1 : Shape := ⟨3, ![8192, 8192, 1]⟩
abbrev S8x8192 : Shape := ⟨2, ![8, 8192]⟩
abbrev S8x8192x1 : Shape := ⟨3, ![8, 8192, 1]⟩
abbrev S8x64x8192 : Shape := ⟨3, ![8, 64, 8192]⟩

abbrev nBuf : Space → Nat
  | .hbm => 83
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8x513, .f32⟩
  | .hbm, ⟨2, _⟩ => ⟨S8192x1536, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .f32⟩
  | .hbm, ⟨7, _⟩ => ⟨S8192x8x64, .f32⟩
  | .hbm, ⟨8, _⟩ => ⟨S8192x512, .f32⟩
  | .hbm, ⟨9, _⟩ => ⟨S8192x8x64, .f32⟩
  | .hbm, ⟨10, _⟩ => ⟨S8192x512, .f32⟩
  | .hbm, ⟨11, _⟩ => ⟨S8192x8x64, .f32⟩
  | .hbm, ⟨12, _⟩ => ⟨S8192, .i32⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S8192x1, .i32⟩
  | .hbm, ⟨22, _⟩ => ⟨S1x8192, .i32⟩
  | .hbm, ⟨23, _⟩ => ⟨S_, .i32⟩
  | .hbm, ⟨24, _⟩ => ⟨S1x8192, .i32⟩
  | .hbm, ⟨25, _⟩ => ⟨S1x8192, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S8192x8192, .i1⟩
  | .hbm, ⟨30, _⟩ => ⟨S8x8192x8192, .f32⟩
  | .hbm, ⟨31, _⟩ => ⟨S_, .f32⟩
  | .hbm, ⟨32, _⟩ => ⟨S8x8192x8192, .f32⟩
  | .hbm, ⟨33, _⟩ => ⟨S8x8192x8192, .f32⟩
  | .hbm, ⟨34, _⟩ => ⟨S8192x1, .i32⟩
  | .hbm, ⟨35, _⟩ => ⟨S1x8192, .i32⟩
  | .hbm, ⟨36, _⟩ => ⟨S8192x8192, .i32⟩
  | .hbm, ⟨37, _⟩ => ⟨S8192x8192, .i32⟩
  | .hbm, ⟨38, _⟩ => ⟨S8192x8192, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S8192x8192, .i32⟩
  | .hbm, ⟨43, _⟩ => ⟨S8192x8192, .i32⟩
  | .hbm, ⟨44, _⟩ => ⟨S_, .i32⟩
  | .hbm, ⟨45, _⟩ => ⟨S8192x8192, .i32⟩
  | .hbm, ⟨46, _⟩ => ⟨S8192x8192, .i32⟩
  | .hbm, ⟨47, _⟩ => ⟨S_, .i32⟩
  | .hbm, ⟨48, _⟩ => ⟨S8192x8192, .i32⟩
  | .hbm, ⟨49, _⟩ => ⟨S8192x8192, .i32⟩
  | .hbm, ⟨50, _⟩ => ⟨S_, .i32⟩
  | .hbm, ⟨51, _⟩ => ⟨S8192x8192, .i32⟩
  | .hbm, ⟨52, _⟩ => ⟨S8192x8192, .i1⟩
  | .hbm, ⟨53, _⟩ => ⟨S_, .i32⟩
  | .hbm, ⟨54, _⟩ => ⟨S8192x8192, .i32⟩
  | .hbm, ⟨55, _⟩ => ⟨S8192x8192, .i32⟩
  | .hbm, ⟨56, _⟩ => ⟨S8192x8192, .i32⟩
  | .hbm, ⟨57, _⟩ => ⟨S8192x8192x1, .i32⟩
  | .hbm, ⟨58, _⟩ => ⟨S8x8192x8192, .f32⟩
  | .hbm, ⟨59, _⟩ => ⟨S8x8192x8192, .f32⟩
  | .hbm, ⟨60, _⟩ => ⟨S_, .f32⟩
  | .hbm, ⟨61, _⟩ => ⟨S_, .f32⟩
  | .hbm, ⟨62, _⟩ => ⟨S8x8192x8192, .i1⟩
  | .hbm, ⟨63, _⟩ => ⟨S8x8192x8192, .f32⟩
  | .hbm, ⟨64, _⟩ => ⟨S8x8192x8192, .f32⟩
  | .hbm, ⟨65, _⟩ => ⟨S_, .f32⟩
  | .hbm, ⟨66, _⟩ => ⟨S8x8192, .f32⟩
  | .hbm, ⟨67, _⟩ => ⟨S_, .f32⟩
  | .hbm, ⟨68, _⟩ => ⟨S8x8192, .f32⟩
  | .hbm, ⟨69, _⟩ => ⟨S8x8192, .f32⟩
  | .hbm, ⟨70, _⟩ => ⟨S8x8192x1, .f32⟩
  | .hbm, ⟨71, _⟩ => ⟨S8x8192x8192, .f32⟩
  | .hbm, ⟨72, _⟩ => ⟨S8x8192x8192, .f32⟩
  | .hbm, ⟨73, _⟩ => ⟨S8x8192x8192, .f32⟩
  | .hbm, ⟨74, _⟩ => ⟨S_, .f32⟩
  | .hbm, ⟨75, _⟩ => ⟨S8x8192, .f32⟩
  | .hbm, ⟨76, _⟩ => ⟨S8x8192x1, .f32⟩
  | .hbm, ⟨77, _⟩ => ⟨S8x8192x8192, .f32⟩
  | .hbm, ⟨78, _⟩ => ⟨S8x8192x8192, .f32⟩
  | .hbm, ⟨79, _⟩ => ⟨S8x64x8192, .f32⟩
  | .hbm, ⟨80, _⟩ => ⟨S8192x8x64, .f32⟩
  | .hbm, ⟨81, _⟩ => ⟨S8192x512, .f32⟩
  | .hbm, ⟨82, _⟩ => ⟨S8192x512, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_c_1 : Ref sig .tc := ⟨.hbm, 39, rfl⟩
abbrev main_c_2 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v34 : Ref sig .tc := ⟨.hbm, 46, rfl⟩
abbrev main_c_3 : Ref sig .tc := ⟨.hbm, 47, rfl⟩
abbrev main_v35 : Ref sig .tc := ⟨.hbm, 48, rfl⟩
abbrev main_v36 : Ref sig .tc := ⟨.hbm, 49, rfl⟩
abbrev main_c_4 : Ref sig .tc := ⟨.hbm, 50, rfl⟩
abbrev main_v37 : Ref sig .tc := ⟨.hbm, 51, rfl⟩
abbrev main_v38 : Ref sig .tc := ⟨.hbm, 52, rfl⟩
abbrev main_c_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== Kernel11.lean ====
abbrev S2x1024x768 : Shape := ⟨3, ![2, 1024, 768]⟩
abbrev S2048x768 : Shape := ⟨2, ![2048, 768]⟩
abbrev S512x768 : Shape := ⟨2, ![512, 768]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .hbm, ⟨9, _⟩ => ⟨S2048x768, .f32⟩
  | .hbm, ⟨10, _⟩ => ⟨S2048x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S2x1024x768 : Shape := ⟨3, ![2, 1024, 768]⟩
abbrev S_ : Shape := ⟨0, ![]⟩
abbrev S2048x768 : Shape := ⟨2, ![2048, 768]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S_, .f32⟩
  | .hbm, ⟨5, _⟩ => ⟨S2x1024x768, .f32⟩
  | .hbm, ⟨6, _⟩ => ⟨S2x1024x768, .f32⟩
  | .hbm, ⟨7, _⟩ => ⟨S_, .f32⟩
  | .hbm, ⟨8, _⟩ => ⟨S2x1024x768, .f32⟩
  | .hbm, ⟨9, _⟩ => ⟨S2x1024x768, .f32⟩
  | .hbm, ⟨10, _⟩ => ⟨S2x1024x768, .f32⟩
  | .hbm, ⟨11, _⟩ => ⟨S_, .f32⟩
  | .hbm, ⟨12, _⟩ => ⟨S2x1024x768, .f32⟩
  | .hbm, ⟨13, _⟩ => ⟨S2x1024x768, .f32⟩
  | .hbm, ⟨14, _⟩ => ⟨S2x1024x768, .f32⟩
  | .hbm, ⟨15, _⟩ => ⟨S_, .f32⟩
  | .hbm, ⟨16, _⟩ => ⟨S2x1024x768, .f32⟩
  | .hbm, ⟨17, _⟩ => ⟨S2x1024x768, .f32⟩
  | .hbm, ⟨18, _⟩ => ⟨S2x1024x768, .f32⟩
  | .hbm, ⟨19, _⟩ => ⟨S_, .f32⟩
  | .hbm, ⟨20, _⟩ => ⟨S2x1024x768, .f32⟩
  | .hbm, ⟨21, _⟩ => ⟨S2x1024x768, .f32⟩
  | .hbm, ⟨22, _⟩ => ⟨S_, .f32⟩
  | .hbm, ⟨23, _⟩ => ⟨S2x1024x768, .f32⟩
  | .hbm, ⟨24, _⟩ => ⟨S2x1024x768, .f32⟩
  | .hbm, ⟨25, _⟩ => ⟨S2x1024x768, .f32⟩
  | .hbm, ⟨26, _⟩ => ⟨S_, .f32⟩
  | .hbm, ⟨27, _⟩ => ⟨S2x1024x768, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S2x1024x768, .f32⟩
  | .hbm, ⟨34, _⟩ => ⟨S_, .f32⟩
  | .hbm, ⟨35, _⟩ => ⟨S2x1024x768, .f32⟩
  | .hbm, ⟨36, _⟩ => ⟨S2x1024x768, .f32⟩
  | .hbm, ⟨37, _⟩ => ⟨S2048x768, .f32⟩
  | .hbm, ⟨38, _⟩ => ⟨S2048x768, .f32⟩
  | .hbm, ⟨39, _⟩ => ⟨S2048x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel12.lean ====
abbrev S2x256x1024 : Shape := ⟨3, ![2, 256, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference12Ideal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel13.lean ====
abbrev S2x1024x512 : Shape := ⟨3, ![2, 1024, 512]⟩
abbrev S2048x512 : Shape := ⟨2, ![2048, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S2x1024x512 : Shape := ⟨3, ![2, 1024, 512]⟩
abbrev S_ : Shape := ⟨0, ![]⟩
abbrev S2048x512 : Shape := ⟨2, ![2048, 512]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S_, .f32⟩
  | .hbm, ⟨5, _⟩ => ⟨S2x1024x512, .f32⟩
  | .hbm, ⟨6, _⟩ => ⟨S2x1024x512, .f32⟩
  | .hbm, ⟨7, _⟩ => ⟨S_, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S_, .f32⟩
  | .hbm, ⟨12, _⟩ => ⟨S2x1024x512, .f32⟩
  | .hbm, ⟨13, _⟩ => ⟨S2x1024x512, .f32⟩
  | .hbm, ⟨14, _⟩ => ⟨S2x1024x512, .f32⟩
  | .hbm, ⟨15, _⟩ => ⟨S_, .f32⟩
  | .hbm, ⟨16, _⟩ => ⟨S2x1024x512, .f32⟩
  | .hbm, ⟨17, _⟩ => ⟨S2x1024x512, .f32⟩
  | .hbm, ⟨18, _⟩ => ⟨S2x1024x512, .f32⟩
  | .hbm, ⟨19, _⟩ => ⟨S_, .f32⟩
  | .hbm, ⟨20, _⟩ => ⟨S2x1024x512, .f32⟩
  | .hbm, ⟨21, _⟩ => ⟨S2x1024x512, .f32⟩
  | .hbm, ⟨22, _⟩ => ⟨S_, .f32⟩
  | .hbm, ⟨23, _⟩ => ⟨S2x1024x512, .f32⟩
  | .hbm, ⟨24, _⟩ => ⟨S2x1024x512, .f32⟩
  | .hbm, ⟨25, _⟩ => ⟨S2x1024x512, .f32⟩
  | .hbm, ⟨26, _⟩ => ⟨S_, .f32⟩
  | .hbm, ⟨27, _⟩ => ⟨S2x1024x512, .f32⟩
  | .hbm, ⟨28, _⟩ => ⟨S2x1024x512, .f32⟩
  | .hbm, ⟨29, _⟩ => ⟨S2x1024x512, .f32⟩
  | .hbm, ⟨30, _⟩ => ⟨S_, .f32⟩
  | .hbm, ⟨31, _⟩ => ⟨S2x1024x512, .f32⟩
  | .hbm, ⟨32, _⟩ => ⟨S2x1024x512, .f32⟩
  | .hbm, ⟨33, _⟩ => ⟨S2x1024x512, .f32⟩
  | .hbm, ⟨34, _⟩ => ⟨S_, .f32⟩
  | .hbm, ⟨35, _⟩ => ⟨S2x1024x512, .f32⟩
  | .hbm, ⟨36, _⟩ => ⟨S2x1024x512, .f32⟩
  | .hbm, ⟨37, _⟩ => ⟨S2048x512, .f32⟩
  | .hbm, ⟨38, _⟩ => ⟨S2048x512, .f32⟩
  | .hbm, ⟨39, _⟩ => ⟨S2048x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel14.lean ====
abbrev S4x704x1024 : Shape := ⟨3, ![4, 704, 1024]⟩
abbrev S2816x1024 : Shape := ⟨2, ![2816, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S4x704x1024 : Shape := ⟨3, ![4, 704, 1024]⟩
abbrev S_ : Shape := ⟨0, ![]⟩
abbrev S2816x1024 : Shape := ⟨2, ![2816, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | .hbm, ⟨37, _⟩ => ⟨S2816x1024, .f32⟩
  | .hbm, ⟨38, _⟩ => ⟨S2816x1024, .f32⟩
  | .hbm, ⟨39, _⟩ => ⟨S2816x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel15.lean ====
abbrev S2x4x64x256 : Shape := ⟨4, ![2, 4, 64, 256]⟩
abbrev S512x256 : Shape := ⟨2, ![512, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x4x64x256, .f32⟩
  | .hbm, ⟨1, _⟩ => ⟨S2x4x64x256, .f32⟩
  | .hbm, ⟨2, _⟩ => ⟨S2x4x64x256, .f32⟩
  | .hbm, ⟨3, _⟩ => ⟨S2x4x64x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S2x4x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference15Ideal.lean ====
abbrev S2x4x64x256 : Shape := ⟨4, ![2, 4, 64, 256]⟩
abbrev S_ : Shape := ⟨0, ![]⟩
abbrev S512x256 : Shape := ⟨2, ![512, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x4x64x256, .f32⟩
  | .hbm, ⟨1, _⟩ => ⟨S2x4x64x256, .f32⟩
  | .hbm, ⟨2, _⟩ => ⟨S2x4x64x256, .f32⟩
  | .hbm, ⟨3, _⟩ => ⟨S2x4x64x256, .f32⟩
  | .hbm, ⟨4, _⟩ => ⟨S_, .f32⟩
  | .hbm, ⟨5, _⟩ => ⟨S2x4x64x256, .f32⟩
  | .hbm, ⟨6, _⟩ => ⟨S2x4x64x256, .f32⟩
  | .hbm, ⟨7, _⟩ => ⟨S_, .f32⟩
  | .hbm, ⟨8, _⟩ => ⟨S2x4x64x256, .f32⟩
  | .hbm, ⟨9, _⟩ => ⟨S2x4x64x256, .f32⟩
  | .hbm, ⟨10, _⟩ => ⟨S2x4x64x256, .f32⟩
  | .hbm, ⟨11, _⟩ => ⟨S_, .f32⟩
  | .hbm, ⟨12, _⟩ => ⟨S2x4x64x256, .f32⟩
  | .hbm, ⟨13, _⟩ => ⟨S2x4x64x256, .f32⟩
  | .hbm, ⟨14, _⟩ => ⟨S2x4x64x256, .f32⟩
  | .hbm, ⟨15, _⟩ => ⟨S_, .f32⟩
  | .hbm, ⟨16, _⟩ => ⟨S2x4x64x256, .f32⟩
  | .hbm, ⟨17, _⟩ => ⟨S2x4x64x256, .f32⟩
  | .hbm, ⟨18, _⟩ => ⟨S2x4x64x256, .f32⟩
  | .hbm, ⟨19, _⟩ => ⟨S_, .f32⟩
  | .hbm, ⟨20, _⟩ => ⟨S2x4x64x256, .f32⟩
  | .hbm, ⟨21, _⟩ => ⟨S2x4x64x256, .f32⟩
  | .hbm, ⟨22, _⟩ => ⟨S_, .f32⟩
  | .hbm, ⟨23, _⟩ => ⟨S2x4x64x256, .f32⟩
  | .hbm, ⟨24, _⟩ => ⟨S2x4x64x256, .f32⟩
  | .hbm, ⟨25, _⟩ => ⟨S2x4x64x256, .f32⟩
  | .hbm, ⟨26, _⟩ => ⟨S_, .f32⟩
  | .hbm, ⟨27, _⟩ => ⟨S2x4x64x256, .f32⟩
  | .hbm, ⟨28, _⟩ => ⟨S2x4x64x256, .f32⟩
  | .hbm, ⟨29, _⟩ => ⟨S2x4x64x256, .f32⟩
  | .hbm, ⟨30, _⟩ => ⟨S_, .f32⟩
  | .hbm, ⟨31, _⟩ => ⟨S2x4x64x256, .f32⟩
  | .hbm, ⟨32, _⟩ => ⟨S2x4x64x256, .f32⟩
  | .hbm, ⟨33, _⟩ => ⟨S2x4x64x256, .f32⟩
  | .hbm, ⟨34, _⟩ => ⟨S_, .f32⟩
  | .hbm, ⟨35, _⟩ => ⟨S2x4x64x256, .f32⟩
  | .hbm, ⟨36, _⟩ => ⟨S2x4x64x256, .f32⟩
  | .hbm, ⟨37, _⟩ => ⟨S512x256, .f32⟩
  | .hbm, ⟨38, _⟩ => ⟨S512x256, .f32⟩
  | .hbm, ⟨39, _⟩ => ⟨S512x256, .f32⟩
  | _, _ => ⟨S2x4x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel16.lean ====
abbrev S28688 : Shape := ⟨1, ![28688]⟩
abbrev S_ : Shape := ⟨0, ![]⟩
abbrev S29696 : Shape := ⟨1, ![29696]⟩
abbrev S232x128 : Shape := ⟨2, ![232, 128]⟩

abbrev nBuf : Space → Nat
  | .hbm => 23
  | .vmem => 7
  | .smem => 0
  | _ => 0

abbrev bufTy : (tb : Table) → Fin (tcTables nBuf tb) → BufTy
  | .hbm, ⟨0, _⟩ => ⟨S28688, .f32⟩
  | .hbm, ⟨1, _⟩ => ⟨S28688, .f32⟩
  | .hbm, ⟨2, _⟩ => ⟨S28688, .f32⟩
  | .hbm, ⟨3, _⟩ => ⟨S28688, .f32⟩
  | .hbm, ⟨4, _⟩ => ⟨S_, .i32⟩
  | .hbm, ⟨5, _⟩ => ⟨S_, .f32⟩
  | .hbm, ⟨6, _⟩ => ⟨S29696, .f32⟩
  | .hbm, ⟨7, _⟩ => ⟨S232x128, .f32⟩
  | .hbm, ⟨8, _⟩ => ⟨S_, .i32⟩
  | .hbm, ⟨9, _⟩ => ⟨S_, .f32⟩
  | .hbm, ⟨10, _⟩ => ⟨S29696, .f32⟩
  | .hbm, ⟨11, _⟩ => ⟨S232x128, .f32⟩
  | .hbm, ⟨12, _⟩ => ⟨S_, .i32⟩
  | .hbm, ⟨13, _⟩ => ⟨S_, .f32⟩
  | .hbm, ⟨14, _⟩ => ⟨S29696, .f32⟩
  | .hbm, ⟨15, _⟩ => ⟨S232x128, .f32⟩
  | .hbm, ⟨16, _⟩ => ⟨S_, .i32⟩
  | .hbm, ⟨17, _⟩ => ⟨S_, .f32⟩
  | .hbm, ⟨18, _⟩ => ⟨S29696, .f32⟩
  | .hbm, ⟨19, _⟩ => ⟨S232x128, .f32⟩
  | .hbm, ⟨20, _⟩ => ⟨S232x128, .f32⟩
  | .hbm, ⟨21, _⟩ => ⟨S232x128, .f32⟩
  | .hbm, ⟨22, _⟩ => ⟨S232x128, .f32⟩
  | .local _ .vmem, ⟨0, _⟩ => ⟨S232x128, .f32⟩
  | .local _ .vmem, ⟨1, _⟩ => ⟨S232x128, .f32⟩
  | .local _ .vmem, ⟨2, _⟩ => ⟨S232x128, .f32⟩
  | .local _ .vmem, ⟨3, _⟩ => ⟨S232x128, .f32⟩
  | .local _ .vmem, ⟨4, _⟩ => ⟨S232x128, .f32⟩
  | .local _ .vmem, ⟨5, _⟩ => ⟨S232x128, .f32⟩
  | .local _ .vmem, ⟨6, _⟩ => ⟨S232x128, .f32⟩
  | _, _ => ⟨S28688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call2_v0 : Ref sig .tc := ⟨.hbm, 13, rfl⟩
abbrev main_v4 : Ref sig .tc := ⟨.hbm, 14, rfl⟩
abbrev main_v5 : Ref sig .tc := ⟨.hbm, 15, rfl⟩
abbrev main_c_2 : Ref sig .tc := ⟨.hbm, 16, rfl⟩
abbrev main_call3_v0 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S232x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S232x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S232x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S232x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S232x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S232x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S232x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference16Ideal.lean ====
abbrev S28688 : Shape := ⟨1, ![28688]⟩
abbrev S_ : Shape := ⟨0, ![]⟩
abbrev S29696 : Shape := ⟨1, ![29696]⟩
abbrev S232x128 : Shape := ⟨2, ![232, 128]⟩

abbrev nBuf : Space → Nat
  | .hbm => 49
  | .vmem => 0
  | .smem => 0
  | _ => 0

abbrev bufTy : (tb : Table) → Fin (tcTables nBuf tb) → BufTy
  | .hbm, ⟨0, _⟩ => ⟨S28688, .f32⟩
  | .hbm, ⟨1, _⟩ => ⟨S28688, .f32⟩
  | .hbm, ⟨2, _⟩ => ⟨S28688, .f32⟩
  | .hbm, ⟨3, _⟩ => ⟨S28688, .f32⟩
  | .hbm, ⟨4, _⟩ => ⟨S_, .f32⟩
  | .hbm, ⟨5, _⟩ => ⟨S28688, .f32⟩
  | .hbm, ⟨6, _⟩ => ⟨S28688, .f32⟩
  | .hbm, ⟨7, _⟩ => ⟨S_, .f32⟩
  | .hbm, ⟨8, _⟩ => ⟨S28688, .f32⟩
  | .hbm, ⟨9, _⟩ => ⟨S28688, .f32⟩
  | .hbm, ⟨10, _⟩ => ⟨S28688, .f32⟩
  | .hbm, ⟨11, _⟩ => ⟨S_, .f32⟩
  | .hbm, ⟨12, _⟩ => ⟨S28688, .f32⟩
  | .hbm, ⟨13, _⟩ => ⟨S28688, .f32⟩
  | .hbm, ⟨14, _⟩ => ⟨S28688, .f32⟩
  | .hbm, ⟨15, _⟩ => ⟨S_, .f32⟩
  | .hbm, ⟨16, _⟩ => ⟨S28688, .f32⟩
  | .hbm, ⟨17, _⟩ => ⟨S28688, .f32⟩
  | .hbm, ⟨18, _⟩ => ⟨S28688, .f32⟩
  | .hbm, ⟨19, _⟩ => ⟨S_, .f32⟩
  | .hbm, ⟨20, _⟩ => ⟨S28688, .f32⟩
  | .hbm, ⟨21, _⟩ => ⟨S28688, .f32⟩
  | .hbm, ⟨22, _⟩ => ⟨S_, .f32⟩
  | .hbm, ⟨23, _⟩ => ⟨S28688, .f32⟩
  | .hbm, ⟨24, _⟩ => ⟨S28688, .f32⟩
  | .hbm, ⟨25, _⟩ => ⟨S28688, .f32⟩
  | .hbm, ⟨26, _⟩ => ⟨S_, .f32⟩
  | .hbm, ⟨27, _⟩ => ⟨S28688, .f32⟩
  | .hbm, ⟨28, _⟩ => ⟨S28688, .f32⟩
  | .hbm, ⟨29, _⟩ => ⟨S28688, .f32⟩
  | .hbm, ⟨30, _⟩ => ⟨S_, .f32⟩
  | .hbm, ⟨31, _⟩ => ⟨S28688, .f32⟩
  | .hbm, ⟨32, _⟩ => ⟨S28688, .f32⟩
  | .hbm, ⟨33, _⟩ => ⟨S28688, .f32⟩
  | .hbm, ⟨34, _⟩ => ⟨S_, .f32⟩
  | .hbm, ⟨35, _⟩ => ⟨S28688, .f32⟩
  | .hbm, ⟨36, _⟩ => ⟨S28688, .f32⟩
  | .hbm, ⟨37, _⟩ => ⟨S_, .i32⟩
  | .hbm, ⟨38, _⟩ => ⟨S_, .f32⟩
  | .hbm, ⟨39, _⟩ => ⟨S29696, .f32⟩
  | .hbm, ⟨40, _⟩ => ⟨S232x128, .f32⟩
  | .hbm, ⟨41, _⟩ => ⟨S_, .i32⟩
  | .hbm, ⟨42, _⟩ => ⟨S_, .f32⟩
  | .hbm, ⟨43, _⟩ => ⟨S29696, .f32⟩
  | .hbm, ⟨44, _⟩ => ⟨S232x128, .f32⟩
  | .hbm, ⟨45, _⟩ => ⟨S_, .i32⟩
  | .hbm, ⟨46, _⟩ => ⟨S_, .f32⟩
  | .hbm, ⟨47, _⟩ => ⟨S29696, .f32⟩
  | .hbm, ⟨48, _⟩ => ⟨S232x128, .f32⟩
  | _, _ => ⟨S28688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_c : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_c_8 : Ref sig .tc := ⟨.hbm, 41, rfl⟩
abbrev main_call1_v0 : Ref sig .tc := ⟨.hbm, 42, rfl⟩
abbrev main_v26 : Ref sig .tc := ⟨.hbm, 43, rfl⟩
abbrev main_v27 : Ref sig .tc := ⟨.hbm, 44, rfl⟩
abbrev main_c_9 : Ref sig .tc := ⟨.hbm, 45, rfl⟩
abbrev main_call2_v0 : Ref sig .tc := ⟨.hbm, 46, rfl⟩
abbrev main_v28 : Ref sig .tc := ⟨.hbm, 47, rfl⟩
abbrev main_v29 : Ref sig .tc := ⟨.hbm, 48, rfl⟩

abbrev nD : Nat := 1
abbrev τ : Topo := Topo.v7x

variable {F : FTy → Type} [FloatOps F]
-- ==== Kernel17.lean ====
abbrev S8192x1024 : Shape := ⟨2, ![8192, 1024]⟩
abbrev S1024x3072 : Shape := ⟨2, ![1024, 3072]⟩
abbrev S1024x4x768 : Shape := ⟨3, ![1024, 4, 768]⟩
abbrev S4x1024x768 : Shape := ⟨3, ![4, 1024, 768]⟩
abbrev S1x4x1024x768 : Shape := ⟨4, ![1, 4, 1024, 768]⟩
abbrev S8192x3072 : Shape := ⟨2, ![8192, 3072]⟩
abbrev S2048x1024 : Shape := ⟨2, ![2048, 1024]⟩
abbrev S1x1x1024x768 : Shape := ⟨4, ![1, 1, 1024, 768]⟩
abbrev S2048x768 : Shape := ⟨2, ![2048, 768]⟩
abbrev S1024x768 : Shape := ⟨2, ![1024, 768]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S1024x4x768, .bf16⟩
  | .hbm, ⟨3, _⟩ => ⟨S4x1024x768, .bf16⟩
  | .hbm, ⟨4, _⟩ => ⟨S1x4x1024x768, .bf16⟩
  | .hbm, ⟨5, _⟩ => ⟨S8192x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1x1x1024x768, .bf16⟩
  | .local _ .vmem, ⟨3, _⟩ => ⟨S1x1x1024x768, .bf16⟩
  | .local _ .vmem, ⟨4, _⟩ => ⟨S2048x768, .bf16⟩
  | .local _ .vmem, ⟨5, _⟩ => ⟨S2048x768, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | .hbm, ⟨5, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S8192x512 : Shape := ⟨2, ![8192, 512]⟩
abbrev S1024x1024 : Shape := ⟨2, ![1024, 1024]⟩
abbrev S1x1x1024x1024 : Shape := ⟨4, ![1, 1, 1024, 1024]⟩
abbrev S8192x1024 : Shape := ⟨2, ![8192, 1024]⟩
abbrev S2048x512 : Shape := ⟨2, ![2048, 512]⟩
abbrev S1x1x512x1024 : Shape := ⟨4, ![1, 1, 512, 1024]⟩
abbrev S2048x1024 : Shape := ⟨2, ![2048, 1024]⟩
abbrev S512x1024 : Shape := ⟨2, ![512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S1024x1024, .bf16⟩
  | .hbm, ⟨3, _⟩ => ⟨S1x1x1024x1024, .bf16⟩
  | .hbm, ⟨4, _⟩ => ⟨S8192x1024, .f32⟩
  | .local _ .vmem, ⟨0, _⟩ => ⟨S2048x512, .bf16⟩
  | .local _ .vmem, ⟨1, _⟩ => ⟨S2048x512, .bf16⟩
  | .local _ .vmem, ⟨2, _⟩ => ⟨S1x1x512x1024, .bf16⟩
  | .local _ .vmem, ⟨3, _⟩ => ⟨S2048x512, .bf16⟩
  | .local _ .vmem, ⟨4, _⟩ => ⟨S2048x512, .bf16⟩
  | .local _ .vmem, ⟨5, _⟩ => ⟨S1x1x512x1024, .bf16⟩
  | .local _ .vmem, ⟨6, _⟩ => ⟨S2048x1024, .f32⟩
  | .local _ .vmem, ⟨7, _⟩ => ⟨S2048x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c1_i32 : BitVec 32 := 1#32
  let c0_i32_1 : BitVec 32 := 0#32
  let c0_i32_2 : BitVec 32 := 0#32
  ![c0_i32.toNat, c0_i32_0.toNat, c1_i32.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== Reference18Ideal.lean ====
abbrev S8192x512 : Shape := ⟨2, ![8192, 512]⟩
abbrev S1024x1024 : Shape := ⟨2, ![1024, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S1024x1024, .bf16⟩
  | .hbm, ⟨3, _⟩ => ⟨S8192x1024, .bf16⟩
  | .hbm, ⟨4, _⟩ => ⟨S8192x1024, .f32⟩
  | .hbm, ⟨5, _⟩ => ⟨S1024x1024, .f32⟩
  | .hbm, ⟨6, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S8192x1024 : Shape := ⟨2, ![8192, 1024]⟩
abbrev S1024x1024 : Shape := ⟨2, ![1024, 1024]⟩
abbrev S1x1x1024x1024 : Shape := ⟨4, ![1, 1, 1024, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1x1x1024x1024, .bf16⟩
  | .hbm, ⟨3, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1x1024x1024, .bf16⟩
  | .local _ .vmem, ⟨3, _⟩ => ⟨S2048x1024, .bf16⟩
  | .local _ .vmem, ⟨4, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference19Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel20.lean ====
abbrev S8192x1024 : Shape := ⟨2, ![8192, 1024]⟩
abbrev S1024x2048 : Shape := ⟨2, ![1024, 2048]⟩
abbrev S1024x4x512 : Shape := ⟨3, ![1024, 4, 512]⟩
abbrev S4x1024x512 : Shape := ⟨3, ![4, 1024, 512]⟩
abbrev S1x4x1024x512 : Shape := ⟨4, ![1, 4, 1024, 512]⟩
abbrev S8192x2048 : Shape := ⟨2, ![8192, 2048]⟩
abbrev S2048x1024 : Shape := ⟨2, ![2048, 1024]⟩
abbrev S1x1x1024x512 : Shape := ⟨4, ![1, 1, 1024, 512]⟩
abbrev S2048x512 : Shape := ⟨2, ![2048, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S1024x4x512, .bf16⟩
  | .hbm, ⟨3, _⟩ => ⟨S4x1024x512, .bf16⟩
  | .hbm, ⟨4, _⟩ => ⟨S1x4x1024x512, .bf16⟩
  | .hbm, ⟨5, _⟩ => ⟨S8192x2048, .f32⟩
  | .local _ .vmem, ⟨0, _⟩ => ⟨S2048x1024, .bf16⟩
  | .local _ .vmem, ⟨1, _⟩ => ⟨S2048x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S2048x512, .f32⟩
  | .local _ .vmem, ⟨5, _⟩ => ⟨S2048x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel21.lean ====
abbrev S8192x1024 : Shape := ⟨2, ![8192, 1024]⟩
abbrev S1024x1024 : Shape := ⟨2, ![1024, 1024]⟩
abbrev S1x1x1024x1024 : Shape := ⟨4, ![1, 1, 1024, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1x1x1024x1024, .bf16⟩
  | .hbm, ⟨3, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x1x1024x1024, .bf16⟩
  | .local _ .vmem, ⟨3, _⟩ => ⟨S2048x1024, .f32⟩
  | .local _ .vmem, ⟨4, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference21Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel22.lean ====
abbrev S8192x1024 : Shape := ⟨2, ![8192, 1024]⟩
abbrev S1024x1024 : Shape := ⟨2, ![1024, 1024]⟩
abbrev S1x1x1024x1024 : Shape := ⟨4, ![1, 1, 1024, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1x1x1024x1024, .bf16⟩
  | .hbm, ⟨3, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x1x1024x1024, .bf16⟩
  | .local _ .vmem, ⟨3, _⟩ => ⟨S2048x1024, .f32⟩
  | .local _ .vmem, ⟨4, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference22Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel23.lean ====
abbrev S8192x1024 : Shape := ⟨2, ![8192, 1024]⟩
abbrev S1x1024x1024 : Shape := ⟨3, ![1, 1024, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== Reference23Ideal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel24.lean ====
abbrev S8192x1024 : Shape := ⟨2, ![8192, 1024]⟩
abbrev S8192x2048 : Shape := ⟨2, ![8192, 2048]⟩
abbrev S1x4x1024x512 : Shape := ⟨4, ![1, 4, 1024, 512]⟩
abbrev S4096x1024 : Shape := ⟨2, ![4096, 1024]⟩
abbrev S4096x512 : Shape := ⟨2, ![4096, 512]⟩
abbrev S1x1x1024x512 : Shape := ⟨4, ![1, 1, 1024, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1x4x1024x512, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1x1024x512, .f32⟩
  | .local _ .vmem, ⟨5, _⟩ => ⟨S1x1x1024x512, .f32⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference24Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩
abbrev S1x4x1024x512 : Shape := ⟨4, ![1, 4, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x4x512, .f32⟩
  | .hbm, ⟨10, _⟩ => ⟨S4x1024x512, .f32⟩
  | .hbm, ⟨11, _⟩ => ⟨S1x4x1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel25.lean ====
abbrev S8192x2048 : Shape := ⟨2, ![8192, 2048]⟩
abbrev S1024x2048 : Shape := ⟨2, ![1024, 2048]⟩
abbrev S1024x4x512 : Shape := ⟨3, ![1024, 4, 512]⟩
abbrev S4x1024x512 : Shape := ⟨3, ![4, 1024, 512]⟩
abbrev S1x4x1024x512 : Shape := ⟨4, ![1, 4, 1024, 512]⟩
abbrev S8192x1024 : Shape := ⟨2, ![8192, 1024]⟩
abbrev S1024x512 : Shape := ⟨2, ![1024, 512]⟩
abbrev S1x1x1024x512 : Shape := ⟨4, ![1, 1, 1024, 512]⟩
abbrev S1024x1024 : Shape := ⟨2, ![1024, 1024]⟩

abbrev nBuf : Space → Nat
  | .hbm => 6
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S1024x4x512, .bf16⟩
  | .hbm, ⟨3, _⟩ => ⟨S4x1024x512, .bf16⟩
  | .hbm, ⟨4, _⟩ => ⟨S1x4x1024x512, .bf16⟩
  | .hbm, ⟨5, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1x1x1024x512, .bf16⟩
  | .local _ .vmem, ⟨3, _⟩ => ⟨S1024x512, .bf16⟩
  | .local _ .vmem, ⟨4, _⟩ => ⟨S1024x512, .bf16⟩
  | .local _ .vmem, ⟨5, _⟩ => ⟨S1x1x1024x512, .bf16⟩
  | .local _ .vmem, ⟨6, _⟩ => ⟨S1024x512, .bf16⟩
  | .local _ .vmem, ⟨7, _⟩ => ⟨S1024x512, .bf16⟩
  | .local _ .vmem, ⟨8, _⟩ => ⟨S1x1x1024x512, .bf16⟩
  | .local _ .vmem, ⟨9, _⟩ => ⟨S1024x512, .bf16⟩
  | .local _ .vmem, ⟨10, _⟩ => ⟨S1024x512, .bf16⟩
  | .local _ .vmem, ⟨11, _⟩ => ⟨S1x1x1024x512, .bf16⟩
  | .local _ .vmem, ⟨12, _⟩ => ⟨S1024x1024, .f32⟩
  | .local _ .vmem, ⟨13, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, c2_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg0.toNat, c3_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, c3_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1x1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== Reference25Ideal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S_, .f32⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel26.lean ====
abbrev S1x1024x1024 : Shape := ⟨3, ![1, 1024, 1024]⟩
abbrev S8192x512 : Shape := ⟨2, ![8192, 512]⟩
abbrev S8192x1024 : Shape := ⟨2, ![8192, 1024]⟩
abbrev S4096x512 : Shape := ⟨2, ![4096, 512]⟩
abbrev S4096x1024 : Shape := ⟨2, ![4096, 1024]⟩
abbrev S1x512x1024 : Shape := ⟨3, ![1, 512, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1x1024x1024, .f32⟩
  | .hbm, ⟨1, _⟩ => ⟨S8192x512, .bf16⟩
  | .hbm, ⟨2, _⟩ => ⟨S8192x1024, .bf16⟩
  | .hbm, ⟨3, _⟩ => ⟨S1x1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .f32⟩
  | .local _ .vmem, ⟨5, _⟩ => ⟨S512x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== Reference26Ideal.lean ====
abbrev S1x1024x1024 : Shape := ⟨3, ![1, 1024, 1024]⟩
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩
abbrev S1x512x1024 : Shape := ⟨3, ![1, 512, 1024]⟩

abbrev nBuf : Space → Nat
  | .hbm => 13
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S8192x512, .bf16⟩
  | .hbm, ⟨2, _⟩ => ⟨S8192x1024, .bf16⟩
  | .hbm, ⟨3, _⟩ => ⟨S_, .f32⟩
  | .hbm, ⟨4, _⟩ => ⟨S512x1024, .f32⟩
  | .hbm, ⟨5, _⟩ => ⟨S8192x512, .f32⟩
  | .hbm, ⟨6, _⟩ => ⟨S8192x1024, .f32⟩
  | .hbm, ⟨7, _⟩ => ⟨S8192x1024, .f32⟩
  | .hbm, ⟨8, _⟩ => ⟨S1024x512, .f32⟩
  | .hbm, ⟨9, _⟩ => ⟨S512x1024, .f32⟩
  | .hbm, ⟨10, _⟩ => ⟨S1x512x1024, .f32⟩
  | .hbm, ⟨11, _⟩ => ⟨S1x512x1024, .f32⟩
  | .hbm, ⟨12, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel27.lean ====
abbrev S1x1024x1024 : Shape := ⟨3, ![1, 1024, 1024]⟩
abbrev S8192x512 : Shape := ⟨2, ![8192, 512]⟩
abbrev S8192x1024 : Shape := ⟨2, ![8192, 1024]⟩
abbrev S4096x512 : Shape := ⟨2, ![4096, 512]⟩
abbrev S4096x1024 : Shape := ⟨2, ![4096, 1024]⟩
abbrev S1x512x1024 : Shape := ⟨3, ![1, 512, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1x1024x1024, .f32⟩
  | .hbm, ⟨1, _⟩ => ⟨S8192x512, .bf16⟩
  | .hbm, ⟨2, _⟩ => ⟨S8192x1024, .bf16⟩
  | .hbm, ⟨3, _⟩ => ⟨S1x1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .f32⟩
  | .local _ .vmem, ⟨5, _⟩ => ⟨S512x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== Reference27Ideal.lean ====
abbrev S1x1024x1024 : Shape := ⟨3, ![1, 1024, 1024]⟩
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩
abbrev S1x512x1024 : Shape := ⟨3, ![1, 512, 1024]⟩

abbrev nBuf : Space → Nat
  | .hbm => 13
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S8192x512, .bf16⟩
  | .hbm, ⟨2, _⟩ => ⟨S8192x1024, .bf16⟩
  | .hbm, ⟨3, _⟩ => ⟨S_, .f32⟩
  | .hbm, ⟨4, _⟩ => ⟨S512x1024, .f32⟩
  | .hbm, ⟨5, _⟩ => ⟨S8192x512, .f32⟩
  | .hbm, ⟨6, _⟩ => ⟨S8192x1024, .f32⟩
  | .hbm, ⟨7, _⟩ => ⟨S8192x1024, .f32⟩
  | .hbm, ⟨8, _⟩ => ⟨S1024x512, .f32⟩
  | .hbm, ⟨9, _⟩ => ⟨S512x1024, .f32⟩
  | .hbm, ⟨10, _⟩ => ⟨S1x512x1024, .f32⟩
  | .hbm, ⟨11, _⟩ => ⟨S1x512x1024, .f32⟩
  | .hbm, ⟨12, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel28.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference28Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel29.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference29Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel30.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_14 : BitVec 32 := 0#32
  let v34 : BitVec 1 := Scalar.cmpi .ne v33 c0_i32_14
  v34

def k0_cond2 (i : grid0.Coords) : BitVec 1 :=
  let arg0 : BitVec 32 := BitVec.ofNat 32 (i 0).val
  let c0_i32 : BitVec 32 := 0#32
  let v32 : BitVec 1 := Scalar.cmpi .eq arg0 c0_i32
  let v_true : BitVec 1 := 1#1
  let v35 : BitVec 1 := Scalar.xori v32 v_true
  let v36 : BitVec 32 := Scalar.extui v35
  let c0_i32_15 : BitVec 32 := 0#32
  let v37 : BitVec 1 := Scalar.cmpi .ne v36 c0_i32_15
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference30Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel31.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1x1024, .f32⟩
  | .hbm, ⟨4, _⟩ => ⟨S8192x1024, .bf16⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_12 : BitVec 32 := 0#32
  let v33 : BitVec 1 := Scalar.cmpi .ne v32 c0_i32_12
  v33

def k0_cond2 (i : grid0.Coords) : BitVec 1 :=
  let arg0 : BitVec 32 := BitVec.ofNat 32 (i 0).val
  let c0_i32 : BitVec 32 := 0#32
  let v31 : BitVec 1 := Scalar.cmpi .eq arg0 c0_i32
  let v_true : BitVec 1 := 1#1
  let v34 : BitVec 1 := Scalar.xori v31 v_true
  let v35 : BitVec 32 := Scalar.extui v34
  let c0_i32_13 : BitVec 32 := 0#32
  let v36 : BitVec 1 := Scalar.cmpi .ne v35 c0_i32_13
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference31Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .bf16⟩
  | .hbm, ⟨49, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel32.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v62 : BitVec 1 := Scalar.cmpi .eq arg0 c0_i32
  let v63 : BitVec 32 := Scalar.extui v62
  let c0_i32_26 : BitVec 32 := 0#32
  let v64 : BitVec 1 := Scalar.cmpi .ne v63 c0_i32_26
  v64

def k0_cond2 (i : grid0.Coords) : BitVec 1 :=
  let arg0 : BitVec 32 := BitVec.ofNat 32 (i 0).val
  let c0_i32 : BitVec 32 := 0#32
  let v62 : BitVec 1 := Scalar.cmpi .eq arg0 c0_i32
  let v_true : BitVec 1 := 1#1
  let v65 : BitVec 1 := Scalar.xori v62 v_true
  let v66 : BitVec 32 := Scalar.extui v65
  let c0_i32_27 : BitVec 32 := 0#32
  let v67 : BitVec 1 := Scalar.cmpi .ne v66 c0_i32_27
  v67

def k0_cond3 (i : grid0.Coords) : BitVec 1 :=
  let arg0 : BitVec 32 := BitVec.ofNat 32 (i 0).val
  let c0_i32 : BitVec 32 := 0#32
  let v62 : BitVec 1 := Scalar.cmpi .eq arg0 c0_i32
  let v68 : BitVec 32 := Scalar.extui v62
  let c0_i32_28 : BitVec 32 := 0#32
  let v69 : BitVec 1 := Scalar.cmpi .ne v68 c0_i32_28
  v69

def k0_cond4 (i : grid0.Coords) : BitVec 1 :=
  let arg0 : BitVec 32 := BitVec.ofNat 32 (i 0).val
  let c0_i32 : BitVec 32 := 0#32
  let v62 : BitVec 1 := Scalar.cmpi .eq arg0 c0_i32
  let true_29 : BitVec 1 := 1#1
  let v70 : BitVec 1 := Scalar.xori v62 true_29
  let v71 : BitVec 32 := Scalar.extui v70
  let c0_i32_30 : BitVec 32 := 0#32
  let v72 : BitVec 1 := Scalar.cmpi .ne v71 c0_i32_30
  v72

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference32Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S1x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S1024, .f32⟩
  | .hbm, ⟨80, _⟩ => ⟨S8192x1024, .f32⟩
  | .hbm, ⟨81, _⟩ => ⟨S_, .f32⟩
  | .hbm, ⟨82, _⟩ => ⟨S8192, .f32⟩
  | .hbm, ⟨83, _⟩ => ⟨S8192x1, .f32⟩
  | .hbm, ⟨84, _⟩ => ⟨S8192x1024, .f32⟩
  | .hbm, ⟨85, _⟩ => ⟨S8192x1024, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S_, .f32⟩
  | .hbm, ⟨91, _⟩ => ⟨S8192, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1024, .bf16⟩
  | .hbm, ⟨98, _⟩ => ⟨S1x1024, .f32⟩
  | .hbm, ⟨99, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_13 : Ref sig .tc := ⟨.hbm, 78, rfl⟩
abbrev main_v58 : Ref sig .tc := ⟨.hbm, 79, rfl⟩
abbrev main_v59 : Ref sig .tc := ⟨.hbm, 80, rfl⟩
abbrev main_cst_14 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_15 : Ref sig .tc := ⟨.hbm, 87, rfl⟩
abbrev main_v65 : Ref sig .tc := ⟨.hbm, 88, rfl⟩
abbrev main_v66 : Ref sig .tc := ⟨.hbm, 89, rfl⟩
abbrev main_cst_16 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]
-- ==== Kernel33.lean ====
abbrev S8192x1024 : Shape := ⟨2, ![8192, 1024]⟩
abbrev S8192x2048 : Shape := ⟨2, ![8192, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference33Ideal.lean ====
abbrev S8192x1024 : Shape := ⟨2, ![8192, 1024]⟩
abbrev S8192x2048 : Shape := ⟨2, ![8192, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.DownGrad.lean ====
/- The values of the down projection's backward call: the cotangent of the hidden activation times the up branch is
   taken back through `silu`, and through the product with `u`. -/
module

public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Pre_finite
public import Idealize.ShloMosaic.Lib.ReduceAll
public import Idealize.ShloMosaic.Lib.Affine
public import Idealize.ShloMosaic.Lib.Pipeline.ValueKit

@[expose] public section

set_option maxRecDepth 16384

noncomputable section

namespace Cert.Kernel2Ideal.Value

open Cert.Kernel2Ideal Cert.Kernel2Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- What the reference computes for the gate's cotangent. -/
abbrev REF_dg (df : FVec Ideal Cert.Reference2Ideal.S8192x1024 .bf16) (w : FVec Ideal Cert.Reference2Ideal.S2816x1024 .bf16)
    (g u : FVec Ideal Cert.Reference2Ideal.S8192x2816 .bf16) : FVec Ideal Cert.Reference2Ideal.S4x8192x704 .bf16 :=
  Cert.Reference2Ideal.Read.val_main_v13 (F := Ideal) df w g u

/-- What the reference computes for the up branch's cotangent. -/
abbrev REF_du (df : FVec Ideal Cert.Reference2Ideal.S8192x1024 .bf16) (w : FVec Ideal Cert.Reference2Ideal.S2816x1024 .bf16)
    (g : FVec Ideal Cert.Reference2Ideal.S8192x2816 .bf16) : FVec Ideal Cert.Reference2Ideal.S4x8192x704 .bf16 :=
  Cert.Reference2Ideal.Read.val_main_v16 (F := Ideal) df w g

/-- The place of a stacked index in the hidden width. -/
abbrev col (i : Cert.Reference2Ideal.S4x8192x704.Idx) : Fin 2816 := ⟨(i 0).val * 704 + (i 2).val, by
  have h0 : (i 0).val < 4 := (i 0).isLt; have h2 : (i 2).val < 704 := (i 2).isLt; omega⟩

/-- The cotangent of the hidden product. -/
abbrev DH (df : FVec Ideal Cert.Reference2Ideal.S8192x1024 .bf16) (w : FVec Ideal Cert.Reference2Ideal.S2816x1024 .bf16)
    (r : Fin 8192) (l : Fin 2816) : EReal := ∑ k : Fin 1024, df (ix2 r k) * w (ix2 l k)

/-- The gate's derivative as the reference arranges it. -/
abbrev dgR (d u g : EReal) : EReal :=
  d * u * Ideal.logistic g + g * (d * u) * (Ideal.logistic g * (1 - Ideal.logistic g))

/-- The gate's derivative as the kernel arranges it. -/
abbrev dgK (d u g : EReal) : EReal := d * u * (Ideal.logistic g * (1 + g * (1 - Ideal.logistic g)))

/-- The two arrangements agree when the factors that multiply the derivative are finite. -/
theorem dg_eq {d u : EReal} (hd : d ≠ ⊤ ∧ d ≠ ⊥) (hu : u ≠ ⊤ ∧ u ≠ ⊥) (g : EReal) : dgK d u g = dgR d u g := by
  lift d to ℝ using hd
  lift u to ℝ using hu
  induction g using EReal.rec with
  | bot => simp [dgK, dgR]
  | top =>
    have h : (1 : EReal) - 1 = 0 := by rw [← EReal.coe_one, ← EReal.coe_sub, sub_self]; rfl
    simp [dgK, dgR, h]
  | coe g =>
    simp only [dgK, dgR, Ideal.logistic_coe]
    rw [← EReal.coe_one]
    norm_cast
    ring

/-- The reference's logistic, spelt out as a quotient, at an element. -/
theorem logistic_apply (g : FVec Ideal Cert.Reference2Ideal.S8192x2816 .bf16) (i : Cert.Reference2Ideal.S8192x2816.Idx) :
    Cert.Reference2Ideal.Read.val_main_v2_2 (F := Ideal) g i = Ideal.logistic (g i) := by
  show Ideal.div (Ideal.ofBits .f32 0x3F800000#32) (Ideal.ofBits .f32 0x3F800000#32 + Ideal.exp (-(g i))) = _
  rw [Ideal.ofBits_one_f32]
  rfl

/-- The cotangent of the hidden product, as the reference has it. -/
theorem dh_apply (df : FVec Ideal Cert.Reference2Ideal.S8192x1024 .bf16) (w : FVec Ideal Cert.Reference2Ideal.S2816x1024 .bf16)
    (r : Fin 8192) (l : Fin 2816) : Cert.Reference2Ideal.Read.val_main_v7 (F := Ideal) df w (ix2 r l) = DH df w r l := by
  rw [Cert.Reference2Ideal.Read.val_main_v7_apply]
  refine Finset.sum_congr rfl fun k _ => congrArg₂ (· * ·) (congrArg df ?_) (congrArg w ?_) <;> funext b <;> apply Fin.ext <;>
    match b with
    | ⟨0, _⟩ => rfl
    | ⟨1, _⟩ => rfl

/-- Where the stacking puts an index of the hidden width. -/
theorem place (i : Cert.Reference2Ideal.S4x8192x704.Idx) :
    Cert.Reference2Ideal.Read.idx_main_v12 (Cert.Reference2Ideal.Read.idx_main_v13 i) = ix2 (i 1) (col i) := by
  have h0 : (i 0).val < 4 := (i 0).isLt
  have h1 : (i 1).val < 8192 := (i 1).isLt
  have h2 : (i 2).val < 704 := (i 2).isLt
  funext b
  apply Fin.ext
  match b with
  | ⟨0, _⟩ => dsimp; omega
  | ⟨1, _⟩ => dsimp; omega

theorem ref_dg (df : FVec Ideal Cert.Reference2Ideal.S8192x1024 .bf16) (w : FVec Ideal Cert.Reference2Ideal.S2816x1024 .bf16)
    (g u : FVec Ideal Cert.Reference2Ideal.S8192x2816 .bf16) (i : Cert.Reference2Ideal.S4x8192x704.Idx) :
    REF_dg df w g u i = dgR (DH df w (i 1) (col i)) (u (ix2 (i 1) (col i))) (g (ix2 (i 1) (col i))) := by
  rw [REF_dg, Cert.Reference2Ideal.Read.val_main_v13_apply, Cert.Reference2Ideal.Read.val_main_v12_apply, place]
  obtain ⟨r, hr⟩ : ∃ r : Fin 8192, i 1 = r := ⟨i 1, rfl⟩
  rw [hr]
  generalize col i = l
  show Cert.Reference2Ideal.Read.val_main_v7 (F := Ideal) df w (ix2 r l) * u (ix2 r l)
      * Cert.Reference2Ideal.Read.val_main_v2_2 (F := Ideal) g (ix2 r l)
    + g (ix2 r l) * (Cert.Reference2Ideal.Read.val_main_v7 (F := Ideal) df w (ix2 r l) * u (ix2 r l))
      * (Cert.Reference2Ideal.Read.val_main_v2_2 (F := Ideal) g (ix2 r l)
        * (Ideal.ofBits .f32 0x3F800000#32 - Cert.Reference2Ideal.Read.val_main_v2_2 (F := Ideal) g (ix2 r l))) = _
  rw [logistic_apply, dh_apply, Ideal.ofBits_one_f32]

theorem ref_du (df : FVec Ideal Cert.Reference2Ideal.S8192x1024 .bf16) (w : FVec Ideal Cert.Reference2Ideal.S2816x1024 .bf16)
    (g : FVec Ideal Cert.Reference2Ideal.S8192x2816 .bf16) (i : Cert.Reference2Ideal.S4x8192x704.Idx) :
    REF_du df w g i = g (ix2 (i 1) (col i)) * Ideal.logistic (g (ix2 (i 1) (col i))) * DH df w (i 1) (col i) := by
  rw [REF_du, Cert.Reference2Ideal.Read.val_main_v16_apply, Cert.Reference2Ideal.Read.val_main_v15_apply]
  refine (congrArg (Cert.Reference2Ideal.Read.val_main_v14 (F := Ideal) df w g) (place i)).trans ?_
  obtain ⟨r, hr⟩ : ∃ r : Fin 8192, i 1 = r := ⟨i 1, rfl⟩
  rw [hr]
  generalize col i = l
  show g (ix2 r l) * Cert.Reference2Ideal.Read.val_main_v2_2 (F := Ideal) g (ix2 r l)
      * Cert.Reference2Ideal.Read.val_main_v7 (F := Ideal) df w (ix2 r l) = _
  rw [logistic_apply, dh_apply]

/-- The body's product at an index of the block. -/
theorem pay_dh (x : FVec Ideal S1024x1024 .bf16) (w : FVec Ideal S1x1x704x1024 .bf16) (j : S1024x704.Idx) :
    k0_pay1 (F := Ideal) x w j = ∑ k : Fin 1024, x (ix2 (j 0) k) * w (ix4 0 0 (j 1) k) := by
  pointwise [k0_pay1]

/-- Every window's block index at every grid point. -/
theorem idx_val : ∀ t : Fin cfg0.N, win0_0.index t = ![t.val % 8, 0]
    ∧ win0_1.index t = ![0, t.val / 8, 0, 0]
    ∧ win0_2.index t = ![t.val / 8, t.val % 8, 0]
    ∧ win0_3.index t = ![t.val / 8, t.val % 8, 0]
    ∧ win0_4.index t = ![t.val / 8, t.val % 8, 0]
    ∧ win0_5.index t = ![t.val / 8, t.val % 8, 0] :=
  (by decide +kernel : ∀ t : Fin grid0.N, _)

/-- The gate's cotangent in a block. -/
theorem pay_dg (x : FVec Ideal S1024x1024 .bf16) (w : FVec Ideal S1x1x704x1024 .bf16) (g u : FVec Ideal S1x1024x704 .bf16) (y : S1x1024x704.Idx) :
    k0_pay5 (F := Ideal) x w g u y = dgK (∑ k : Fin 1024, x (ix2 (y 1) k) * w (ix4 0 0 (y 2) k)) (u y) (g y) := by
  pointwise [k0_pay5, k0_pay3, k0_pay2, k0_pay1, dgK]

/-- The up branch's cotangent in a block. -/
theorem pay_du (x : FVec Ideal S1024x1024 .bf16) (w : FVec Ideal S1x1x704x1024 .bf16) (g : FVec Ideal S1x1024x704 .bf16) (y : S1x1024x704.Idx) :
    k0_pay4 (F := Ideal) x w g y = (∑ k : Fin 1024, x (ix2 (y 1) k) * w (ix4 0 0 (y 2) k)) * g y * Ideal.logistic (g y) := by
  pointwise [k0_pay4, k0_pay3, k0_pay2, k0_pay1]

/-- A finite number is one whose magnitude is below infinity. -/
theorem finite_of {x : EReal} (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  have h' : max x (-x) < ⊤ := by
    rw [htop] at h
    by_contra hn
    simp [Ideal.cmp, hn] at h
  rw [max_lt_iff] at h'
  refine ⟨h'.1.ne, fun hb => ?_⟩
  rw [hb] at h'
  simp at h'

/-- The precondition read back: the cotangent, the weight and the up branch have only finite elements. -/
theorem finite_read (df : FVec Ideal Cert.Pre_finite.S8192x1024 .bf16) (w : FVec Ideal Cert.Pre_finite.S2816x1024 .bf16)
    (g u : FVec Ideal Cert.Pre_finite.S8192x2816 .bf16) (h : Cert.Pre_finite.fn (F := Ideal) df w g u = fun _ => 1#1) :
    (∀ i, (df i : EReal) ≠ ⊤ ∧ (df i : EReal) ≠ ⊥) ∧ (∀ i, (w i : EReal) ≠ ⊤ ∧ (w i : EReal) ≠ ⊥) ∧ ∀ i, (u i : EReal) ≠ ⊤ ∧ (u i : EReal) ≠ ⊥ := by
  haveI : Subsingleton Cert.Pre_finite.S_.Idx := ⟨fun a b => funext fun k => k.elim0⟩
  have h0 := congrFun h (fun a => a.elim0)
  obtain ⟨h1, h2⟩ := IntOp.andi_eq_one.mp h0
  obtain ⟨h3, h4⟩ := IntOp.andi_eq_one.mp h1
  exact ⟨fun i => finite_of (Host.reduce_andi_all _ _ _ _ _ h3 i), fun i => finite_of (Host.reduce_andi_all _ _ _ _ _ h4 i),
    fun i => finite_of (Host.reduce_andi_all _ _ _ _ _ h2 i)⟩

theorem finite_mul {x y : EReal} (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact ⟨EReal.coe_ne_top _, EReal.coe_ne_bot _⟩

theorem finite_add {x y : EReal} (hx : x ≠ ⊤ ∧ x ≠ ⊥) (hy : y ≠ ⊤ ∧ y ≠ ⊥) : x + y ≠ ⊤ ∧ x + y ≠ ⊥ := by
  lift x to ℝ using hx
  lift y to ℝ using hy
  rw [← EReal.coe_add]
  exact ⟨EReal.coe_ne_top _, EReal.coe_ne_bot _⟩

theorem finite_sum {n : Nat} (f : Fin n → EReal) (hf : ∀ k, f k ≠ ⊤ ∧ f k ≠ ⊥) : ∑ k, f k ≠ ⊤ ∧ ∑ k, f k ≠ ⊥ :=
  Finset.sum_induction f (fun x => x ≠ ⊤ ∧ x ≠ ⊥) (fun _ _ => finite_add) ⟨EReal.zero_ne_top, EReal.zero_ne_bot⟩ fun k _ => hf k

/-- The gate's cotangent the kernel leaves is the reference's. -/
theorem final_dg (h : ∀ c : Dev nD, Cert.Pre_finite.fn (F := Ideal) (m ((c : Thread nD τ).loc main_arg0)) (m ((c : Thread nD τ).loc main_arg1)) (m ((c : Thread nD τ).loc main_arg2)) (m ((c : Thread nD τ).loc main_arg3)) = fun _ => 1#1) (c : Dev nD) :
    (dats m 0 c).arrAt 4 (cfgs 0).N
      = REF_dg (m ((c : Thread nD τ).loc main_arg0)) (m ((c : Thread nD τ).loc main_arg1)) (m ((c : Thread nD τ).loc main_arg2)) (m ((c : Thread nD τ).loc main_arg3)) := by
  obtain ⟨hd, hw, hu⟩ := finite_read _ _ _ _ (h c)
  refine (dats m 0 c).arrAt_eq_of_covers 4 _ (by decide +kernel) fun t hf y => ?_
  blk_simp
  rw [after0_4]
  frame_out
  rw [pay_dg, ref_dg]
  have e := dg_eq (finite_sum _ fun k => finite_mul (hd (ix2 ((((cfg0.win 4).blk t).view.emb y) 1) k)) (hw (ix2 (col (((cfg0.win 4).blk t).view.emb y)) k)))
    (hu (ix2 ((((cfg0.win 4).blk t).view.emb y) 1) (col (((cfg0.win 4).blk t).view.emb y))))
    (m ((c : Thread nD τ).loc main_arg2) (ix2 ((((cfg0.win 4).blk t).view.emb y) 1) (col (((cfg0.win 4).blk t).view.emb y))))
  refine Eq.trans ?_ e
  unfold dgK
  have a0 : (y 0).val < 1 := (y 0).isLt
  have a1 : (y 1).val < 1024 := (y 1).isLt
  have a2 : (y 2).val < 704 := (y 2).isLt
  refine congrArg₂ (· * ·) (congrArg₂ (· * ·) (Finset.sum_congr rfl fun k _ => ?_) ?_) (congrArg (fun g => Ideal.logistic g * (1 + g * (1 - Ideal.logistic g))) ?_) <;>
    blk_point [iblk, V, idx_val t]
  all_goals
    have e0 : ((((cfg0.win 4).blk t).view.emb y) 0).val = t.val / 8 + (y 0).val := by
      blk_simp [idx_val t]
    have e2 : ((((cfg0.win 4).blk t).view.emb y) 2).val = (y 2).val := by
      blk_simp [idx_val t]
    refine Eq.trans ?_ (congrArg₂ (fun a b => a * 704 + b) e0 e2).symm
    omega

/-- The up branch's cotangent the kernel leaves is the reference's. -/
theorem final_du (c : Dev nD) : (dats m 0 c).arrAt 5 (cfgs 0).N
    = REF_du (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  rw [pay_du, ref_du]
  refine Eq.trans ?_ (@mul_comm EReal _ _ _)
  refine (@mul_assoc EReal _ _ _ _).trans ?_
  have a0 : (y 0).val < 1 := (y 0).isLt
  have a1 : (y 1).val < 1024 := (y 1).isLt
  have a2 : (y 2).val < 704 := (y 2).isLt
  refine congrArg₂ (· * ·) (Finset.sum_congr rfl fun k _ => ?_) (congrArg (fun g => g * Ideal.logistic g) ?_) <;>
    blk_point [iblk, V, idx_val t]
  all_goals
    have e0 : ((((cfg0.win 5).blk t).view.emb y) 0).val = t.val / 8 + (y 0).val := by
      blk_simp [idx_val t]
    have e2 : ((((cfg0.win 5).blk t).view.emb y) 2).val = (y 2).val := by
      blk_simp [idx_val t]
    refine Eq.trans ?_ (congrArg₂ (fun a b => a * 704 + b) e0 e2).symm
    omega

end Cert.Kernel2Ideal.Value

end
-- ==== Proof.UpGrad.lean ====
/- The value of the gradient into the gate and up projections' input: per token block the kernel adds eight products,
   one per quarter of the hidden width and projection; the reference adds two products over the whole width. -/
module

public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit

@[expose] public section

set_option maxRecDepth 16384

noncomputable section

namespace Cert.Kernel3Ideal.Value

open Cert.Kernel3Ideal Cert.Kernel3Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- What the reference computes from the two cotangents and the two weights. -/
abbrev REF (dg du : FVec Ideal Cert.Reference3Ideal.S8192x2816 .bf16) (wg wu : FVec Ideal Cert.Reference3Ideal.S1024x2816 .bf16) :
    FVec Ideal Cert.Reference3Ideal.S8192x1024 .f32 :=
  Cert.Reference3Ideal.Read.val_main_v9 (F := Ideal) dg du wg wu

/-- The reference's element: the up product plus the gate product. -/
theorem ref_apply (dg du : FVec Ideal Cert.Reference3Ideal.S8192x2816 .bf16) (wg wu : FVec Ideal Cert.Reference3Ideal.S1024x2816 .bf16)
    (i : Cert.Reference3Ideal.S8192x1024.Idx) :
    REF dg du wg wu i = (∑ l : Fin 2816, du (ix2 (i 0) l) * wu (ix2 (i 1) l)) + ∑ l : Fin 2816, dg (ix2 (i 0) l) * wg (ix2 (i 1) l) := by
  rw [REF, Cert.Reference3Ideal.Read.val_main_v9_apply, Cert.Reference3Ideal.Read.val_main_v7_apply,
    Cert.Reference3Ideal.Read.val_main_v8_apply]
  refine congrArg₂ (· + ·) ?_ ?_ <;> refine Finset.sum_congr rfl fun l _ => ?_ <;>
    refine congrArg₂ (· * ·) (congrArg _ ?_) (congrArg _ ?_) <;> funext b <;> apply Fin.ext <;>
    match b with
    | ⟨0, _⟩ => rfl
    | ⟨1, _⟩ => rfl

/-- One quarter's product at an index of the token block. -/
abbrev P (x : FVec Ideal S1x512x704 .bf16) (w : FVec Ideal S1x1x704x1024 .bf16) (j : S512x1024.Idx) : EReal :=
  ∑ k : Fin 704, x (ix3 0 (j 0) k) * w (ix4 0 0 k (j 1))

/-- The body's payload: the eight products added up. -/
theorem pay_apply (x0 : FVec Ideal S1x512x704 .bf16) (w0 : FVec Ideal S1x1x704x1024 .bf16) (x1 : FVec Ideal S1x512x704 .bf16) (w1 : FVec Ideal S1x1x704x1024 .bf16) (x2 : FVec Ideal S1x512x704 .bf16) (w2 : FVec Ideal S1x1x704x1024 .bf16) (x3 : FVec Ideal S1x512x704 .bf16) (w3 : FVec Ideal S1x1x704x1024 .bf16) (x4 : FVec Ideal S1x512x704 .bf16) (w4 : FVec Ideal S1x1x704x1024 .bf16) (x5 : FVec Ideal S1x512x704 .bf16) (w5 : FVec Ideal S1x1x704x1024 .bf16) (x6 : FVec Ideal S1x512x704 .bf16) (w6 : FVec Ideal S1x1x704x1024 .bf16) (x7 : FVec Ideal S1x512x704 .bf16) (w7 : FVec Ideal S1x1x704x1024 .bf16) (j : S512x1024.Idx) :
    k0_pay1 (F := Ideal) (k0_pay2 (F := Ideal) x0 w0 x1 w1 x2 w2 x3 w3) x4 w4 x5 w5 x6 w6 x7 w7 j
      = P x0 w0 j + P x1 w1 j + P x2 w2 j + P x3 w3 j + P x4 w4 j + P x5 w5 j + P x6 w6 j + P x7 w7 j := by
  pointwise [k0_pay1, k0_pay2]

/-- A sum over the hidden width is the sum of the four quarters' sums. -/
theorem quarters (f : Fin 2816 → EReal) :
    ∑ l, f l = (∑ k : Fin 704, f ⟨k.val, by omega⟩) + (∑ k : Fin 704, f ⟨704 + k.val, by omega⟩)
      + (∑ k : Fin 704, f ⟨1408 + k.val, by omega⟩) + ∑ k : Fin 704, f ⟨2112 + k.val, by omega⟩ := by
  rw [← Fin.sum_mul_add_congr (F := fun (s : Fin 4) (k : Fin 704) => f ⟨s.val * 704 + k.val, by omega⟩) fun s k hl => rfl,
    Fin.sum_univ_four]
  rfl

/-- Every window's block index at every grid point. -/
theorem idx_val : ∀ t : Fin cfg0.N, win0_0.index t = ![0, t.val, 0]
    ∧ win0_1.index t = ![0, 0, 0, 0]
    ∧ win0_2.index t = ![0, t.val, 0]
    ∧ win0_3.index t = ![0, 0, 0, 0]
    ∧ win0_4.index t = ![1, t.val, 0]
    ∧ win0_5.index t = ![0, 1, 0, 0]
    ∧ win0_6.index t = ![1, t.val, 0]
    ∧ win0_7.index t = ![0, 1, 0, 0]
    ∧ win0_8.index t = ![2, t.val, 0]
    ∧ win0_9.index t = ![0, 2, 0, 0]
    ∧ win0_10.index t = ![2, t.val, 0]
    ∧ win0_11.index t = ![0, 2, 0, 0]
    ∧ win0_12.index t = ![3, t.val, 0]
    ∧ win0_13.index t = ![0, 3, 0, 0]
    ∧ win0_14.index t = ![3, t.val, 0]
    ∧ win0_15.index t = ![0, 3, 0, 0]
    ∧ win0_16.index t = ![t.val, 0] :=
  (by decide +kernel : ∀ t : Fin grid0.N, _)

set_option maxHeartbeats 1600000 in
/-- The array the kernel leaves is the reference's. -/
theorem final (c : Dev nD) : (dats m 0 c).arrAt 16 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 16 _ (by decide +kernel) fun t hf y => ?_
  blk_simp
  rw [after0_16]
  frame_out
  rw [pay_apply, ref_apply, quarters, quarters]
  refine Eq.trans ?_ (@add_comm EReal _ _ _)
  refine Eq.trans (b := (P (iblk m c 0 t) (iblk m c 1 t) y + P (iblk m c 4 t) (iblk m c 5 t) y + P (iblk m c 8 t) (iblk m c 9 t) y + P (iblk m c 12 t) (iblk m c 13 t) y)
    + (P (iblk m c 2 t) (iblk m c 3 t) y + P (iblk m c 6 t) (iblk m c 7 t) y + P (iblk m c 10 t) (iblk m c 11 t) y + P (iblk m c 14 t) (iblk m c 15 t) y)) (by ac_rfl) ?_
  have h0 : (y 0).val < 512 := (y 0).isLt
  have h1 : (y 1).val < 1024 := (y 1).isLt
  refine congrArg₂ (· + ·) (congrArg₂ (· + ·) (congrArg₂ (· + ·) (congrArg₂ (· + ·) ?_ ?_) ?_) ?_)
    (congrArg₂ (· + ·) (congrArg₂ (· + ·) (congrArg₂ (· + ·) ?_ ?_) ?_) ?_) <;>
    refine Finset.sum_congr rfl fun k _ => ?_ <;> blk_point [iblk, V, idx_val t]

end Cert.Kernel3Ideal.Value

end
-- ==== Proof.WgradUp.lean ====
/- The values of the gate and up projections' weight gradients: the two accumulators the kernel carries over the four
   quarters of the tokens are the whole contractions over the tokens. -/
module

public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit

@[expose] public section

set_option maxRecDepth 16384

noncomputable section

namespace Cert.Kernel4Ideal.Value

open Cert.Kernel4Ideal Cert.Kernel4Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- What the reference computes for the gate projection from the layer's input `h` and the cotangent `d`. -/
abbrev REF_gate (h : FVec Ideal Cert.Reference4Ideal.S8192x1024 .bf16) (d : FVec Ideal Cert.Reference4Ideal.S8192x2816 .bf16) :
    FVec Ideal Cert.Reference4Ideal.S1x4x704x1024 .f32 :=
  Cert.Reference4Ideal.Read.val_main_v12 (F := Ideal) h d

/-- What the reference computes for the up projection. -/
abbrev REF_up (h : FVec Ideal Cert.Reference4Ideal.S8192x1024 .bf16) (d : FVec Ideal Cert.Reference4Ideal.S8192x2816 .bf16) :
    FVec Ideal Cert.Reference4Ideal.S1x4x704x1024 .f32 :=
  Cert.Reference4Ideal.Read.val_main_v14 (F := Ideal) h d

/-- The gate gradient's element: the contraction over all the tokens. -/
theorem gate_apply (h : FVec Ideal Cert.Reference4Ideal.S8192x1024 .bf16) (d : FVec Ideal Cert.Reference4Ideal.S8192x2816 .bf16)
    (i : Cert.Reference4Ideal.S1x4x704x1024.Idx) :
    REF_gate h d i = ∑ l : Fin 8192, d (ix2 l ⟨(i 1).val * 704 + (i 2).val, by
      have h1 : (i 1).val < 4 := (i 1).isLt; have h2 : (i 2).val < 704 := (i 2).isLt; omega⟩) * h (ix2 l (i 3)) := by
  have h0 : (i 0).val < 1 := (i 0).isLt
  have h1 : (i 1).val < 4 := (i 1).isLt
  have h2 : (i 2).val < 704 := (i 2).isLt
  have h3 : (i 3).val < 1024 := (i 3).isLt
  rw [REF_gate, Cert.Reference4Ideal.Read.val_main_v12_apply, Cert.Reference4Ideal.Read.val_main_v11_apply,
    Cert.Reference4Ideal.Read.val_main_v10_apply, Cert.Reference4Ideal.Read.val_main_v9_apply]
  refine Finset.sum_congr rfl fun l _ => ?_
  refine congrArg₂ (· * ·) (congrArg d ?_) (congrArg h ?_) <;> funext b <;> apply Fin.ext <;>
    match b with
    | ⟨0, _⟩ => rfl
    | ⟨1, _⟩ => dsimp; omega

/-- The up gradient's element: the contraction over all the tokens. -/
theorem up_apply (h : FVec Ideal Cert.Reference4Ideal.S8192x1024 .bf16) (d : FVec Ideal Cert.Reference4Ideal.S8192x2816 .bf16)
    (i : Cert.Reference4Ideal.S1x4x704x1024.Idx) :
    REF_up h d i = ∑ l : Fin 8192, d (ix2 l ⟨(i 1).val * 704 + (i 2).val, by
      have h1 : (i 1).val < 4 := (i 1).isLt; have h2 : (i 2).val < 704 := (i 2).isLt; omega⟩) * h (ix2 l (i 3)) := by
  have h0 : (i 0).val < 1 := (i 0).isLt
  have h1 : (i 1).val < 4 := (i 1).isLt
  have h2 : (i 2).val < 704 := (i 2).isLt
  have h3 : (i 3).val < 1024 := (i 3).isLt
  rw [REF_up, Cert.Reference4Ideal.Read.val_main_v14_apply, Cert.Reference4Ideal.Read.val_main_v13_apply,
    Cert.Reference4Ideal.Read.val_main_v8_apply, Cert.Reference4Ideal.Read.val_main_v7_apply]
  refine Finset.sum_congr rfl fun l _ => ?_
  refine congrArg₂ (· * ·) (congrArg d ?_) (congrArg h ?_) <;> funext b <;> apply Fin.ext <;>
    match b with
    | ⟨0, _⟩ => rfl
    | ⟨1, _⟩ => dsimp; omega

/-- Every window's block index at every grid point. -/
theorem idx_val : ∀ t : Fin cfg0.N, win0_0.index t = ![t.val % 4, 0]
    ∧ win0_1.index t = ![t.val / 4, t.val % 4, 0]
    ∧ win0_2.index t = ![t.val / 4, t.val % 4, 0]
    ∧ win0_3.index t = ![0, t.val / 4, 0, 0]
    ∧ win0_4.index t = ![0, t.val / 4, 0, 0] :=
  (by decide +kernel : ∀ t : Fin grid0.N, _)

/-- The first quarter's payloads: the products over that quarter of the tokens. -/
theorem first_gate (h : FVec Ideal S2048x1024 .bf16) (d : FVec Ideal S1x2048x704 .bf16) (j : S704x1024.Idx) :
    k0_pay3 (F := Ideal) h d j = 0 + ∑ k : Fin 2048, d (ix3 0 k (j 0)) * h (ix2 k (j 1)) := by
  pointwise [k0_pay3, k0_pay1]
theorem first_up (h : FVec Ideal S2048x1024 .bf16) (d : FVec Ideal S1x2048x704 .bf16) (j : S704x1024.Idx) :
    k0_pay4 (F := Ideal) h d j = 0 + ∑ k : Fin 2048, d (ix3 0 k (j 0)) * h (ix2 k (j 1)) := by
  pointwise [k0_pay4, k0_pay2]

/-- The later quarters' payloads add their products to what the quarter before left. -/
theorem next_gate (h : FVec Ideal S2048x1024 .bf16) (d : FVec Ideal S1x2048x704 .bf16) (acc : FVec Ideal S704x1024 .f32) (j : S704x1024.Idx) :
    k0_pay5 (F := Ideal) h d acc j = acc j + ∑ k : Fin 2048, d (ix3 0 k (j 0)) * h (ix2 k (j 1)) := by
  pointwise [k0_pay5, k0_pay1]
theorem next_up (h : FVec Ideal S2048x1024 .bf16) (d : FVec Ideal S1x2048x704 .bf16) (acc : FVec Ideal S704x1024 .f32) (j : S704x1024.Idx) :
    k0_pay6 (F := Ideal) h d acc j = acc j + ∑ k : Fin 2048, d (ix3 0 k (j 0)) * h (ix2 k (j 1)) := by
  pointwise [k0_pay6, k0_pay2]

/-- At the point that writes a block back, the block is the accumulator re-laid. -/
theorem out_gate (c : Dev nD) (t : Fin cfg0.N) (h : t.val % 4 = 3) :
    (outsAt0 m c t.val t.isLt).1 = k0_pay7 (F := Ideal) (outsAt0 m c t.val t.isLt).2.2.1 := by
  rw [outsAt0_C m c t (by omega) (by omega) h]
  frame_out
theorem out_up (c : Dev nD) (t : Fin cfg0.N) (h : t.val % 4 = 3) :
    (outsAt0 m c t.val t.isLt).2.1 = k0_pay8 (F := Ideal) (outsAt0 m c t.val t.isLt).2.2.2 := by
  rw [outsAt0_C m c t (by omega) (by omega) h]
  frame_out

theorem final_gate (c : Dev nD) : (dats m 0 c).arrAt 3 (cfgs 0).N
    = REF_gate (m ((c : Thread nD τ).loc main_arg0)) (m ((c : Thread nD τ).loc main_arg1)) := by
  refine (dats m 0 c).arrAt_eq_of_covers 3 _ (by decide +kernel) fun t hf y => ?_
  have ht : t.val % 4 = 3 := (flush0_3 t).mp hf
  blk_simp
  rw [after0_3, out_gate m c t ht]
  rw [show ∀ v : FVec Ideal S704x1024 .f32, k0_pay7 (F := Ideal) v y = v (ix2 (y 2) (y 3)) from fun v => by pointwise [k0_pay7]]
  rw [Pipeline.eq_sum_fin_of_reset_step_apply_of_flush (fun n h => (outsAt0 m c n h).2.2.1) 4 (fun _ => 0) _
    (fun t h j => by rw [outsAt0_A m c t h (by omega) (by omega)]; frame_out; rw [first_gate])
    (fun t h j => by
      by_cases h3 : t.val % 4 = 3
      · rw [outsAt0_C m c t h (by omega) h3]; frame_out; rw [next_gate, (Memref.isWhole_whole _).read_unread]
      · rw [outsAt0_B m c t h (by omega) h3]; frame_out; rw [next_gate, (Memref.isWhole_whole _).read_unread]) t ht _, zero_add, gate_apply]
  refine Fin.sum_mul_add_congr fun s k hl => ?_
  blk_point [iblk, V, idx_val t, idx_val ⟨_, Pipeline.run_point_lt_of_flush t ht s⟩]

theorem final_up (c : Dev nD) : (dats m 0 c).arrAt 4 (cfgs 0).N
    = REF_up (m ((c : Thread nD τ).loc main_arg0)) (m ((c : Thread nD τ).loc main_arg2)) := by
  refine (dats m 0 c).arrAt_eq_of_covers 4 _ (by decide +kernel) fun t hf y => ?_
  have ht : t.val % 4 = 3 := (flush0_4 t).mp hf
  blk_simp
  rw [after0_4, out_up m c t ht]
  rw [show ∀ v : FVec Ideal S704x1024 .f32, k0_pay8 (F := Ideal) v y = v (ix2 (y 2) (y 3)) from fun v => by pointwise [k0_pay8]]
  rw [Pipeline.eq_sum_fin_of_reset_step_apply_of_flush (fun n h => (outsAt0 m c n h).2.2.2) 4 (fun _ => 0) _
    (fun t h j => by rw [outsAt0_A m c t h (by omega) (by omega)]; frame_out; rw [first_up])
    (fun t h j => by
      by_cases h3 : t.val % 4 = 3
      · rw [outsAt0_C m c t h (by omega) h3]; frame_out; rw [next_up, (Memref.isWhole_whole _).read_unread]
      · rw [outsAt0_B m c t h (by omega) h3]; frame_out; rw [next_up, (Memref.isWhole_whole _).read_unread]) t ht _, zero_add, up_apply]
  refine Fin.sum_mul_add_congr fun s k hl => ?_
  blk_point [iblk, V, idx_val t, idx_val ⟨_, Pipeline.run_point_lt_of_flush t ht s⟩]

end Cert.Kernel4Ideal.Value

end
-- ==== Proof.WgradDown.lean ====
/- The value of the down projection's weight gradient: the accumulator the kernel carries over the two halves of the
   tokens is the whole contraction over the tokens, which is what the reference's one product contracts. -/
module

public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit

@[expose] public section

set_option maxRecDepth 16384

noncomputable section

namespace Cert.Kernel5Ideal.Value

open Cert.Kernel5Ideal Cert.Kernel5Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- What the reference computes from the hidden activations `a` and the cotangent `d`. -/
abbrev REF (a : FVec Ideal Cert.Reference5Ideal.S8192x2816 .bf16) (d : FVec Ideal Cert.Reference5Ideal.S8192x1024 .bf16) :
    FVec Ideal Cert.Reference5Ideal.S1x4x704x1024 .f32 :=
  Cert.Reference5Ideal.Read.val_main_v6 (F := Ideal) a d

/-- The reference's element: the contraction over all the tokens. -/
theorem ref_apply (a : FVec Ideal Cert.Reference5Ideal.S8192x2816 .bf16) (d : FVec Ideal Cert.Reference5Ideal.S8192x1024 .bf16)
    (i : Cert.Reference5Ideal.S1x4x704x1024.Idx) :
    REF a d i = ∑ l : Fin 8192, d (ix2 l (i 3)) * a (ix2 l ⟨(i 1).val * 704 + (i 2).val, by
      have h1 : (i 1).val < 4 := (i 1).isLt; have h2 : (i 2).val < 704 := (i 2).isLt; omega⟩) := by
  have h0 : (i 0).val < 1 := (i 0).isLt
  have h1 : (i 1).val < 4 := (i 1).isLt
  have h2 : (i 2).val < 704 := (i 2).isLt
  have h3 : (i 3).val < 1024 := (i 3).isLt
  rw [REF, Cert.Reference5Ideal.Read.val_main_v6_apply, Cert.Reference5Ideal.Read.val_main_v5_apply,
    Cert.Reference5Ideal.Read.val_main_v4_apply]
  refine Finset.sum_congr rfl fun l _ => ?_
  refine congrArg₂ (· * ·) (congrArg d ?_) (congrArg a ?_) <;> funext b <;> apply Fin.ext <;>
    match b with
    | ⟨0, _⟩ => rfl
    | ⟨1, _⟩ => dsimp; omega

/-- Every window's block index at every grid point. -/
theorem idx_val : ∀ t : Fin cfg0.N, win0_0.index t = ![t.val / 2, t.val % 2, 0]
    ∧ win0_1.index t = ![t.val % 2, 0]
    ∧ win0_2.index t = ![0, t.val / 2, 0, 0] :=
  (by decide +kernel : ∀ t : Fin grid0.N, _)

/-- The first half's payload: the product over that half of the tokens. -/
theorem first_apply (x : FVec Ideal S1x4096x704 .bf16) (d : FVec Ideal S4096x1024 .bf16) (j : S704x1024.Idx) :
    k0_pay2 (F := Ideal) x d j = 0 + ∑ k : Fin 4096, x (ix3 0 k (j 0)) * d (ix2 k (j 1)) := by
  pointwise [k0_pay2, k0_pay1]

/-- The second half's payload adds its product to what the first left. -/
theorem next_apply (x : FVec Ideal S1x4096x704 .bf16) (d : FVec Ideal S4096x1024 .bf16) (acc : FVec Ideal S704x1024 .f32) (j : S704x1024.Idx) :
    k0_pay3 (F := Ideal) x d acc j = acc j + ∑ k : Fin 4096, x (ix3 0 k (j 0)) * d (ix2 k (j 1)) := by
  pointwise [k0_pay3, k0_pay1]

/-- At the point that writes a block back, the block is the accumulator re-laid. -/
theorem out_eq (c : Dev nD) (t : Fin cfg0.N) (h : t.val % 2 = 1) :
    (outsAt0 m c t.val t.isLt).1 = k0_pay4 (F := Ideal) (outsAt0 m c t.val t.isLt).2 := by
  rw [outsAt0_B m c t (by omega) h h]
  frame_out

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  blk_simp
  rw [after0_2, out_eq m c t ht]
  rw [show ∀ v : FVec Ideal S704x1024 .f32, k0_pay4 (F := Ideal) v y = v (ix2 (y 2) (y 3)) from fun v => by pointwise [k0_pay4]]
  rw [Pipeline.eq_sum_fin_of_reset_step_apply_of_flush (fun n h => (outsAt0 m c n h).2) 2 (fun _ => 0) _
    (fun t h j => by rw [outsAt0_A m c t h (by omega) (by omega)]; frame_out; rw [first_apply])
    (fun t h j => by rw [outsAt0_B m c t h (by omega) (by omega)]; frame_out; rw [next_apply, (Memref.isWhole_whole _).read_unread]) t ht _, zero_add, ref_apply]
  refine Fin.sum_mul_add_congr fun s k hl => ?_
  refine Eq.trans ?_ (EReal.mul_comm _ _)
  blk_point [iblk, V, idx_val t, idx_val ⟨_, Pipeline.run_point_lt_of_flush t ht s⟩]

end Cert.Kernel5Ideal.Value

end
-- ==== Proof.UpForward.lean ====
/- The value of the feed-forward layer's first call: the gate, the up branch and their product `silu g · u`, each block
   of tokens and quarter of the hidden width at a time. -/
module

public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit

@[expose] public section

set_option maxRecDepth 16384

noncomputable section

namespace Cert.Kernel6Ideal.Value

open Cert.Kernel6Ideal Cert.Kernel6Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- A projection of the input at a token and a hidden coordinate. -/
abbrev PR (h : FVec Ideal Cert.Reference6Ideal.S8192x1024 .bf16) (w : FVec Ideal Cert.Reference6Ideal.S1024x2816 .bf16) (r : Fin 8192) (l : Fin 2816) : EReal := ∑ k : Fin 1024, h (ix2 r k) * w (ix2 k l)

/-- The hidden coordinate that a stacked index stands for. -/
abbrev col (i : Cert.Reference6Ideal.S4x8192x704.Idx) : Fin 2816 := ⟨(i 0).val * 704 + (i 2).val, by
  have h0 : (i 0).val < 4 := (i 0).isLt; have h2 : (i 2).val < 704 := (i 2).isLt; omega⟩

/-- The hidden product of a gate value and an up value. -/
abbrev hid (g u : EReal) : EReal := g * Ideal.logistic g * u

/-- The reference's first product at an element. -/
theorem gate_apply (h : FVec Ideal Cert.Reference6Ideal.S8192x1024 .bf16) (w : FVec Ideal Cert.Reference6Ideal.S1024x2816 .bf16) (r : Fin 8192) (l : Fin 2816) : Cert.Reference6Ideal.Read.val_main_v2 (F := Ideal) h w (ix2 r l) = PR h w r l := by
  rw [Cert.Reference6Ideal.Read.val_main_v2_apply]
  refine Finset.sum_congr rfl fun k _ => congrArg₂ (· * ·) (congrArg h ?_) (congrArg w ?_) <;> funext b <;> apply Fin.ext <;>
    match b with
    | ⟨0, _⟩ => rfl
    | ⟨1, _⟩ => rfl

/-- The reference's second product at an element. -/
theorem up_apply (h : FVec Ideal Cert.Reference6Ideal.S8192x1024 .bf16) (w : FVec Ideal Cert.Reference6Ideal.S1024x2816 .bf16) (r : Fin 8192) (l : Fin 2816) : Cert.Reference6Ideal.Read.val_main_v5 (F := Ideal) h w (ix2 r l) = PR h w r l := by
  rw [Cert.Reference6Ideal.Read.val_main_v5_apply]
  refine Finset.sum_congr rfl fun k _ => congrArg₂ (· * ·) (congrArg h ?_) (congrArg w ?_) <;> funext b <;> apply Fin.ext <;>
    match b with
    | ⟨0, _⟩ => rfl
    | ⟨1, _⟩ => rfl

/-- Where the stacking puts an index of the hidden width. -/
theorem place (i : Cert.Reference6Ideal.S4x8192x704.Idx) :
    Cert.Reference6Ideal.Read.idx_main_v9 (Cert.Reference6Ideal.Read.idx_main_v10 i) = ix2 (i 1) (col i) := by
  have h0 : (i 0).val < 4 := (i 0).isLt
  have h1 : (i 1).val < 8192 := (i 1).isLt
  have h2 : (i 2).val < 704 := (i 2).isLt
  funext b
  apply Fin.ext
  match b with
  | ⟨0, _⟩ => dsimp; omega
  | ⟨1, _⟩ => dsimp; omega

/-- The reference's gate. -/
theorem ref_g (h : FVec Ideal Cert.Reference6Ideal.S8192x1024 .bf16) (w : FVec Ideal Cert.Reference6Ideal.S1024x2816 .bf16) (i : Cert.Reference6Ideal.S4x8192x704.Idx) :
    Cert.Reference6Ideal.Read.val_main_v10 (F := Ideal) h w i = PR h w (i 1) (col i) := by
  rw [Cert.Reference6Ideal.Read.val_main_v10_apply, Cert.Reference6Ideal.Read.val_main_v9_apply, place]
  exact gate_apply h w (i 1) (col i)

/-- The reference's up branch. -/
theorem ref_u (h : FVec Ideal Cert.Reference6Ideal.S8192x1024 .bf16) (w : FVec Ideal Cert.Reference6Ideal.S1024x2816 .bf16) (i : Cert.Reference6Ideal.S4x8192x704.Idx) :
    Cert.Reference6Ideal.Read.val_main_v13 (F := Ideal) h w i = PR h w (i 1) (col i) := by
  rw [Cert.Reference6Ideal.Read.val_main_v13_apply, Cert.Reference6Ideal.Read.val_main_v12_apply]
  refine (congrArg (Cert.Reference6Ideal.Read.val_main_v11 (F := Ideal) h w) (place i)).trans ?_
  exact up_apply h w (i 1) (col i)

/-- The reference's hidden product. -/
theorem ref_hid (h : FVec Ideal Cert.Reference6Ideal.S8192x1024 .bf16) (wg wu : FVec Ideal Cert.Reference6Ideal.S1024x2816 .bf16) (i : Cert.Reference6Ideal.S4x8192x704.Idx) :
    Cert.Reference6Ideal.Read.val_main_v16 (F := Ideal) h wg wu i = hid (PR h wg (i 1) (col i)) (PR h wu (i 1) (col i)) := by
  rw [Cert.Reference6Ideal.Read.val_main_v16_apply, Cert.Reference6Ideal.Read.val_main_v15_apply]
  refine (congrArg (Cert.Reference6Ideal.Read.val_main_v14 (F := Ideal) h wg wu) (place i)).trans ?_
  obtain ⟨r, hr⟩ : ∃ r : Fin 8192, i 1 = r := ⟨i 1, rfl⟩
  rw [hr]
  generalize col i = l
  show Cert.Reference6Ideal.Read.val_main_v2 (F := Ideal) h wg (ix2 r l)
      * Ideal.div (Ideal.ofBits .f32 0x3F800000#32) (Ideal.ofBits .f32 0x3F800000#32
        + Ideal.exp (-(Cert.Reference6Ideal.Read.val_main_v2 (F := Ideal) h wg (ix2 r l))))
      * Cert.Reference6Ideal.Read.val_main_v5 (F := Ideal) h wu (ix2 r l) = _
  rw [gate_apply, up_apply, Ideal.ofBits_one_f32]
  rfl

/-- Every window's block index at every grid point. -/
theorem idx_val : ∀ t : Fin cfg0.N, win0_0.index t = ![t.val % 8, 0]
    ∧ win0_1.index t = ![0, t.val / 8, 0, 0]
    ∧ win0_2.index t = ![0, t.val / 8, 0, 0]
    ∧ win0_3.index t = ![t.val / 8, t.val % 8, 0]
    ∧ win0_4.index t = ![t.val / 8, t.val % 8, 0]
    ∧ win0_5.index t = ![t.val / 8, t.val % 8, 0] :=
  (by decide +kernel : ∀ t : Fin grid0.N, _)

/-- A projection of a block of tokens. -/
abbrev B (x : FVec Ideal S1024x1024 .bf16) (w : FVec Ideal S1x1x704x1024 .bf16) (y : S1x1024x704.Idx) : EReal :=
  ∑ k : Fin 1024, x (ix2 (y 1) k) * w (ix4 0 0 (y 2) k)

/-- The gate in a block. -/
theorem pay_g (x : FVec Ideal S1024x1024 .bf16) (w : FVec Ideal S1x1x704x1024 .bf16) (y : S1x1024x704.Idx) :
    k0_pay3 (F := Ideal) x w y = B x w y := by
  pointwise [k0_pay3, k0_pay1]

/-- The up branch in a block. -/
theorem pay_u (x : FVec Ideal S1024x1024 .bf16) (w : FVec Ideal S1x1x704x1024 .bf16) (y : S1x1024x704.Idx) :
    k0_pay4 (F := Ideal) x w y = B x w y := by
  pointwise [k0_pay4, k0_pay2]

/-- The hidden product in a block. -/
theorem pay_hid (x : FVec Ideal S1024x1024 .bf16) (wg wu : FVec Ideal S1x1x704x1024 .bf16) (y : S1x1024x704.Idx) :
    k0_pay5 (F := Ideal) x wg wu y = hid (B x wg y) (B x wu y) := by
  pointwise [k0_pay5, k0_pay2, k0_pay1, hid]

/-- A block's gate projection is the arguments' projection at the place of the block. -/
theorem block_gate (c : Dev nD) (t : Fin cfg0.N) (y : S1x1024x704.Idx) (i : Cert.Reference6Ideal.S4x8192x704.Idx) (e0 : (i 0).val = t.val / 8)
    (e1 : (i 1).val = t.val % 8 * 1024 + (y 1).val) (e2 : (i 2).val = (y 2).val) : B (iblk m c 0 t) (iblk m c 1 t) y
      = PR (m ((c : Thread nD τ).loc main_arg0)) (m ((c : Thread nD τ).loc main_arg1)) (i 1) (col i) := by
  have a1 : (y 1).val < 1024 := (y 1).isLt
  have a2 : (y 2).val < 704 := (y 2).isLt
  refine Finset.sum_congr rfl fun k _ => ?_
  blk_point [iblk, V, idx_val t]
  all_goals (try dsimp only); omega

/-- A block's up projection is the arguments' projection at the place of the block. -/
theorem block_up (c : Dev nD) (t : Fin cfg0.N) (y : S1x1024x704.Idx) (i : Cert.Reference6Ideal.S4x8192x704.Idx) (e0 : (i 0).val = t.val / 8)
    (e1 : (i 1).val = t.val % 8 * 1024 + (y 1).val) (e2 : (i 2).val = (y 2).val) : B (iblk m c 0 t) (iblk m c 2 t) y
      = PR (m ((c : Thread nD τ).loc main_arg0)) (m ((c : Thread nD τ).loc main_arg2)) (i 1) (col i) := by
  have a1 : (y 1).val < 1024 := (y 1).isLt
  have a2 : (y 2).val < 704 := (y 2).isLt
  refine Finset.sum_congr rfl fun k _ => ?_
  blk_point [iblk, V, idx_val t]
  all_goals (try dsimp only); omega

/-- The gate array the kernel leaves is the reference's. -/
theorem final_g (c : Dev nD) : (dats m 0 c).arrAt 3 (cfgs 0).N
    = Cert.Reference6Ideal.Read.val_main_v10 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  frame_out
  rw [pay_g, ref_g]
  exact block_gate m c t y _ (by blk_simp [idx_val t]) (by blk_simp [idx_val t]) (by blk_simp [idx_val t])

/-- The up array the kernel leaves is the reference's. -/
theorem final_u (c : Dev nD) : (dats m 0 c).arrAt 4 (cfgs 0).N
    = Cert.Reference6Ideal.Read.val_main_v13 (F := Ideal) (m ((c : Thread nD τ).loc main_arg0)) (m ((c : Thread nD τ).loc main_arg2)) := by
  refine (dats m 0 c).arrAt_eq_of_covers 4 _ (by decide +kernel) fun t hf y => ?_
  blk_simp
  rw [after0_4]
  frame_out
  rw [pay_u, ref_u]
  exact block_up m c t y _ (by blk_simp [idx_val t]) (by blk_simp [idx_val t]) (by blk_simp [idx_val t])

/-- The hidden product the kernel leaves is the reference's. -/
theorem final_hid (c : Dev nD) : (dats m 0 c).arrAt 5 (cfgs 0).N
    = Cert.Reference6Ideal.Read.val_main_v16 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  rw [pay_hid, ref_hid]
  exact congrArg₂ hid
    (block_gate m c t y _ (by blk_simp [idx_val t]) (by blk_simp [idx_val t]) (by blk_simp [idx_val t]))
    (block_up m c t y _ (by blk_simp [idx_val t]) (by blk_simp [idx_val t]) (by blk_simp [idx_val t]))

end Cert.Kernel6Ideal.Value

end
-- ==== Proof.DownForward.lean ====
/- The value of the down projection: per token block the kernel adds four products, one per quarter of the hidden
   width; the reference has one product over the whole width. -/
module

public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit

@[expose] public section

set_option maxRecDepth 16384

noncomputable section

namespace Cert.Kernel7Ideal.Value

open Cert.Kernel7Ideal Cert.Kernel7Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The reference's element: one product over the hidden width. -/
theorem ref_apply (a : FVec Ideal Cert.Reference7Ideal.S8192x2816 .bf16) (w : FVec Ideal Cert.Reference7Ideal.S2816x1024 .bf16) (i : Cert.Reference7Ideal.S8192x1024.Idx) :
    Cert.Reference7Ideal.Read.val_main_v2 (F := Ideal) a w i = ∑ l : Fin 2816, a (ix2 (i 0) l) * w (ix2 l (i 1)) := by
  rw [Cert.Reference7Ideal.Read.val_main_v2_apply]
  refine Finset.sum_congr rfl fun l _ => congrArg₂ (· * ·) (congrArg a ?_) (congrArg w ?_) <;> funext b <;> apply Fin.ext <;>
    match b with
    | ⟨0, _⟩ => rfl
    | ⟨1, _⟩ => rfl

/-- One quarter's product at an index of the token block. -/
abbrev P (x : FVec Ideal S1x1024x704 .bf16) (w : FVec Ideal S1x1x704x1024 .bf16) (j : S1024x1024.Idx) : EReal :=
  ∑ k : Fin 704, x (ix3 0 (j 0) k) * w (ix4 0 0 k (j 1))

/-- The body's payload: the four products added up. -/
theorem pay_apply (x0 : FVec Ideal S1x1024x704 .bf16) (w0 : FVec Ideal S1x1x704x1024 .bf16) (x1 : FVec Ideal S1x1024x704 .bf16) (w1 : FVec Ideal S1x1x704x1024 .bf16) (x2 : FVec Ideal S1x1024x704 .bf16) (w2 : FVec Ideal S1x1x704x1024 .bf16) (x3 : FVec Ideal S1x1024x704 .bf16) (w3 : FVec Ideal S1x1x704x1024 .bf16) (j : S1024x1024.Idx) :
    k0_pay1 (F := Ideal) x0 w0 x1 w1 x2 w2 x3 w3 j = P x0 w0 j + P x1 w1 j + P x2 w2 j + P x3 w3 j := by
  pointwise [k0_pay1]

/-- A sum over 2816 columns is the sum of the four quarters' sums. -/
theorem quarters (f : Fin 2816 → EReal) :
    ∑ l, f l = (∑ k : Fin 704, f ⟨k.val, by omega⟩) + (∑ k : Fin 704, f ⟨704 + k.val, by omega⟩)
      + (∑ k : Fin 704, f ⟨1408 + k.val, by omega⟩) + ∑ k : Fin 704, f ⟨2112 + k.val, by omega⟩ := by
  rw [← Fin.sum_mul_add_congr (F := fun (s : Fin 4) (k : Fin 704) => f ⟨s.val * 704 + k.val, by omega⟩) fun s k hl => rfl,
    Fin.sum_univ_four]
  rfl

/-- Every window's block index at every grid point. -/
theorem idx_val : ∀ t : Fin cfg0.N, win0_0.index t = ![0, t.val, 0]
    ∧ win0_1.index t = ![0, 0, 0, 0]
    ∧ win0_2.index t = ![1, t.val, 0]
    ∧ win0_3.index t = ![0, 1, 0, 0]
    ∧ win0_4.index t = ![2, t.val, 0]
    ∧ win0_5.index t = ![0, 2, 0, 0]
    ∧ win0_6.index t = ![3, t.val, 0]
    ∧ win0_7.index t = ![0, 3, 0, 0]
    ∧ win0_8.index t = ![t.val, 0] :=
  (by decide +kernel : ∀ t : Fin grid0.N, _)

/-- The array the kernel leaves is the reference's. -/
theorem final (c : Dev nD) : (dats m 0 c).arrAt 8 (cfgs 0).N
    = Cert.Reference7Ideal.Read.val_main_v2 (F := Ideal) (m ((c : Thread nD τ).loc main_arg0)) (m ((c : Thread nD τ).loc main_arg1)) := by
  refine (dats m 0 c).arrAt_eq_of_covers 8 _ (by decide +kernel) fun t hf y => ?_
  blk_simp
  rw [after0_8]
  frame_out
  rw [pay_apply, ref_apply, quarters]
  have h0 : (y 0).val < 1024 := (y 0).isLt
  have h1 : (y 1).val < 1024 := (y 1).isLt
  refine congrArg₂ (· + ·) (congrArg₂ (· + ·) (congrArg₂ (· + ·) ?_ ?_) ?_) ?_ <;>
    refine Finset.sum_congr rfl fun k _ => ?_ <;> blk_point [iblk, V, idx_val t]

end Cert.Kernel7Ideal.Value

end
-- ==== Proof.InGrad.lean ====
/- The value of the gradient into the attention layer's input projection: per token block the kernel adds four
   products, one per quarter of the projection's columns; the reference has one product over all the columns. -/
module

public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit

@[expose] public section

set_option maxRecDepth 16384

noncomputable section

namespace Cert.Kernel8Ideal.Value

open Cert.Kernel8Ideal Cert.Kernel8Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The reference's element: one product over the projection's columns. -/
theorem ref_apply (a : FVec Ideal Cert.Reference8Ideal.S8192x3072 .bf16) (w : FVec Ideal Cert.Reference8Ideal.S1024x3072 .bf16) (i : Cert.Reference8Ideal.S8192x1024.Idx) :
    Cert.Reference8Ideal.Read.val_main_v4 (F := Ideal) a w i = ∑ l : Fin 3072, a (ix2 (i 0) l) * w (ix2 (i 1) l) := by
  rw [Cert.Reference8Ideal.Read.val_main_v4_apply]
  refine Finset.sum_congr rfl fun l _ => congrArg₂ (· * ·) (congrArg a ?_) (congrArg w ?_) <;> funext b <;> apply Fin.ext <;>
    match b with
    | ⟨0, _⟩ => rfl
    | ⟨1, _⟩ => rfl

/-- One quarter's product at an index of the token block. -/
abbrev P (x : FVec Ideal S1024x768 .bf16) (w : FVec Ideal S1x1x1024x768 .bf16) (j : S1024x1024.Idx) : EReal :=
  ∑ k : Fin 768, x (ix2 (j 0) k) * w (ix4 0 0 (j 1) k)

/-- The body's payload: the four products added up. -/
theorem pay_apply (x0 : FVec Ideal S1024x768 .bf16) (w0 : FVec Ideal S1x1x1024x768 .bf16) (x1 : FVec Ideal S1024x768 .bf16) (w1 : FVec Ideal S1x1x1024x768 .bf16) (x2 : FVec Ideal S1024x768 .bf16) (w2 : FVec Ideal S1x1x1024x768 .bf16) (x3 : FVec Ideal S1024x768 .bf16) (w3 : FVec Ideal S1x1x1024x768 .bf16) (j : S1024x1024.Idx) :
    k0_pay1 (F := Ideal) x0 w0 x1 w1 x2 w2 x3 w3 j = P x0 w0 j + P x1 w1 j + P x2 w2 j + P x3 w3 j := by
  pointwise [k0_pay1]

/-- A sum over 3072 columns is the sum of the four quarters' sums. -/
theorem quarters (f : Fin 3072 → EReal) :
    ∑ l, f l = (∑ k : Fin 768, f ⟨k.val, by omega⟩) + (∑ k : Fin 768, f ⟨768 + k.val, by omega⟩)
      + (∑ k : Fin 768, f ⟨1536 + k.val, by omega⟩) + ∑ k : Fin 768, f ⟨2304 + k.val, by omega⟩ := by
  rw [← Fin.sum_mul_add_congr (F := fun (s : Fin 4) (k : Fin 768) => f ⟨s.val * 768 + k.val, by omega⟩) fun s k hl => rfl,
    Fin.sum_univ_four]
  rfl

/-- Every window's block index at every grid point. -/
theorem idx_val : ∀ t : Fin cfg0.N, win0_0.index t = ![t.val, 0]
    ∧ win0_1.index t = ![0, 0, 0, 0]
    ∧ win0_2.index t = ![t.val, 1]
    ∧ win0_3.index t = ![0, 1, 0, 0]
    ∧ win0_4.index t = ![t.val, 2]
    ∧ win0_5.index t = ![0, 2, 0, 0]
    ∧ win0_6.index t = ![t.val, 3]
    ∧ win0_7.index t = ![0, 3, 0, 0]
    ∧ win0_8.index t = ![t.val, 0] :=
  (by decide +kernel : ∀ t : Fin grid0.N, _)

/-- The array the kernel leaves is the reference's. -/
theorem final (c : Dev nD) : (dats m 0 c).arrAt 8 (cfgs 0).N
    = Cert.Reference8Ideal.Read.val_main_v4 (F := Ideal) (m ((c : Thread nD τ).loc main_arg0)) (m ((c : Thread nD τ).loc main_arg1)) := by
  refine (dats m 0 c).arrAt_eq_of_covers 8 _ (by decide +kernel) fun t hf y => ?_
  blk_simp
  rw [after0_8]
  frame_out
  rw [pay_apply, ref_apply, quarters]
  have h0 : (y 0).val < 1024 := (y 0).isLt
  have h1 : (y 1).val < 1024 := (y 1).isLt
  refine congrArg₂ (· + ·) (congrArg₂ (· + ·) (congrArg₂ (· + ·) ?_ ?_) ?_) ?_ <;>
    refine Finset.sum_congr rfl fun k _ => ?_ <;> blk_point [iblk, V, idx_val t]

end Cert.Kernel8Ideal.Value

end
-- ==== Proof.InWgrad.lean ====
/- The value of the attention input projection's weight gradient: the accumulator the kernel carries over the two
   halves of the tokens is the whole contraction over the tokens, which is what the reference's one product contracts. -/
module

public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit

@[expose] public section

set_option maxRecDepth 16384

noncomputable section

namespace Cert.Kernel9Ideal.Value

open Cert.Kernel9Ideal Cert.Kernel9Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The reference's element: the contraction over all the tokens. -/
theorem ref_apply (h : FVec Ideal Cert.Reference9Ideal.S8192x1024 .bf16) (d : FVec Ideal Cert.Reference9Ideal.S8192x3072 .bf16) (i : Cert.Reference9Ideal.S1x4x1024x768.Idx) :
    Cert.Reference9Ideal.Read.val_main_v8 (F := Ideal) h d i = ∑ l : Fin 8192, d (ix2 l ⟨(i 1).val * 768 + (i 3).val, by
      have h1 : (i 1).val < 4 := (i 1).isLt; have h3 : (i 3).val < 768 := (i 3).isLt; omega⟩) * h (ix2 l (i 2)) := by
  have h0 : (i 0).val < 1 := (i 0).isLt
  have h1 : (i 1).val < 4 := (i 1).isLt
  have h2 : (i 2).val < 1024 := (i 2).isLt
  have h3 : (i 3).val < 768 := (i 3).isLt
  rw [Cert.Reference9Ideal.Read.val_main_v8_apply, Cert.Reference9Ideal.Read.val_main_v7_apply, Cert.Reference9Ideal.Read.val_main_v6_apply, Cert.Reference9Ideal.Read.val_main_v5_apply,
    Cert.Reference9Ideal.Read.val_main_v4_apply]
  have e1 : ((((i 0).val * 4 + (i 1).val) * 1024 + (i 2).val) * 768 + (i 3).val) / 768 % 1024 = (i 2).val := by omega
  have e2 : ((((i 0).val * 4 + (i 1).val) * 1024 + (i 2).val) * 768 + (i 3).val) / 786432 = (i 1).val := by omega
  have e3 : ((((i 0).val * 4 + (i 1).val) * 1024 + (i 2).val) * 768 + (i 3).val) % 768 = (i 3).val := by omega
  refine Finset.sum_congr rfl fun l _ => ?_
  refine congrArg₂ (· * ·) (congrArg d ?_) (congrArg h ?_) <;> funext b <;> apply Fin.ext <;>
    match b with
    | ⟨0, _⟩ => rfl
    | ⟨1, _⟩ => dsimp; simp only [e1, e2, e3]; omega

/-- Every window's block index at every grid point. -/
theorem idx_val : ∀ t : Fin cfg0.N, win0_0.index t = ![t.val % 2, 0]
    ∧ win0_1.index t = ![t.val % 2, t.val / 2]
    ∧ win0_2.index t = ![0, t.val / 2, 0, 0] :=
  (by decide +kernel : ∀ t : Fin grid0.N, _)

/-- The first half's payload: the product over that half of the tokens. -/
theorem first_apply (x : FVec Ideal S4096x1024 .bf16) (d : FVec Ideal S4096x768 .bf16) (j : S1024x768.Idx) :
    k0_pay2 (F := Ideal) x d j = 0 + ∑ k : Fin 4096, x (ix2 k (j 0)) * d (ix2 k (j 1)) := by
  pointwise [k0_pay2, k0_pay1]

/-- The second half's payload adds its product to what the first left. -/
theorem next_apply (x : FVec Ideal S4096x1024 .bf16) (d : FVec Ideal S4096x768 .bf16) (acc : FVec Ideal S1024x768 .f32) (j : S1024x768.Idx) :
    k0_pay3 (F := Ideal) x d acc j = acc j + ∑ k : Fin 4096, x (ix2 k (j 0)) * d (ix2 k (j 1)) := by
  pointwise [k0_pay3, k0_pay1]

/-- At the point that writes a block back, the block is the accumulator re-laid. -/
theorem out_eq (c : Dev nD) (t : Fin cfg0.N) (h : t.val % 2 = 1) :
    (outsAt0 m c t.val t.isLt).1 = k0_pay4 (F := Ideal) (outsAt0 m c t.val t.isLt).2 := by
  rw [outsAt0_B m c t (by omega) h h]
  frame_out

/-- The array the kernel leaves is the reference's. -/
theorem final (c : Dev nD) : (dats m 0 c).arrAt 2 (cfgs 0).N
    = Cert.Reference9Ideal.Read.val_main_v8 (F := Ideal) (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  blk_simp
  rw [after0_2, out_eq m c t ht]
  rw [show ∀ v : FVec Ideal S1024x768 .f32, k0_pay4 (F := Ideal) v y = v (ix2 (y 2) (y 3)) from fun v => by pointwise [k0_pay4]]
  rw [Pipeline.eq_sum_fin_of_reset_step_apply_of_flush (fun n h => (outsAt0 m c n h).2) 2 (fun _ => 0) _
    (fun t h j => by rw [outsAt0_A m c t h (by omega) (by omega)]; frame_out; rw [first_apply])
    (fun t h j => by rw [outsAt0_B m c t h (by omega) (by omega)]; frame_out; rw [next_apply, (Memref.isWhole_whole _).read_unread]) t ht _, zero_add, ref_apply]
  refine Fin.sum_mul_add_congr fun s k hl => ?_
  refine Eq.trans ?_ (EReal.mul_comm _ _)
  blk_point [iblk, V, idx_val t, idx_val ⟨_, Pipeline.run_point_lt_of_flush t ht s⟩]

end Cert.Kernel9Ideal.Value

end
-- ==== Proof.AttnMask.lean ====
/- The chunked attention's validity mask: which keys of a window a query of a block sees. -/
module

public import proofs.«01_k».proof.Proof.Gen.Kernel10Ideal.Skeleton
public import Idealize.ShloMosaic.Lib.Pipeline.ValueKit

@[expose] public section

set_option maxRecDepth 16384

noncomputable section

namespace Cert.Kernel10Ideal.Value

open Cert.Kernel10Ideal Cert.Kernel10Ideal.Gen
open Idealize.ShloMosaic Idealize.ShloMosaic.TcCoe

/-- A block's mask, the window's first key at `w`. -/
abbrev valid (w : BitVec 32) : IVec S128x640 1 :=
  k0_pay4 w (iota .tc S128x640 32 [1] iota_S128x640_d1_w32) k0_pay1 64#32 k0_pay2 k0_pay3
    (Scalar.extui (Scalar.cmpi .sgt 64#32 0#32)) (Scalar.extui (Scalar.cmpi .slt 64#32 0#32))

/-- The quotient by 64, rounded down, as the kernel spells it. -/
def quot (x : BitVec 32) : BitVec 32 :=
  Scalar.select (Scalar.andi
    (Scalar.cmpi .ne (Scalar.subi (Scalar.extui (Scalar.cmpi .sgt x 0#32)) (Scalar.extui (Scalar.cmpi .slt x 0#32)))
      (Scalar.subi (Scalar.extui (Scalar.cmpi .sgt 64#32 0#32)) (Scalar.extui (Scalar.cmpi .slt 64#32 0#32))))
    (Scalar.cmpi .ne (Scalar.remsi x 64#32) 0#32))
    (Scalar.subi (Scalar.divsi x 64#32) 1#32) (Scalar.divsi x 64#32)

theorem valid_apply (w : BitVec 32) (r : Fin 128) (j : Fin 640) : valid w (ix2 r j) =
    Scalar.andi (Scalar.andi (Scalar.cmpi .sge (quot (BitVec.ofNat 32 j.val)) (quot (BitVec.ofNat 32 r.val)))
      (Scalar.cmpi .sle (quot (BitVec.ofNat 32 j.val)) (Scalar.addi (quot (BitVec.ofNat 32 r.val)) 8#32)))
      (Scalar.cmpi .sge (Scalar.addi (BitVec.ofNat 32 j.val) w) 512#32) := by
  pointwise [valid, k0_pay4, k0_pay1, k0_pay2, k0_pay3]
  rfl

/-- The quotient of a small number. -/
theorem quot_small : ∀ n : Fin 640, quot (BitVec.ofNat 32 n.val) = BitVec.ofNat 32 (n.val / 64) := by decide +kernel

/-- The two comparisons of chunks. -/
theorem chunks : ∀ (a : Fin 10) (b : Fin 2),
    Scalar.andi (Scalar.cmpi .sge (BitVec.ofNat 32 a.val) (BitVec.ofNat 32 b.val))
      (Scalar.cmpi .sle (BitVec.ofNat 32 a.val) (Scalar.addi (BitVec.ofNat 32 b.val) 8#32))
      = if b.val ≤ a.val ∧ a.val ≤ b.val + 8 then 1#1 else 0#1 := by decide +kernel

/-- The comparison that leaves out the padding before the first token. -/
theorem padding : ∀ (n : Fin 64) (j : Fin 640),
    Scalar.cmpi .sge (Scalar.addi (BitVec.ofNat 32 j.val) (BitVec.ofNat 32 (128 * n.val))) 512#32
      = if 512 ≤ j.val + 128 * n.val then 1#1 else 0#1 := by decide +kernel

/-- Query `r` of block `n` sees key `j` of its window: the key's chunk is one of the query's own and the eight before it,
    and is not before the first token. -/
def Sees (n : Fin 64) (r : Fin 128) (j : Fin 640) : Prop :=
  (r.val / 64 ≤ j.val / 64 ∧ j.val / 64 ≤ r.val / 64 + 8) ∧ 512 ≤ j.val + 128 * n.val

instance (n : Fin 64) (r : Fin 128) (j : Fin 640) : Decidable (Sees n r j) := inferInstanceAs (Decidable (_ ∧ _))

/-- The mask's bit. -/
theorem valid_eq (n : Fin 64) (r : Fin 128) (j : Fin 640) :
    valid (BitVec.ofNat 32 (128 * n.val)) (ix2 r j) = if Sees n r j then 1#1 else 0#1 := by
  rw [valid_apply, quot_small j, quot_small ⟨r.val, by omega⟩, padding]
  have h := chunks ⟨j.val / 64, by omega⟩ ⟨r.val / 64, by omega⟩
  dsimp only at h ⊢
  rw [h]
  unfold Sees
  by_cases h1 : r.val / 64 ≤ j.val / 64 ∧ j.val / 64 ≤ r.val / 64 + 8 <;> by_cases h2 : 512 ≤ j.val + 128 * n.val <;>
    simp [h1, h2] <;> rfl

/-- The window's first key, as the kernel computes it from the grid's coordinate. -/
theorem start_eq : ∀ (i : Fin 4) (s : Fin 16),
    Scalar.muli (Scalar.addi (Scalar.muli (BitVec.ofNat 32 i.val) 16#32) (BitVec.ofNat 32 s.val)) 128#32
      = BitVec.ofNat 32 (128 * (16 * i.val + s.val)) := by decide +kernel

end Cert.Kernel10Ideal.Value

end
-- ==== Proof.AttnRows.lean ====
/- Rows of softmax weights over the extended reals: a window whose scores outside a band are `⊥` weighs its values as
   the band alone does. -/
module

public import Idealize.ShloMosaic.Lib.Pipeline.ValueKit

@[expose] public section

noncomputable section

namespace Cert.AttnRows

open Idealize.ShloMosaic
open scoped BigOperators

/-- The greatest score of a row. -/
abbrev top {n : Nat} (S : Fin n → EReal) : EReal := Finset.univ.fold max ⊥ S

/-- A row's sum of exponentials, the greatest score taken off. -/
abbrev total {n : Nat} (S : Fin n → EReal) : EReal := ∑ j, Ideal.exp (S j - top S)

/-- The sum of a row's values, weighted by the softmax of its scores. -/
abbrev weigh {n : Nat} (S v : Fin n → EReal) : EReal := ∑ j, Ideal.div (Ideal.exp (S j - top S)) (total S) * v j

theorem top_eq_sup {n : Nat} (S : Fin n → EReal) : top S = Finset.univ.sup S := rfl

theorem exp_nonneg : ∀ x : EReal, 0 ≤ Ideal.exp x
  | ⊥ => le_refl _
  | ⊤ => le_top
  | (r : ℝ) => by
    show (0 : EReal) ≤ ((Real.exp r : ℝ) : EReal)
    exact_mod_cast (Real.exp_pos r).le

/-- A row without an infinite score and with one that is not `⊥` has a sum that is not zero. -/
theorem total_ne_zero {n : Nat} (S : Fin n → EReal) (hT : ∀ j, S j ≠ ⊤) (k : Fin n) (hk : S k ≠ ⊥) : total S ≠ 0 := by
  obtain ⟨b, -, hb⟩ := Finset.exists_mem_eq_sup (Finset.univ : Finset (Fin n)) ⟨k, Finset.mem_univ k⟩ S
  have hle : S k ≤ S b := hb ▸ Finset.le_sup (f := S) (Finset.mem_univ k)
  have hbot : S b ≠ ⊥ := fun h => hk (le_bot_iff.1 (h ▸ hle))
  have hterm : Ideal.exp (S b - top S) = 1 := by
    rw [top_eq_sup, hb]
    lift S b to ℝ using ⟨hT b, hbot⟩ with r
    rw [← EReal.coe_sub, sub_self]
    show ((Real.exp 0 : ℝ) : EReal) = 1
    rw [Real.exp_zero]; rfl
  have hsum : (1 : EReal) ≤ total S := hterm ▸ Finset.single_le_sum (f := fun j => Ideal.exp (S j - top S))
    (fun j _ => exp_nonneg _) (Finset.mem_univ b)
  exact fun h => absurd (h ▸ hsum) (by norm_num)

/-- A window around a band: the same scores and values in the band, `⊥` outside. -/
theorem weigh_window {n N : Nat} (e : Fin n → Fin N) (he : Function.Injective e) (S v : Fin N → EReal) (R u : Fin n → EReal)
    (hS : ∀ k, S (e k) = R k) (hv : ∀ k, v (e k) = u k) (hout : ∀ j, j ∉ Set.range e → S j = ⊥)
    (hT : ∀ k, R k ≠ ⊤) (k : Fin n) (hk : R k ≠ ⊥) : weigh S v = weigh R u := by
  have htop : top S = top R := by
    rw [top_eq_sup, top_eq_sup]
    refine le_antisymm (Finset.sup_le fun j _ => ?_) (Finset.sup_le fun i _ => ?_)
    · by_cases h : j ∈ Set.range e
      · obtain ⟨i, rfl⟩ := h
        rw [hS]; exact Finset.le_sup (f := R) (Finset.mem_univ i)
      · rw [hout j h]; exact bot_le
    · rw [← hS]; exact Finset.le_sup (f := S) (Finset.mem_univ (e i))
  have hzero : ∀ j, j ∉ Set.range e → Ideal.exp (S j - top S) = 0 := fun j h => by
    rw [hout j h, sub_eq_add_neg, EReal.bot_add]; rfl
  have htot : total R = total S := Fintype.sum_of_injective e he _ _ hzero fun i => by rw [hS, htop]
  have hne : total S ≠ 0 := htot ▸ total_ne_zero R hT k hk
  refine (Fintype.sum_of_injective e he (fun i => Ideal.div (Ideal.exp (R i - top R)) (total R) * u i) _ (fun j h => ?_)
    fun i => ?_).symm
  · rw [hzero j h, Ideal.div, if_neg hne, zero_mul, zero_mul]
  · rw [hS, hv, htop, htot]

/-- A factor that is a nonnegative real goes through a sum. -/
theorem sum_mul_const {n : Nat} (f : Fin n → EReal) (c : EReal) (h0 : 0 ≤ c) (hT : c ≠ ⊤) : ∑ i, f i * c = (∑ i, f i) * c := by
  classical
  refine Finset.induction_on (Finset.univ : Finset (Fin n)) (by simp) fun a s ha ih => ?_
  rw [Finset.sum_insert ha, Finset.sum_insert ha, ih, EReal.right_distrib_of_nonneg_of_ne_top h0 hT]

/-- A sum over two halves of which the second is zero. -/
theorem sum_first_half (f : Fin 128 → EReal) (g : Fin 64 → EReal) (h0 : ∀ d : Fin 64, f ⟨d.val, by omega⟩ = g d)
    (h1 : ∀ l : Fin 128, 64 ≤ l.val → f l = 0) : ∑ l, f l = ∑ d, g d :=
  (Fintype.sum_of_injective (fun d : Fin 64 => (⟨d.val, by omega⟩ : Fin 128)) (fun a b h => Fin.ext (Fin.mk.inj h)) g f
    (fun l hl => h1 l (Nat.le_of_not_lt fun h => hl ⟨⟨l.val, h⟩, rfl⟩)) fun d => (h0 d).symm).symm

/-- A sum over two halves of which the first is zero. -/
theorem sum_second_half (f : Fin 128 → EReal) (g : Fin 64 → EReal) (h0 : ∀ d : Fin 64, f ⟨64 + d.val, by omega⟩ = g d)
    (h1 : ∀ l : Fin 128, l.val < 64 → f l = 0) : ∑ l, f l = ∑ d, g d :=
  (Fintype.sum_of_injective (fun d : Fin 64 => (⟨64 + d.val, by omega⟩ : Fin 128))
    (fun a b h => Fin.ext (by have := Fin.mk.inj h; omega)) g f
    (fun l hl => h1 l (Nat.lt_of_not_le fun h => hl ⟨⟨l.val - 64, by omega⟩, Fin.ext (by show 64 + (l.val - 64) = l.val; omega)⟩))
    fun d => (h0 d).symm).symm

/-- A sum of products of reals is real. -/
theorem sum_mul_real {n : Nat} (f g : Fin n → EReal) (hf : ∀ i, f i ≠ ⊤ ∧ f i ≠ ⊥) (hg : ∀ i, g i ≠ ⊤ ∧ g i ≠ ⊥) :
    (∑ i, f i * g i) ≠ ⊤ ∧ (∑ i, f i * g i) ≠ ⊥ := by
  refine Finset.sum_induction _ (fun x : EReal => x ≠ ⊤ ∧ x ≠ ⊥) (fun a b ha hb => ?_) ⟨EReal.zero_ne_top, EReal.zero_ne_bot⟩
    fun i _ => ?_
  · lift a to ℝ using ha; lift b to ℝ using hb
    rw [← EReal.coe_add]; exact ⟨EReal.coe_ne_top _, EReal.coe_ne_bot _⟩
  · have h := hf i; have h' := hg i
    lift f i to ℝ using h with a; lift g i to ℝ using h' with b
    rw [← EReal.coe_mul]; exact ⟨EReal.coe_ne_top _, EReal.coe_ne_bot _⟩

/-- A real score with a real factor and a real summand is real. -/
theorem mul_add_real {a c b : EReal} (ha : a ≠ ⊤ ∧ a ≠ ⊥) (hc : c ≠ ⊤ ∧ c ≠ ⊥) (hb : b ≠ ⊤ ∧ b ≠ ⊥) :
    a * c + b ≠ ⊤ ∧ a * c + b ≠ ⊥ := by
  lift a to ℝ using ha; lift b to ℝ using hb; lift c to ℝ using hc
  rw [← EReal.coe_mul, ← EReal.coe_add]; exact ⟨EReal.coe_ne_top _, EReal.coe_ne_bot _⟩

end Cert.AttnRows

end
-- ==== Proof.AttnBlock.lean ====
/- One block of 128 tokens in the chunked attention's body: what the block's store holds, at an element. -/
module

public import proofs.«01_k».proof.Proof.AttnMask
public import proofs.«01_k».proof.Proof.AttnRows

@[expose] public section

set_option maxRecDepth 16384

noncomputable section

namespace Cert.Kernel10Ideal.Value

open Cert.Kernel10Ideal Cert.Kernel10Ideal.Gen Cert.AttnRows
open Idealize.ShloMosaic Idealize.ShloMosaic.TcCoe
open scoped BigOperators

/-- A block's result from its queries, its window of keys and values, and the two heads' biases. -/
abbrev block (w : BitVec 32) (q : FVec Ideal S128x128 .bf16) (k v : FVec Ideal S640x128 .bf16) (b0 b1 : FVec Ideal S1x128x640 .f32) :
    FVec Ideal S128x128 .bf16 :=
  k0_pay14 (F := Ideal) (k0_pay10 (k0_pay9 v)) (k0_pay11 (valid w) (k0_pay5 k) (k0_pay7 q) (k0_pay9 v) b0)
    (k0_pay12 (valid w) (k0_pay5 k) (k0_pay8 q) b1) (k0_pay13 (valid w) (k0_pay5 k) (k0_pay8 q) b1)

/-- The bit of the heads' masks over a vector of lanes. -/
theorem lane_first : ∀ l : Fin 128, Scalar.andi (Scalar.cmpi .sge (BitVec.ofNat 32 l.val) 0#32) (Scalar.cmpi .slt (BitVec.ofNat 32 l.val) 64#32)
    = if l.val < 64 then 1#1 else 0#1 := by decide +kernel

theorem lane_second : ∀ l : Fin 128, Scalar.andi (Scalar.cmpi .sge (BitVec.ofNat 32 l.val) 64#32) (Scalar.cmpi .slt (BitVec.ofNat 32 l.val) 128#32)
    = if 64 ≤ l.val then 1#1 else 0#1 := by decide +kernel

/-- A row's masked scores. -/
abbrev score (V : IVec S128x640 1) (q : FVec Ideal S128x128 .bf16) (k : FVec Ideal S640x128 .bf16) (b : FVec Ideal S1x128x640 .f32)
    (r : Fin 128) (j : Fin 640) : EReal :=
  if V (ix2 r j) = 1#1 then (∑ l : Fin 128, q (ix2 r l) * k (ix2 j l)) + b (ix3 0 r j) else ⊥

/-- The value that stands for the mask's constant. -/
theorem mask_bot : Named.named (F := Ideal) (φ := .f32) κ "mask" 0xF149F2CA#32 = (⊥ : EReal) := rfl

/-- The reductions' start. -/
theorem bits_bot : Ideal.ofBits .f32 0xFF800000#32 = ⊥ := by simp [Ideal.ofBits, Ideal.ieee]

/-- The scale of the queries is one eighth. -/
theorem bits_eighth : Ideal.ofBits .bf16 0x3E00#16 = (((1 : ℝ) / 8 : ℝ) : EReal) := by
  simp [Ideal.ofBits, Ideal.ieee, -EReal.coe_mul]; norm_num

theorem pay12_apply (V : IVec S128x640 1) (q : FVec Ideal S128x128 .bf16) (k : FVec Ideal S640x128 .bf16) (b : FVec Ideal S1x128x640 .f32)
    (r : Fin 128) (j : Fin 640) : k0_pay12 (F := Ideal) V k q b (ix2 r j) = score V q k b r j := by
  pointwise [k0_pay12]
  rw [mask_bot]
  rfl

theorem pay13_apply (V : IVec S128x640 1) (q : FVec Ideal S128x128 .bf16) (k : FVec Ideal S640x128 .bf16) (b : FVec Ideal S1x128x640 .f32)
    (r : Fin 128) : k0_pay13 (F := Ideal) V k q b (ix2 r 0) = top (score V q k b r) := by
  pointwise [k0_pay13]
  rw [bits_bot]
  exact congrArg (fun f => Finset.fold max ⊥ f Finset.univ) (funext fun j => pay12_apply V q k b r j)

theorem pay7_apply (q : FVec Ideal S128x128 .bf16) (r l : Fin 128) : k0_pay7 (F := Ideal) q (ix2 r l)
    = if l.val < 64 then q (ix2 r l) * (((1 : ℝ) / 8 : ℝ) : EReal) else 0 := by
  pointwise [k0_pay7, k0_pay6]
  rw [bits_eighth]
  refine (congrArg (fun c => Scalar.select c _ _) (lane_first l)).trans ?_
  by_cases h : l.val < 64 <;> simp [h, Scalar.select]

theorem pay8_apply (q : FVec Ideal S128x128 .bf16) (r l : Fin 128) : k0_pay8 (F := Ideal) q (ix2 r l)
    = if 64 ≤ l.val then q (ix2 r l) * (((1 : ℝ) / 8 : ℝ) : EReal) else 0 := by
  pointwise [k0_pay8, k0_pay6]
  rw [bits_eighth]
  refine (congrArg (fun c => Scalar.select c _ _) (lane_second l)).trans ?_
  by_cases h : 64 ≤ l.val <;> simp [h, Scalar.select]

theorem pay10_apply (v : FVec Ideal S640x128 .bf16) (j : Fin 640) (l : Fin 128) : k0_pay10 (F := Ideal) v (ix2 j l)
    = if 64 ≤ l.val then v (ix2 j l) else 0 := by
  pointwise [k0_pay10]
  refine (congrArg (fun c => Scalar.select c _ _) (lane_second l)).trans ?_
  by_cases h : 64 ≤ l.val <;> simp [h, Scalar.select]

/-- The first head's part of a block. -/
theorem pay11_apply (V : IVec S128x640 1) (q : FVec Ideal S128x128 .bf16) (k v : FVec Ideal S640x128 .bf16) (b : FVec Ideal S1x128x640 .f32)
    (r l : Fin 128) : k0_pay11 (F := Ideal) V k q v b (ix2 r l)
      = weigh (score V q k b r) (fun j => if l.val < 64 then v (ix2 j l) else 0) := by
  pointwise [k0_pay11]
  rw [mask_bot, bits_bot]
  refine Finset.sum_congr rfl fun j _ => (congrArg (fun c => Scalar.select c _ _) (lane_first l)).trans ?_
  by_cases h : l.val < 64
  · simp only [h, if_true]; rfl
  · simp only [h, if_false]; exact (mul_zero _).symm

/-- The block's sum of the two heads' parts. -/
theorem pay14_apply (o : FVec Ideal S128x128 .f32) (S : Fin 128 → Fin 640 → EReal) (p : FVec Ideal S128x640 .f32)
    (m : FVec Ideal S128x1 .f32) (v : FVec Ideal S640x128 .bf16) (hp : ∀ r j, p (ix2 r j) = S r j) (hm : ∀ r, m (ix2 r 0) = top (S r))
    (r l : Fin 128) : k0_pay14 (F := Ideal) v o p m (ix2 r l) = o (ix2 r l) + weigh (S r) (fun j => v (ix2 j l)) := by
  pointwise [k0_pay14]
  simp only [hp, hm]

/-- A block's scores for a head: the scaled product over the head's 64 lanes, which begin at `a`, and the bias. -/
abbrev headScore (n : Fin 64) (a : Nat) (ha : a + 64 ≤ 128) (q : FVec Ideal S128x128 .bf16) (k : FVec Ideal S640x128 .bf16)
    (b : FVec Ideal S1x128x640 .f32) (r : Fin 128) (j : Fin 640) : EReal :=
  if Sees n r j then
    (∑ d : Fin 64, q (ix2 r ⟨a + d.val, by omega⟩) * k (ix2 j ⟨a + d.val, by omega⟩)) * (((1 : ℝ) / 8 : ℝ) : EReal) + b (ix3 0 r j)
  else ⊥

theorem scale_out (q k : Fin 64 → EReal) :
    ∑ d, q d * (((1 : ℝ) / 8 : ℝ) : EReal) * k d = (∑ d, q d * k d) * (((1 : ℝ) / 8 : ℝ) : EReal) := by
  rw [← sum_mul_const _ _ (by exact_mod_cast (by norm_num : (0 : ℝ) ≤ 1 / 8)) (EReal.coe_ne_top _)]
  exact Finset.sum_congr rfl fun d _ => by rw [mul_assoc, mul_comm _ (k d), ← mul_assoc]

theorem score_first (n : Fin 64) (q : FVec Ideal S128x128 .bf16) (k : FVec Ideal S640x128 .bf16) (b : FVec Ideal S1x128x640 .f32)
    (r : Fin 128) (j : Fin 640) : score (valid (BitVec.ofNat 32 (128 * n.val))) (k0_pay7 q) k b r j
      = headScore n 0 (by omega) q k b r j := by
  unfold score headScore
  rw [valid_eq]
  by_cases h : Sees n r j
  · simp only [h, if_true]
    refine congrArg (· + _) (Eq.trans ?_ (scale_out _ _))
    refine sum_first_half _ _ (fun d => ?_) fun l hl => ?_
    · rw [pay7_apply, if_pos (show d.val < 64 from d.isLt)]
      simp only [Nat.zero_add]
    · rw [pay7_apply, if_neg (by omega), zero_mul]
  · simp [h]

theorem score_second (n : Fin 64) (q : FVec Ideal S128x128 .bf16) (k : FVec Ideal S640x128 .bf16) (b : FVec Ideal S1x128x640 .f32)
    (r : Fin 128) (j : Fin 640) : score (valid (BitVec.ofNat 32 (128 * n.val))) (k0_pay8 q) k b r j
      = headScore n 64 (by omega) q k b r j := by
  unfold score headScore
  rw [valid_eq]
  by_cases h : Sees n r j
  · simp only [h, if_true]
    refine congrArg (· + _) (Eq.trans ?_ (scale_out _ _))
    refine sum_second_half _ _ (fun d => ?_) fun l hl => ?_
    · rw [pay8_apply, if_pos (Nat.le_add_right 64 d.val)]
    · rw [pay8_apply, if_neg (by omega), zero_mul]
  · simp [h]

/-- The shape casts of the loaded windows change nothing. -/
theorem pay5_eq (k : FVec Ideal S640x128 .bf16) : k0_pay5 (F := Ideal) k = k := shapeCast_self _ _

theorem pay9_eq (k : FVec Ideal S640x128 .bf16) : k0_pay9 (F := Ideal) k = k := shapeCast_self _ _

/-- A block's element: the values of the element's lane, weighted by its head's scores. -/
theorem block_apply (n : Fin 64) (q : FVec Ideal S128x128 .bf16) (k v : FVec Ideal S640x128 .bf16) (b0 b1 : FVec Ideal S1x128x640 .f32)
    (r l : Fin 128) : block (BitVec.ofNat 32 (128 * n.val)) q k v b0 b1 (ix2 r l)
      = weigh (if l.val < 64 then headScore n 0 (by omega) q k b0 r else headScore n 64 (by omega) q k b1 r) (fun j => v (ix2 j l)) := by
  unfold block
  rw [pay14_apply _ _ _ _ _ (fun r j => pay12_apply _ _ _ _ r j) (fun r => pay13_apply _ _ _ _ r), pay11_apply, pay5_eq, pay9_eq]
  simp only [pay10_apply]
  rw [show score (valid (BitVec.ofNat 32 (128 * n.val))) (k0_pay7 q) k b0 r = headScore n 0 (by omega) q k b0 r from
    funext (score_first n q k b0 r), show score (valid (BitVec.ofNat 32 (128 * n.val))) (k0_pay8 q) k b1 r
      = headScore n 64 (by omega) q k b1 r from funext (score_second n q k b1 r)]
  by_cases h : l.val < 64
  · have h' : ¬64 ≤ l.val := by omega
    simp only [h, h', if_true, if_false]
    refine (congrArg (_ + ·) (Finset.sum_eq_zero fun j _ => mul_zero _)).trans (add_zero _)
  · have h' : 64 ≤ l.val := by omega
    simp only [h, h', if_true, if_false]
    refine (congrArg (· + _) (Finset.sum_eq_zero fun j _ => mul_zero _)).trans (zero_add _)

end Cert.Kernel10Ideal.Value

end
-- ==== Proof.AttnPieces.lean ====
/- The chunked attention's body stores sixteen blocks of 128 tokens; each is `block` of the block's queries and window. -/
module

public import proofs.«01_k».proof.Proof.Gen.Kernel10Ideal.Value
public import proofs.«01_k».proof.Proof.AttnBlock
public import Idealize.ShloMosaic.Lib.WholeRead

@[expose] public section

set_option maxRecDepth 16384

noncomputable section

namespace Cert.Kernel10Ideal.Value

open Cert.Kernel10Ideal Cert.Kernel10Ideal.Gen
open Idealize.ShloMosaic Idealize.ShloMosaic.TcCoe Idealize.SL.Sem

theorem rows_inb : ∀ s : Fin 16, ∀ a, (![128 * s.val, 0] : Fin 2 → Nat) a + S128x128.size a ≤ S2048x128.size a := by decide +kernel

variable (c : Dev nD) (i : grid0.Coords) (arg2 : Memref sig .tc .vmem S2048x128 .bf16) (harg2 : arg2.IsWhole)
  (arg3 : Memref sig .tc .vmem S8704x128 .bf16) (harg3 : arg3.IsWhole) (arg4 : Memref sig .tc .vmem S8704x128 .bf16) (harg4 : arg4.IsWhole)
  (arg5 : Memref sig .tc .vmem S2x128x640 .f32) (harg5 : arg5.IsWhole) (arg6 : Memref sig .tc .vmem S2048x128 .bf16) (harg6 : arg6.IsWhole)
  (x0 : Vec Ideal S2048x128 .bf16) (x1 x2 : Vec Ideal S8704x128 .bf16) (x3 : Vec Ideal S2x128x640 .f32)

/-- The stores, the last one first. -/
abbrev stores : List (View.Piece (Elt Ideal) S2048x128 .bf16) :=
  ([15, 14, 13, 12, 11, 10, 9, 8, 7, 6, 5, 4, 3, 2, 1, 0] : List (Fin 16)).map fun s =>
    ⟨Rect.unit (s := S2048x128) ![128 * s.val, 0] S128x128.size (rows_inb s),
      block (Scalar.muli (Scalar.addi (Scalar.muli (BitVec.ofNat 32 (i 1).val) 16#32) (BitVec.ofNat 32 s.val)) 128#32)
        (View.readAt (Elt Ideal) arg2.view (Rect.unit (s := S2048x128) ![128 * s.val, 0] S128x128.size (rows_inb s)).toLoadRect (harg2.unread x0))
        (View.readAt (Elt Ideal) arg3.view (Rect.unit (s := S8704x128) (k0_off1 i (BitVec.ofNat 32 s.val)) S640x128.size (k0_off1_inb i s)).toLoadRect (harg3.unread x1))
        (View.readAt (Elt Ideal) arg4.view (Rect.unit (s := S8704x128) (k0_off1 i (BitVec.ofNat 32 s.val)) S640x128.size (k0_off1_inb i s)).toLoadRect (harg4.unread x2))
        (View.readAt (Elt Ideal) arg5.view (Rect.unit (s := S2x128x640) ![0, 0, 0] S1x128x640.size inb_S2x128x640_S1x128x640_0_0_0).toLoadRect (harg5.unread x3))
        (View.readAt (Elt Ideal) arg5.view (Rect.unit (s := S2x128x640) ![1, 0, 0] S1x128x640.size inb_S2x128x640_S1x128x640_1_0_0).toLoadRect (harg5.unread x3))⟩

theorem run_stores : (kernelRun0_A (F := Ideal) c i arg2 harg2 arg3 harg3 arg4 harg4 arg5 harg5 arg6 harg6 x0 x1 x2 x3).1
    = stores i arg2 harg2 arg3 harg3 arg4 harg4 arg5 harg5 x0 x1 x2 x3 := by
  sl_kernel_rfl

/-- The queries of a block. -/
abbrev queries (s : Fin 16) (x : Vec Ideal S2048x128 .bf16) : FVec Ideal S128x128 .bf16 := fun y =>
  x (ix2 ⟨128 * s.val + (y 0).val, by have h : (y 0).val < 128 := (y 0).isLt; omega⟩ (y 1))

/-- The window of a block of the padded keys or values. -/
abbrev window (n : Fin 64) (x : Vec Ideal S8704x128 .bf16) : FVec Ideal S640x128 .bf16 := fun y =>
  x (ix2 ⟨128 * n.val + (y 0).val, by have h : (y 0).val < 640 := (y 0).isLt; omega⟩ (y 1))

/-- A head's biases. -/
abbrev biases (h : Fin 2) (x : Vec Ideal S2x128x640 .f32) : FVec Ideal S1x128x640 .f32 := fun y => x (ix3 h (y 1) (y 2))

/-- The number of a block. -/
abbrev number (a : Fin 4) (s : Fin 16) : Fin 64 := ⟨16 * a.val + s.val, by omega⟩

theorem load_queries (s : Fin 16) : View.readAt (Elt Ideal) arg2.view
    (Rect.unit (s := S2048x128) ![128 * s.val, 0] S128x128.size (rows_inb s)).toLoadRect (harg2.unread x0) = queries s x0 := by
  funext y
  rw [harg2.readAt_unread]
  refine congrArg x0 (funext fun b => Fin.ext ?_)
  match b with
  | ⟨0, _⟩ => simp
  | ⟨1, _⟩ => simp

theorem load_window (s : Fin 16) : View.readAt (Elt Ideal) arg3.view (Rect.unit (s := S8704x128) (k0_off1 i (BitVec.ofNat 32 s.val))
    S640x128.size (k0_off1_inb i s)).toLoadRect (harg3.unread x1) = window (number (i 1) s) x1 := by
  funext y
  rw [harg3.readAt_unread]
  refine congrArg x1 (funext fun b => Fin.ext ?_)
  match b with
  | ⟨0, _⟩ => simp [k0_off1_eq i s]; omega
  | ⟨1, _⟩ => simp [k0_off1_eq i s]

theorem load_bias (h : Fin 2) (hb) : View.readAt (Elt Ideal) arg5.view (Rect.unit (s := S2x128x640) ![h.val, 0, 0] S1x128x640.size hb).toLoadRect
    (harg5.unread x3) = biases h x3 := by
  funext y
  rw [harg5.readAt_unread]
  refine congrArg x3 (funext fun b => Fin.ext ?_)
  match b with
  | ⟨0, _⟩ => simp
  | ⟨1, _⟩ => simp
  | ⟨2, _⟩ => simp

/-- A block of a point's result. -/
abbrev part (a : Fin 4) (s : Fin 16) : FVec Ideal S128x128 .bf16 :=
  block (BitVec.ofNat 32 (128 * (number a s).val)) (queries s x0) (window (number a s) x1) (window (number a s) x2)
    (biases 0 x3) (biases 1 x3)

/-- What a point's stores leave, at a row and a lane. -/
abbrev left (a : Fin 4) (y : S2048x128.Idx) : EReal :=
  part x0 x1 x2 x3 a ⟨(y 0).val / 128, by have h : (y 0).val < 2048 := (y 0).isLt; omega⟩
    (ix2 ⟨(y 0).val % 128, Nat.mod_lt _ (by omega)⟩ (y 1))

theorem part_left (a : Fin 4) (y : S2048x128.Idx) (s : Fin 16) (x : S128x128.Idx) (h0 : (y 0).val = 128 * s.val + (x 0).val)
    (h1 : (y 1).val = (x 1).val) : part x0 x1 x2 x3 a s x = left x0 x1 x2 x3 a y := by
  have hx : (x 0).val < 128 := (x 0).isLt
  unfold left
  have hs : (⟨(y 0).val / 128, by have h : (y 0).val < 2048 := (y 0).isLt; omega⟩ : Fin 16) = s :=
    Fin.ext (by dsimp only; omega)
  rw [hs]
  refine congrArg (part x0 x1 x2 x3 a s) (funext fun b => Fin.ext ?_)
  match b with
  | ⟨0, _⟩ => show (x 0).val = (y 0).val % 128; omega
  | ⟨1, _⟩ => exact h1.symm

theorem loaded (s : Fin 16) (h0 h1) :
    block (Scalar.muli (Scalar.addi (Scalar.muli (BitVec.ofNat 32 (i 1).val) 16#32) (BitVec.ofNat 32 s.val)) 128#32)
        (View.readAt (Elt Ideal) arg2.view (Rect.unit (s := S2048x128) ![128 * s.val, 0] S128x128.size (rows_inb s)).toLoadRect (harg2.unread x0))
        (View.readAt (Elt Ideal) arg3.view (Rect.unit (s := S8704x128) (k0_off1 i (BitVec.ofNat 32 s.val)) S640x128.size (k0_off1_inb i s)).toLoadRect (harg3.unread x1))
        (View.readAt (Elt Ideal) arg4.view (Rect.unit (s := S8704x128) (k0_off1 i (BitVec.ofNat 32 s.val)) S640x128.size (k0_off1_inb i s)).toLoadRect (harg4.unread x2))
        (View.readAt (Elt Ideal) arg5.view (Rect.unit (s := S2x128x640) ![0, 0, 0] S1x128x640.size h0).toLoadRect (harg5.unread x3))
        (View.readAt (Elt Ideal) arg5.view (Rect.unit (s := S2x128x640) ![1, 0, 0] S1x128x640.size h1).toLoadRect (harg5.unread x3))
      = part x0 x1 x2 x3 (i 1) s := by
  rw [load_queries, load_window, load_window]
  have e0 := load_bias arg5 harg5 x3 0 h0
  have e1 := load_bias arg5 harg5 x3 1 h1
  dsimp only [Fin.val_zero, Fin.val_one] at e0 e1
  rw [e0, e1]
  exact congrArg (fun w => block w _ _ _ _ _) (start_eq (i 1) s)

/-- A point's buffer of the result after the body. -/
theorem stores_left (y : S2048x128.Idx) : out0_A_4 (F := Ideal) c i arg2 harg2 arg3 harg3 arg4 harg4 arg5 harg5 arg6 harg6 x0 x1 x2 x3 y
    = left x0 x1 x2 x3 (i 1) y := by
  refine View.read_writes_apply_of_pieces _ _ _ _ (fun p hp x => ?_) y (cover0_A_4 (F := Ideal) c i arg2 harg2 arg3 harg3 arg4 harg4 arg5 harg5 arg6 harg6 x0 x1 x2 x3 y)
  rw [run_stores] at hp
  obtain ⟨s, -, rfl⟩ := List.mem_map.1 hp
  refine (congrFun (loaded i arg2 harg2 arg3 harg3 arg4 harg4 arg5 harg5 x0 x1 x2 x3 s _ _) x).trans (part_left x0 x1 x2 x3 (i 1) _ s x ?_ ?_)
  · simp
  · simp

end Cert.Kernel10Ideal.Value

end
-- ==== Proof.AttnHost.lean ====
/- What the chunked attention's kernel reads: keys and values with 512 zero rows in front, and the biases of a block's window. -/
module

public import proofs.«01_k».proof.Proof.Gen.Kernel10Ideal.Value
public import Idealize.ShloMosaic.Lib.Pipeline.ValueKit
public import Idealize.ShloMosaic.Lib.StableHlo.ReadAt
public import Idealize.ShloMosaic.Lib.Tactic.WordOmega

@[expose] public section

set_option maxRecDepth 16384

noncomputable section

namespace Cert.Kernel10Ideal.Value

open Cert.Kernel10Ideal Cert.Kernel10Ideal.Gen
open Idealize.ShloMosaic Idealize.ShloMosaic.TcCoe Idealize.SL.Sem

variable (m : (ℓ : Loc nD τ sig) → Buf (Elt Ideal) ℓ) (c : Dev nD)

/-- The projections. -/
abbrev proj : FVec Ideal S8192x3072 .bf16 := m ((c : Thread nD τ).loc main_arg0)

/-- The bias table. -/
abbrev table : FVec Ideal S8x513 .f32 := m ((c : Thread nD τ).loc main_arg1)

/-- The padding's value. -/
theorem zero_word : (FloatOps.sitofp (F := Ideal) .bf16 (0#32 : BitVec 32) : EReal) = 0 := by
  show ((((0#32 : BitVec 32).toInt : ℤ) : ℝ) : EReal) = 0
  simp

/-- The padded keys. -/
theorem keys_read (p : Fin 8704) (l : Fin 512) : (V m c main_v1 : FVec Ideal S8704x512 .bf16) (ix2 p l)
    = if h : 512 ≤ p.val then proj m c (ix2 ⟨p.val - 512, by omega⟩ ⟨512 + l.val, by omega⟩) else 0 := by
  unfold V
  after_reads_at
  by_cases h : 512 ≤ p.val
  · rw [dif_pos ⟨h, by omega⟩, dif_pos h]
  · rw [dif_neg (fun h' => h h'.1), dif_neg h]
    exact zero_word

/-- The padded values. -/
theorem values_read (p : Fin 8704) (l : Fin 512) : (V m c main_v3 : FVec Ideal S8704x512 .bf16) (ix2 p l)
    = if h : 512 ≤ p.val then proj m c (ix2 ⟨p.val - 512, by omega⟩ ⟨1024 + l.val, by omega⟩) else 0 := by
  unfold V
  after_reads_at
  by_cases h : 512 ≤ p.val
  · rw [dif_pos ⟨h, by omega⟩, dif_pos h]
  · rw [dif_neg (fun h' => h h'.1), dif_neg h]
    exact zero_word

/-- The biases: a row of the table, once for each row of the window and shifted by one from row to row. -/
theorem bias_read (h : Fin 8) (r : Fin 128) (j : Fin 640) : (V m c main_v14 : FVec Ideal S8x128x640 .f32) (ix3 h r j)
    = table m c (ix2 h ⟨min 512 (768 + r.val - j.val), by omega⟩) := by
  unfold V
  after_reads_at
  have hq : (r.val * 767 + (127 + j.val)) % 768 = 127 + j.val - r.val := by
    rw [show r.val * 767 + (127 + j.val) = (127 + j.val - r.val) + 768 * r.val by omega, Nat.add_mul_mod_self_left,
      Nat.mod_eq_of_lt (by omega)]
  split
  · after_reads_at
    refine congrArg (table m c) (funext fun a => Fin.ext ?_)
    match a with
    | ⟨0, _⟩ => rfl
    | ⟨1, _⟩ => show 512 = min 512 (768 + r.val - j.val); omega
  · after_reads_at
    refine congrArg (table m c) (funext fun a => Fin.ext ?_)
    match a with
    | ⟨0, _⟩ => rfl
    | ⟨1, _⟩ =>
      show 128 + (385 - ((r.val * 767 + (127 + j.val)) % 768 - 383 + 1)) = min 512 (768 + r.val - j.val)
      omega

end Cert.Kernel10Ideal.Value

end
-- ==== Proof.AttnSight.lean ====
/- The integers of the reference's attention: which tokens a token sees, and the entry of the bias table for two tokens. -/
module

public import proofs.«01_k».proof.Proof.Gen.Reference10Ideal.Read
public import Idealize.ShloMosaic.Lib.Pipeline.ValueKit
public import Idealize.ShloMosaic.Lib.Tactic.WordOmega

@[expose] public section

set_option maxRecDepth 16384

noncomputable section

namespace Cert.Reference10Ideal.Attn

open Cert.Reference10Ideal Cert.Reference10Ideal.Gen Cert.Reference10Ideal.Read
open Idealize.ShloMosaic Idealize.ShloMosaic.TcCoe

/-- Token `t` sees token `u`: its chunk of 64 is `t`'s own or one of the eight before. -/
def Near (t u : Fin 8192) : Prop := u.val / 64 ≤ t.val / 64 ∧ t.val / 64 ≤ u.val / 64 + 8

instance (t u : Fin 8192) : Decidable (Near t u) := inferInstanceAs (Decidable (_ ∧ _))

/-- The bias table's entry for two tokens: their distance, held within 256 tokens. -/
abbrev entry (t u : Fin 8192) : Nat := min (max (t.val + 256 - u.val) 0) 512

theorem chunk_pair : ∀ (c : Fin 128) (i : Fin 64), IntOp.divsi .host (BitVec.ofNat 32 (64 * c.val + i.val)) 64#32 = BitVec.ofNat 32 c.val := by
  decide +kernel

/-- A token's chunk. -/
theorem chunk_eq (t : Fin 8192) : IntOp.divsi .host (BitVec.ofNat 32 t.val) 64#32 = BitVec.ofNat 32 (t.val / 64) := by
  have h := chunk_pair ⟨t.val / 64, by omega⟩ ⟨t.val % 64, by omega⟩
  dsimp only at h
  rwa [Nat.div_add_mod] at h

/-- The comparison of two small numbers. -/
theorem le_bit (a b : Nat) (ha : a < 8192) (hb : b < 8192) :
    IntOp.cmpi .sle (BitVec.ofNat 32 a) (BitVec.ofNat 32 b) = if a ≤ b then 1#1 else 0#1 := by
  split <;> word_omega

/-- The mask's bit for two tokens. -/
theorem near_eq (t u : Fin 8192) : val_main_v25 (F := Ideal) (ix2 t u) = if Near t u then 1#1 else 0#1 := by
  rw [val_main_v25_apply, val_main_v17_apply, val_main_v24_apply, val_main_v15_apply, val_main_v16_apply, val_main_v13_apply,
    val_main_v14_apply, val_main_v22_apply, val_main_v23_apply, val_main_v18_apply, val_main_v21_apply, val_main_v19_apply,
    val_main_v20_apply, val_main_c_0_apply]
  simp only [val_main_v12_apply, val_main_v11_apply, val_main_c_apply, val_main_v10_apply]
  show IntOp.andi (IntOp.cmpi .sle (IntOp.divsi .host (BitVec.ofNat 32 u.val) 64#32) (IntOp.divsi .host (BitVec.ofNat 32 t.val) 64#32))
    (IntOp.cmpi .sle (IntOp.divsi .host (BitVec.ofNat 32 t.val) 64#32) (IntOp.addi (IntOp.divsi .host (BitVec.ofNat 32 u.val) 64#32) 8#32)) = _
  rw [chunk_eq, chunk_eq]
  have h8 : IntOp.addi (BitVec.ofNat 32 (u.val / 64)) 8#32 = BitVec.ofNat 32 (u.val / 64 + 8) := (BitVec.ofNat_add ..).symm
  rw [h8, le_bit _ _ (by omega) (by omega), le_bit _ _ (by omega) (by omega)]
  unfold Near
  by_cases h1 : u.val / 64 ≤ t.val / 64 <;> by_cases h2 : t.val / 64 ≤ u.val / 64 + 8 <;> simp [h1, h2] <;> rfl

/-- A distance held within 256. -/
theorem clip_word (w : BitVec 32) : (IntOp.minsi 256#32 (IntOp.maxsi 4294967040#32 w)).toInt = min 256 (max (-256) w.toInt) := by
  have h1 : (256#32 : BitVec 32).toInt = 256 := by decide
  have h2 : (4294967040#32 : BitVec 32).toInt = -256 := by decide
  unfold IntOp.minsi IntOp.maxsi
  simp only [BitVec.slt, decide_eq_true_eq, h1, h2]
  split <;> split <;> omega

/-- The wrap of a table's index that is not negative. -/
theorem wrap_word (z : BitVec 32) (h : -256 ≤ z.toInt ∧ z.toInt ≤ 256) :
    (Scalar.select (IntOp.cmpi .slt (IntOp.addi z 256#32) 0#32) (IntOp.addi (IntOp.addi z 256#32) 513#32)
      (IntOp.addi z 256#32)).toInt = z.toInt + 256 := by
  have hy : (IntOp.addi z 256#32).toInt = z.toInt + 256 := by
    rw [IntOp.addi, BitVec.toInt_add, show (256#32 : BitVec 32).toInt = 256 by decide, Int.bmod_def]
    omega
  have hc : IntOp.cmpi .slt (IntOp.addi z 256#32) 0#32 = 0#1 := by
    unfold IntOp.cmpi
    simp only [BitVec.slt, hy, show (0#32 : BitVec 32).toInt = 0 by decide]
    rw [decide_eq_false (by omega)]
    rfl
  rw [hc]
  exact hy

/-- The bias table's entry, as the program computes it. -/
theorem entry_word (t u : Fin 8192) : (val_main_v42 (F := Ideal) (ix3 t u 0)).toInt.toNat = entry t u := by
  rw [val_main_v42_apply, val_main_v41_apply, val_main_v38_apply, val_main_v40_apply, val_main_v36_apply, val_main_v37_apply, val_main_v39_apply,
    val_main_v35_apply, val_main_v34_apply]
  simp only [val_main_call0_v2_apply, val_main_call0_v1_apply, val_main_call0_v0_apply, val_main_call0_v4_apply, val_main_call0_v3_apply, val_main_c_1_apply, val_main_c_2_apply, val_main_c_3_apply, val_main_c_4_apply, val_main_c_5_apply,
    val_main_v33_apply, val_main_v31_apply, val_main_v32_apply, val_main_v29_apply, val_main_v30_apply, val_main_v10_apply]
  show (BitVec.toInt (Scalar.select (IntOp.cmpi .slt (IntOp.addi (IntOp.minsi 256#32 (IntOp.maxsi 4294967040#32
      (IntOp.subi (BitVec.ofNat 32 t.val) (BitVec.ofNat 32 u.val)))) 256#32) 0#32)
    (IntOp.addi (IntOp.addi (IntOp.minsi 256#32 (IntOp.maxsi 4294967040#32
      (IntOp.subi (BitVec.ofNat 32 t.val) (BitVec.ofNat 32 u.val)))) 256#32) 513#32)
    (IntOp.addi (IntOp.minsi 256#32 (IntOp.maxsi 4294967040#32
      (IntOp.subi (BitVec.ofNat 32 t.val) (BitVec.ofNat 32 u.val)))) 256#32))).toNat = _
  have ht := t.isLt
  have hu := u.isLt
  have hs (n : Fin 8192) : (BitVec.ofNat 32 n.val).toInt = n.val := by have := n.isLt; word_omega
  have hd : (IntOp.subi (BitVec.ofNat 32 t.val) (BitVec.ofNat 32 u.val)).toInt = (t.val : Int) - u.val := by
    rw [IntOp.subi, BitVec.toInt_sub, hs, hs, Int.bmod_def]
    omega
  have hc := clip_word (IntOp.subi (BitVec.ofNat 32 t.val) (BitVec.ofNat 32 u.val))
  rw [hd] at hc
  rw [wrap_word _ (by omega), hc]
  unfold entry
  omega

/-- The dimension numbers of the table's read, a column for each two tokens. -/
abbrev columns : GatherDims S8x513 S8192x8192x1 S8x8192x8192 := gather_S8x513_S8192x8192x1_S8x8192x8192_0_1_n_n_1_2_81

/-- The bias table read at a head and two tokens. -/
theorem bias_apply (b : FVec Ideal S8x513 .f32) (h : Fin 8) (t u : Fin 8192) :
    val_main_v43 (F := Ideal) b (ix3 h t u) = b (ix2 h ⟨entry t u, Nat.lt_succ_of_le (Nat.min_le_right _ _)⟩) := by
  unfold val_main_v43
  unfold Host.gather
  refine congrArg b (funext fun a => Fin.ext ?_)
  show columns.start (ix3 h t u) (val_main_v42 (F := Ideal)) a
    + columns.batchCoord (ix3 h t u) a
    + columns.offCoord (ix3 h t u) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil]
    unfold GatherDims.start GatherDims.offCoord
    rw [dif_neg (show (0 : Fin 2) ∉ columns.startIndexMap by decide), dif_pos (show (0 : Fin 2) ∈ columns.sKept from
      (GatherDims.mem_sKept _ _).mpr ⟨by decide, by decide⟩)]
    exact Nat.zero_add _
  · rw [GatherDims.batchCoord_eq_zero _ _ _ List.not_mem_nil,
      GatherDims.offCoord_eq_zero _ _ _ (fun hm => ((GatherDims.mem_sKept _ _).mp hm).1 (List.mem_singleton.mpr rfl))]
    unfold GatherDims.start
    rw [dif_pos (show (1 : Fin 2) ∈ columns.startIndexMap from List.mem_singleton.mpr rfl)]
    refine (congrArg (fun j => min (BitVec.toInt (val_main_v42 (F := Ideal) j)).toNat 512 + 0 + 0)
      (?_ : _ = (ix3 t u 0 : S8192x8192x1.Idx))).trans ?_
    · funext b
      match b with
      | ⟨0, _⟩ => rfl
      | ⟨1, _⟩ => rfl
      | ⟨2, _⟩ => rfl
    · rw [entry_word]
      exact Nat.min_eq_left (Nat.min_le_right _ _)

end Cert.Reference10Ideal.Attn

end
-- ==== Proof.AttnWhole.lean ====
/- The reference's attention at a token and a lane: the values of all tokens, weighted by the softmax of the token's scores,
   which are `⊥` for the tokens it does not see. -/
module

public import proofs.«01_k».proof.Proof.AttnSight
public import proofs.«01_k».proof.Proof.AttnRows

@[expose] public section

set_option maxRecDepth 16384

noncomputable section

namespace Cert.Reference10Ideal.Attn

open Cert.Reference10Ideal Cert.Reference10Ideal.Gen Cert.Reference10Ideal.Read Cert.AttnRows
open Idealize.ShloMosaic Idealize.ShloMosaic.TcCoe
open scoped BigOperators

variable (x : FVec Ideal S8192x3072 .bf16) (b : FVec Ideal S8x513 .f32)

theorem query (t : Fin 8192) (h : Fin 8) (d : Fin 64) : val_main_v5 (F := Ideal) x (ix3 t h d)
    = x (ix2 t ⟨64 * h.val + d.val, by omega⟩) := by
  rw [val_main_v5_apply, val_main_v4_apply, val_main_v1_apply, val_main_v0_apply]
  refine congrArg x (funext fun a => Fin.ext ?_)
  match a with
  | ⟨0, _⟩ => dsimp; omega
  | ⟨1, _⟩ => dsimp; omega

theorem key (t : Fin 8192) (h : Fin 8) (d : Fin 64) : val_main_v7 (F := Ideal) x (ix3 t h d)
    = x (ix2 t ⟨512 + (64 * h.val + d.val), by omega⟩) := by
  rw [val_main_v7_apply, val_main_v6_apply, val_main_v2_apply, val_main_v0_apply]
  refine congrArg x (funext fun a => Fin.ext ?_)
  match a with
  | ⟨0, _⟩ => dsimp; omega
  | ⟨1, _⟩ => dsimp; omega

theorem value (t : Fin 8192) (h : Fin 8) (d : Fin 64) : val_main_v9 (F := Ideal) x (ix3 t h d)
    = x (ix2 t ⟨1024 + (64 * h.val + d.val), by omega⟩) := by
  rw [val_main_v9_apply, val_main_v8_apply, val_main_v3_apply, val_main_v0_apply]
  refine congrArg x (funext fun a => Fin.ext ?_)
  match a with
  | ⟨0, _⟩ => dsimp; omega
  | ⟨1, _⟩ => dsimp; omega

/-- A token's scores for a head. -/
abbrev tokenScore (h : Fin 8) (t u : Fin 8192) : EReal :=
  if Near t u then
    (∑ d : Fin 64, x (ix2 t ⟨64 * h.val + d.val, by omega⟩) * x (ix2 u ⟨512 + (64 * h.val + d.val), by omega⟩))
      * (((1 : ℝ) / 8 : ℝ) : EReal) + b (ix2 h ⟨entry t u, Nat.lt_succ_of_le (Nat.min_le_right _ _)⟩)
  else ⊥

theorem eighth : Ideal.ofBits .f32 0x3E000000#32 = (((1 : ℝ) / 8 : ℝ) : EReal) := by
  simp [Ideal.ofBits, Ideal.ieee, -EReal.coe_mul]; norm_num

theorem minus_inf : Ideal.ofBits .f32 0xFF800000#32 = ⊥ := by simp [Ideal.ofBits, Ideal.ieee]

theorem product (h : Fin 8) (t u : Fin 8192) : val_main_v26 (F := Ideal) x (ix3 h t u)
    = ∑ d : Fin 64, x (ix2 t ⟨64 * h.val + d.val, by omega⟩) * x (ix2 u ⟨512 + (64 * h.val + d.val), by omega⟩) := by
  rw [val_main_v26_apply]
  refine Finset.sum_congr rfl fun d _ => ?_
  rw [← query x t h d, ← key x u h d]
  refine congrArg₂ (· * ·) (congrArg _ (funext fun a => Fin.ext ?_)) (congrArg _ (funext fun a => Fin.ext ?_)) <;>
    match a with
    | ⟨0, _⟩ => rfl
    | ⟨1, _⟩ => rfl
    | ⟨2, _⟩ => rfl

theorem score_eq (h : Fin 8) (t u : Fin 8192) : val_main_v45 (F := Ideal) x b (ix3 h t u) = tokenScore x b h t u := by
  rw [val_main_v45_apply, val_main_call1_v1_apply, val_main_v44_apply, val_main_v28_apply, val_main_v27_apply, val_main_cst_apply,
    val_main_call1_v2_apply, val_main_call1_v0_apply, val_main_cst_6_apply, product, bias_apply]
  refine (congrArg (fun c => Scalar.select c _ _) ((congrArg (val_main_v25 (F := Ideal)) (funext fun a => Fin.ext (by
    match a with
    | ⟨0, _⟩ => rfl
    | ⟨1, _⟩ => rfl) : _ = (ix2 t u : S8192x8192.Idx))).trans (near_eq t u))).trans ?_
  unfold tokenScore
  have e8 : FloatOps.ofBits (F := Ideal) .f32 0x3E000000#32 = (((1 : ℝ) / 8 : ℝ) : EReal) := eighth
  have eb : FloatOps.ofBits (F := Ideal) .f32 0xFF800000#32 = (⊥ : EReal) := minus_inf
  rw [e8, eb]
  by_cases hn : Near t u
  · simp only [hn, if_true]; rfl
  · simp only [hn, if_false]; rfl

theorem top_eq (h : Fin 8) (t : Fin 8192) : val_main_v48 (F := Ideal) x b (ix2 h t) = top (tokenScore x b h t) := by
  rw [val_main_v48_apply, val_main_v47_apply, val_main_cst_8_apply]
  have e : val_main_v46 (F := Ideal) x b (ix2 h t) = top (tokenScore x b h t) := by
    unfold val_main_v46
    have eb : val_main_cst_7 (F := Ideal) (Shape.Idx.first h_S_) = (⊥ : EReal) := minus_inf
    show Host.reduce (max : EReal → EReal → EReal) _ _ _ _ _ = _
    rw [Host.reduce_eq_fold, Shape.ReducesTo.fold_fiber_r3_a2, eb]
    exact congrArg (fun f => Finset.fold max ⊥ f Finset.univ) (funext fun u => score_eq x b h t u)
  rw [e]
  have eb : FloatOps.ofBits (F := Ideal) .f32 0xFF800000#32 = (⊥ : EReal) := minus_inf
  rw [eb]
  exact max_eq_right bot_le

theorem exp_eq (h : Fin 8) (t u : Fin 8192) : val_main_v52 (F := Ideal) x b (ix3 h t u)
    = Ideal.exp (tokenScore x b h t u - top (tokenScore x b h t)) := by
  rw [val_main_v52_apply, val_main_v51_apply, val_main_v50_apply, val_main_v49_apply, score_eq, ← top_eq]
  refine congrArg (fun m => Ideal.exp (tokenScore x b h t u - m)) (congrArg _ (funext fun a => Fin.ext ?_))
  match a with
  | ⟨0, _⟩ => rfl
  | ⟨1, _⟩ => rfl

theorem total_eq (h : Fin 8) (t : Fin 8192) : val_main_v53 (F := Ideal) x b (ix2 h t) = total (tokenScore x b h t) := by
  rw [val_main_v53_apply, val_main_cst_9_apply]
  have e0 : FloatOps.ofBits (F := Ideal) .f32 0x00000000#32 = (0 : EReal) := by
    show Ideal.ofBits .f32 0x00000000#32 = 0
    simp [Ideal.ofBits, Ideal.ieee]
  rw [e0, zero_add]
  refine Finset.sum_congr rfl fun u _ => Eq.trans (congrArg _ (funext fun a => Fin.ext ?_)) (exp_eq x b h t u)
  match a with
  | ⟨0, _⟩ => rfl
  | ⟨1, _⟩ => rfl
  | ⟨2, _⟩ => rfl

theorem weight_eq (h : Fin 8) (t u : Fin 8192) : val_main_v56 (F := Ideal) x b (ix3 h t u)
    = Ideal.div (Ideal.exp (tokenScore x b h t u - top (tokenScore x b h t))) (total (tokenScore x b h t)) := by
  rw [val_main_v56_apply, val_main_v55_apply, val_main_v54_apply, exp_eq, ← total_eq]
  refine congrArg (fun m => Ideal.div _ m) (congrArg _ (funext fun a => Fin.ext ?_))
  match a with
  | ⟨0, _⟩ => rfl
  | ⟨1, _⟩ => rfl

/-- The reference's result at a token and a lane. -/
theorem result_eq (t : Fin 8192) (l : Fin 512) : val_main_v60 (F := Ideal) x b (ix2 t l)
    = weigh (tokenScore x b ⟨l.val / 64, by omega⟩ t) (fun u => x (ix2 u ⟨1024 + l.val, by omega⟩)) := by
  rw [val_main_v60_apply, val_main_v59_apply, val_main_v58_apply, val_main_v57_apply]
  refine Finset.sum_congr rfl fun u _ => (mul_comm _ _).trans (congrArg₂ (· * ·) ?_ ?_)
  · rw [← weight_eq]
    refine congrArg _ (funext fun a => Fin.ext ?_)
    match a with
    | ⟨0, _⟩ => dsimp; omega
    | ⟨1, _⟩ => dsimp; omega
    | ⟨2, _⟩ => rfl
  · have hv := value x u ⟨l.val / 64, by omega⟩ ⟨l.val % 64, by omega⟩
    refine Eq.trans (congrArg _ (funext fun a => Fin.ext ?_)) (hv.trans (congrArg x (funext fun a => Fin.ext ?_)))
    · match a with
      | ⟨0, _⟩ => rfl
      | ⟨1, _⟩ => dsimp; omega
      | ⟨2, _⟩ => dsimp; omega
    · match a with
      | ⟨0, _⟩ => rfl
      | ⟨1, _⟩ => dsimp; omega

end Cert.Reference10Ideal.Attn

end
-- ==== Proof.AttnMatch.lean ====
/- A block of the chunked attention against the whole: a window of 640 padded tokens holds every token that a query of the
   block sees, so that its weighted sum is the one over all tokens. -/
module

public import proofs.«01_k».proof.Proof.AttnBlock
public import proofs.«01_k».proof.Proof.AttnWhole

@[expose] public section

set_option maxRecDepth 16384

noncomputable section

namespace Cert.Kernel10Ideal.Value

open Cert.Kernel10Ideal Cert.Kernel10Ideal.Gen Cert.AttnRows Cert.Reference10Ideal.Attn
open Idealize.ShloMosaic Idealize.ShloMosaic.TcCoe
open scoped BigOperators

/-- A real value. -/
abbrev IsReal (a : EReal) : Prop := a ≠ ⊤ ∧ a ≠ ⊥

variable (X : FVec Ideal S8192x3072 .bf16) (B : FVec Ideal S8x513 .f32)
  (hX : ∀ (t : Fin 8192) (l : Fin 3072), l.val < 1024 → IsReal (X (ix2 t l))) (hB : ∀ (h : Fin 8) (e : Fin 513), IsReal (B (ix2 h e)))

include hX hB in
/-- The score of a token that is seen is real. -/
theorem score_real (h : Fin 8) (t u : Fin 8192) (hn : Near t u) : IsReal (tokenScore X B h t u) := by
  unfold tokenScore
  rw [if_pos hn]
  exact mul_add_real (sum_mul_real _ _ (fun d => hX _ _ (by dsimp only; omega)) fun d => hX _ _ (by dsimp only; omega))
    ⟨EReal.coe_ne_top _, EReal.coe_ne_bot _⟩ (hB _ _)

include hX hB in
theorem score_ne_top (h : Fin 8) (t u : Fin 8192) : tokenScore X B h t u ≠ ⊤ := by
  by_cases hn : Near t u
  · exact (score_real X B hX hB h t u hn).1
  · unfold tokenScore; rw [if_neg hn]; exact bot_ne_top

theorem near_self (t : Fin 8192) : Near t t := ⟨le_refl _, Nat.le_add_right _ _⟩

/-- Scores over the padded tokens. -/
abbrev padScore (h : Fin 8) (t : Fin 8192) (p : Fin 8704) : EReal :=
  if hp : 512 ≤ p.val then tokenScore X B h t ⟨p.val - 512, by omega⟩ else ⊥

/-- A lane over the padded tokens. -/
abbrev padLane (l : Fin 3072) (p : Fin 8704) : EReal :=
  if hp : 512 ≤ p.val then X (ix2 ⟨p.val - 512, by omega⟩ l) else 0

include hX hB in
/-- The padding changes nothing. -/
theorem weigh_padded (h : Fin 8) (t : Fin 8192) (l : Fin 3072) :
    weigh (padScore X B h t) (padLane X l) = weigh (tokenScore X B h t) fun u => X (ix2 u l) := by
  refine weigh_window (fun u : Fin 8192 => (⟨512 + u.val, by omega⟩ : Fin 8704)) (fun a b hab => Fin.ext ?_) _ _ _ _
    (fun u => ?_) (fun u => ?_) (fun p hp => ?_) (score_ne_top X B hX hB h t) t (score_real X B hX hB h t t (near_self t)).2
  · have := Fin.mk.inj hab; omega
  · unfold padScore
    rw [dif_pos (Nat.le_add_right _ _)]
    exact congrArg (tokenScore X B h t) (Fin.ext (by dsimp only; omega))
  · unfold padLane
    rw [dif_pos (Nat.le_add_right _ _)]
    exact congrArg (fun v => X (ix2 v l)) (Fin.ext (by dsimp only; omega))
  · unfold padScore
    rw [dif_neg fun h512 => hp ⟨⟨p.val - 512, by omega⟩, Fin.ext (by dsimp only; omega)⟩]

include hX hB in
/-- A window's weighted sum is the whole's. -/
theorem weigh_block (n : Fin 64) (h : Fin 8) (r : Fin 128) (l : Fin 3072) (S v : Fin 640 → EReal)
    (hS : ∀ j : Fin 640, padScore X B h ⟨128 * n.val + r.val, by omega⟩ ⟨128 * n.val + j.val, by omega⟩ = S j)
    (hv : ∀ j : Fin 640, padLane X l ⟨128 * n.val + j.val, by omega⟩ = v j) :
    weigh S v = weigh (tokenScore X B h ⟨128 * n.val + r.val, by omega⟩) fun u => X (ix2 u l) := by
  rw [← weigh_padded X B hX hB]
  refine (weigh_window (fun j : Fin 640 => (⟨128 * n.val + j.val, by omega⟩ : Fin 8704)) (fun a b hab => Fin.ext ?_) _ _ _ _
    hS hv (fun p hp => ?_) (fun j => ?_) ⟨512 + r.val, by omega⟩ ?_).symm
  · have := Fin.mk.inj hab; omega
  · unfold padScore
    split
    · rename_i h512
      unfold tokenScore
      rw [if_neg]
      rintro ⟨h1, h2⟩
      dsimp only at h1 h2
      exact hp ⟨⟨p.val - 128 * n.val, by omega⟩, Fin.ext (by dsimp only; omega)⟩
    · rfl
  · rw [← hS]
    unfold padScore
    split
    · exact score_ne_top X B hX hB _ _ _
    · exact bot_ne_top
  · rw [← hS]
    unfold padScore
    rw [dif_pos (by dsimp only; omega)]
    exact (score_real X B hX hB _ _ _ (by constructor <;> dsimp only <;> omega)).2

/-- The scores of a head in a block, over the padded tokens. -/
theorem headScore_eq (n : Fin 64) (h : Fin 8) (r : Fin 128) (a : Nat) (ha : a + 64 ≤ 128) (q : FVec Ideal S128x128 .bf16)
    (k : FVec Ideal S640x128 .bf16) (b : FVec Ideal S1x128x640 .f32)
    (hq : ∀ (d : Fin 64), q (ix2 r ⟨a + d.val, by omega⟩) = X (ix2 ⟨128 * n.val + r.val, by omega⟩ ⟨64 * h.val + d.val, by omega⟩))
    (hk : ∀ (j : Fin 640) (d : Fin 64), k (ix2 j ⟨a + d.val, by omega⟩)
      = padLane X ⟨512 + (64 * h.val + d.val), by omega⟩ ⟨128 * n.val + j.val, by omega⟩)
    (hb : ∀ j : Fin 640, b (ix3 0 r j) = B (ix2 h ⟨min 512 (768 + r.val - j.val), by omega⟩)) (j : Fin 640) :
    padScore X B h ⟨128 * n.val + r.val, by omega⟩ ⟨128 * n.val + j.val, by omega⟩ = headScore n a ha q k b r j := by
  unfold padScore headScore
  by_cases h512 : 512 ≤ 128 * n.val + j.val
  · rw [dif_pos h512]
    unfold tokenScore
    by_cases hs : Sees n r j
    · have hn : Near ⟨128 * n.val + r.val, by omega⟩ ⟨128 * n.val + j.val - 512, by omega⟩ := by
        obtain ⟨⟨h1, h2⟩, h3⟩ := hs
        constructor <;> dsimp only <;> omega
      rw [if_pos hs, if_pos hn, hb]
      obtain ⟨⟨h1, h2⟩, h3⟩ := hs
      refine congrArg₂ (fun s e => s * (((1 : ℝ) / 8 : ℝ) : EReal) + B (ix2 h e)) (Finset.sum_congr rfl fun d _ => ?_)
        (Fin.ext (by show min (max (128 * n.val + r.val + 256 - (128 * n.val + j.val - 512)) 0) 512 = min 512 (768 + r.val - j.val); omega))
      rw [hq, hk]
      unfold padLane
      rw [dif_pos h512]
    · rw [if_neg hs, if_neg]
      rintro ⟨h1, h2⟩
      dsimp only at h1 h2
      exact hs ⟨⟨by omega, by omega⟩, by omega⟩
  · rw [dif_neg h512, if_neg]
    rintro ⟨-, h3⟩
    omega

end Cert.Kernel10Ideal.Value

end
-- ==== Proof.AttnForward.lean ====
/- The chunked attention's array is the reference's: every block of 128 tokens and 128 lanes by `left` and `block_apply`, its
   window's scores and values by `weigh_block`. -/
module

public import proofs.«01_k».proof.Proof.AttnPieces
public import proofs.«01_k».proof.Proof.AttnHost
public import proofs.«01_k».proof.Proof.AttnMatch
public import proofs.«01_k».proof.Proof.Gen.Reference10Ideal.Run
public import proofs.«01_k».proof.Proof.Gen.Pre_finite_scores
public import Idealize.ShloMosaic.Lib.ReduceAll

@[expose] public section

set_option maxRecDepth 16384

noncomputable section

namespace Cert.Kernel10Ideal.Value

open Cert.Kernel10Ideal Cert.Kernel10Ideal.Gen Cert.AttnRows Cert.Reference10Ideal.Attn
open Idealize.ShloMosaic Idealize.ShloMosaic.TcCoe Idealize.SL.Sem
open Idealize.ShloMosaic.Pipeline (Dat)
open scoped BigOperators

section point
variable (X : FVec Ideal S8192x3072 .bf16) (B : FVec Ideal S8x513 .f32)
  (hX : ∀ (t : Fin 8192) (l : Fin 3072), l.val < 1024 → IsReal (X (ix2 t l))) (hB : ∀ (h : Fin 8) (e : Fin 513), IsReal (B (ix2 h e)))
  (a g : Fin 4) (x0 : Vec Ideal S2048x128 .bf16) (x1 x2 : Vec Ideal S8704x128 .bf16) (x3 : Vec Ideal S2x128x640 .f32)
  (h0 : ∀ (r : Fin 2048) (l : Fin 128), x0 (ix2 r l) = X (ix2 ⟨2048 * a.val + r.val, by omega⟩ ⟨128 * g.val + l.val, by omega⟩))
  (h1 : ∀ (p : Fin 8704) (l : Fin 128), x1 (ix2 p l) = padLane X ⟨512 + (128 * g.val + l.val), by omega⟩ p)
  (h2 : ∀ (p : Fin 8704) (l : Fin 128), x2 (ix2 p l) = padLane X ⟨1024 + (128 * g.val + l.val), by omega⟩ p)
  (h3 : ∀ (e : Fin 2) (r : Fin 128) (j : Fin 640), x3 (ix3 e r j) = B (ix2 ⟨2 * g.val + e.val, by omega⟩ ⟨min 512 (768 + r.val - j.val), by omega⟩))

include hX hB h0 h1 h2 h3 in
/-- A point's element for a head `e` of the point's two. -/
theorem head_part (s : Fin 16) (r l : Fin 128) (e : Fin 2) (S : Fin 640 → EReal)
    (hS : S = headScore (number a s) (64 * e.val) (by omega) (queries s x0) (window (number a s) x1) (biases e x3) r) :
    weigh S (fun j => window (number a s) x2 (ix2 j l))
      = weigh (tokenScore X B ⟨2 * g.val + e.val, by omega⟩ ⟨2048 * a.val + (128 * s.val + r.val), by omega⟩)
          fun u => X (ix2 u ⟨1024 + (128 * g.val + l.val), by omega⟩) := by
  have e0 : (⟨2048 * a.val + (128 * s.val + r.val), by omega⟩ : Fin 8192) = ⟨128 * (number a s).val + r.val, by omega⟩ :=
    Fin.ext (by show _ = 128 * (16 * a.val + s.val) + r.val; dsimp only; omega)
  rw [e0]
  refine weigh_block X B hX hB (number a s) ⟨2 * g.val + e.val, by omega⟩ r _ S _ (fun j => ?_) fun j => (h2 _ _).symm
  rw [hS]
  refine headScore_eq X B (number a s) ⟨2 * g.val + e.val, by omega⟩ r (64 * e.val) (by omega) _ _ _ (fun d => ?_) (fun j d => ?_)
    (fun j => h3 e r j) j
  · refine (h0 _ _).trans (congrArg X (funext fun b => Fin.ext ?_))
    match b with
    | ⟨0, _⟩ => show 2048 * a.val + (128 * s.val + r.val) = 128 * (16 * a.val + s.val) + r.val; omega
    | ⟨1, _⟩ => show 128 * g.val + (64 * e.val + d.val) = 64 * (2 * g.val + e.val) + d.val; omega
  · refine (h1 _ _).trans (congrArg₂ (fun q p => padLane X q p) (Fin.ext ?_) (Fin.ext ?_))
    · show 512 + (128 * g.val + (64 * e.val + d.val)) = 512 + (64 * (2 * g.val + e.val) + d.val); omega
    · rfl

include hX hB h0 h1 h2 h3 in
/-- A point's element is the reference's. -/
theorem left_eq (y : S2048x128.Idx) (t : Fin 8192) (l : Fin 512) (ht : t.val = 2048 * a.val + (y 0).val) (hl : l.val = 128 * g.val + (y 1).val) :
    left x0 x1 x2 x3 a y = Cert.Reference10Ideal.Read.val_main_v60 (F := Ideal) X B (ix2 t l) := by
  have hy0 : (y 0).val < 2048 := (y 0).isLt
  have hy1 : (y 1).val < 128 := (y 1).isLt
  rw [result_eq]
  unfold left
  refine (block_apply (number a ⟨(y 0).val / 128, by omega⟩) _ _ _ _ _ ⟨(y 0).val % 128, by omega⟩ (y 1)).trans ?_
  have et : t = ⟨2048 * a.val + (128 * ((y 0).val / 128) + (y 0).val % 128), by omega⟩ := Fin.ext (by dsimp only; omega)
  have el : (⟨1024 + l.val, by omega⟩ : Fin 3072) = ⟨1024 + (128 * g.val + (y 1).val), by omega⟩ := Fin.ext (by dsimp only; omega)
  rw [et, el]
  by_cases hh : (y 1).val < 64
  · have eh : (⟨l.val / 64, by omega⟩ : Fin 8) = ⟨2 * g.val + (0 : Fin 2).val, by omega⟩ := Fin.ext (by show l.val / 64 = 2 * g.val + 0; omega)
    rw [eh]
    exact head_part X B hX hB a g x0 x1 x2 x3 h0 h1 h2 h3 ⟨(y 0).val / 128, by omega⟩ ⟨(y 0).val % 128, by omega⟩ (y 1) 0 _ (if_pos hh)
  · have eh : (⟨l.val / 64, by omega⟩ : Fin 8) = ⟨2 * g.val + (1 : Fin 2).val, by omega⟩ := Fin.ext (by show l.val / 64 = 2 * g.val + 1; omega)
    rw [eh]
    exact head_part X B hX hB a g x0 x1 x2 x3 h0 h1 h2 h3 ⟨(y 0).val / 128, by omega⟩ ⟨(y 0).val % 128, by omega⟩ (y 1) 1 _ (if_neg hh)

end point

variable (m : (ℓ : Loc nD τ sig) → Buf (Elt Ideal) ℓ)

/-- Every window's block index at every grid point, and the point's coordinates. -/
theorem idx_val : ∀ t : Fin cfg0.N, win0_0.index t = ![t.val % 4, t.val / 4]
    ∧ win0_1.index t = ![0, t.val / 4]
    ∧ win0_2.index t = ![0, t.val / 4]
    ∧ win0_3.index t = ![t.val / 4, 0, 0]
    ∧ win0_4.index t = ![t.val % 4, t.val / 4]
    ∧ (grid0.coords t 1).val = t.val % 4 :=
  (by decide +kernel : ∀ t : Fin grid0.N, _)

/-- A rank-two index is fixed by its coordinates. -/
theorem ix2_of {a b : ℕ} {y : (⟨2, ![a, b]⟩ : Shape).Idx} {p : Fin a} {q : Fin b} (h0 : y 0 = p) (h1 : y 1 = q) : y = ix2 p q :=
  funext fun i => match i with
    | ⟨0, _⟩ => h0
    | ⟨1, _⟩ => h1

/-- A rank-three index is fixed by its coordinates. -/
theorem ix3_of {a b c : ℕ} {y : (⟨3, ![a, b, c]⟩ : Shape).Idx} {p : Fin a} {q : Fin b} {r : Fin c} (h0 : y 0 = p) (h1 : y 1 = q)
    (h2 : y 2 = r) : y = ix3 p q r :=
  funext fun i => match i with
    | ⟨0, _⟩ => h0
    | ⟨1, _⟩ => h1
    | ⟨2, _⟩ => h2

/-- The array the kernel leaves is the reference's. -/
theorem final (c : Dev nD)
    (hX : ∀ (t : Fin 8192) (l : Fin 3072), l.val < 1024 → IsReal (proj m c (ix2 t l))) (hB : ∀ (h : Fin 8) (e : Fin 513), IsReal (table m c (ix2 h e))) :
    (dats m 0 c).arrAt 4 (cfgs 0).N
    = Cert.Reference10Ideal.Read.val_main_v60 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  unfold outsAt0
  rw [stores_left]
  obtain ⟨i0, i1, i2, i3, i4, ic⟩ := idx_val t
  have ht := t.isLt
  have hN : cfg0.N = 16 := by decide
  have e0 : ((((cfg0.win 4).blk t).view.emb y) 0).val = 2048 * (t.val % 4) + (y 0).val := by
    blk_simp [i4]; simp; omega
  have e1 : ((((cfg0.win 4).blk t).view.emb y) 1).val = 128 * (t.val / 4) + (y 1).val := by
    blk_simp [i4]; simp; omega
  have ex : ((cfg0.win 4).blk t).view.emb y = (ix2 (((((cfg0.win 4).blk t).view.emb y) 0)) (((((cfg0.win 4).blk t).view.emb y) 1)) : S8192x512.Idx) :=
    funext fun b => match b with
      | ⟨0, _⟩ => rfl
      | ⟨1, _⟩ => rfl
  refine (left_eq (proj m c) (table m c) hX hB (grid0.coords t 1) ⟨t.val / 4, by omega⟩ _ _ _ _ (fun r l => ?_) (fun p l => ?_) (fun p l => ?_)
    (fun e r j => ?_) y _ _ (e0.trans ?_) e1).trans (congrArg _ ex.symm)
  · have p0 := r.isLt
    have p1 := l.isLt
    show (V m c main_arg0) (((cfg0.win 0).blk t).view.emb (ix2 r l)) = _
    unfold V proj
    refine congrArg (m ((c : Thread nD τ).loc main_arg0)) (funext fun b => match b with
      | ⟨0, _⟩ => Fin.ext ?_
      | ⟨1, _⟩ => Fin.ext ?_)
    · blk_simp [i0]; simp; omega
    · blk_simp [i0]; simp; omega
  · have p1 := l.isLt
    have f0 : (((cfg0.win 1).blk t).view.emb (ix2 p l)) 0 = (p : Fin 8704) := Fin.ext (by blk_simp [i1])
    have f1 : (((cfg0.win 1).blk t).view.emb (ix2 p l)) 1 = (⟨128 * (t.val / 4) + l.val, by omega⟩ : Fin 512) :=
      Fin.ext (by blk_simp [i1]; simp; omega)
    show (V m c main_v1) (((cfg0.win 1).blk t).view.emb (ix2 p l)) = _
    refine (congrArg (V m c main_v1) (ix2_of f0 f1)).trans ((keys_read m c p _).trans ?_)
    rfl
  · have p1 := l.isLt
    have f0 : (((cfg0.win 2).blk t).view.emb (ix2 p l)) 0 = (p : Fin 8704) := Fin.ext (by blk_simp [i2])
    have f1 : (((cfg0.win 2).blk t).view.emb (ix2 p l)) 1 = (⟨128 * (t.val / 4) + l.val, by omega⟩ : Fin 512) :=
      Fin.ext (by blk_simp [i2]; simp; omega)
    show (V m c main_v3) (((cfg0.win 2).blk t).view.emb (ix2 p l)) = _
    refine (congrArg (V m c main_v3) (ix2_of f0 f1)).trans ((values_read m c p _).trans ?_)
    rfl
  · have p1 := e.isLt
    have f0 : (((cfg0.win 3).blk t).view.emb (ix3 e r j)) 0 = (⟨2 * (t.val / 4) + e.val, by omega⟩ : Fin 8) :=
      Fin.ext (by blk_simp [i3]; simp; omega)
    have f1 : (((cfg0.win 3).blk t).view.emb (ix3 e r j)) 1 = (r : Fin 128) := Fin.ext (by blk_simp [i3])
    have f2 : (((cfg0.win 3).blk t).view.emb (ix3 e r j)) 2 = (j : Fin 640) := Fin.ext (by blk_simp [i3])
    show (V m c main_v14) (((cfg0.win 3).blk t).view.emb (ix3 e r j)) = _
    refine (congrArg (V m c main_v14) (ix3_of f0 f1 f2)).trans ((bias_read m c _ _ _).trans ?_)
    rfl
  · rw [ic]

/-- A number whose magnitude is below infinity is real. -/
theorem real_of {x : EReal} (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  constructor <;> rintro rfl <;> simp [Ideal.cmp] at h

/-- The precondition read back: the queries, the keys and the bias table have only real elements. -/
theorem scores_read (x : FVec Ideal Cert.Pre_finite_scores.S8192x3072 .bf16) (b : FVec Ideal Cert.Pre_finite_scores.S8x513 .f32)
    (h : Cert.Pre_finite_scores.fn (F := Ideal) x b = fun _ => 1#1) :
    (∀ (t : Fin 8192) (l : Fin 3072), l.val < 1024 → IsReal (x (ix2 t l))) ∧ ∀ (n : Fin 8) (e : Fin 513), IsReal (b (ix2 n e)) := by
  haveI : Subsingleton Cert.Pre_finite_scores.S_.Idx := ⟨fun a b => funext fun k => k.elim0⟩
  have h0 := congrFun h (fun a => a.elim0)
  obtain ⟨h1, h2⟩ := IntOp.andi_eq_one.mp h0
  refine ⟨fun t l hl => ?_, fun n e => real_of (Host.reduce_andi_all _ _ _ _ _ h2 (ix2 n e))⟩
  have e := real_of (Host.reduce_andi_all _ _ _ _ _ h1 (ix2 t ⟨l.val, hl⟩))
  refine (congrArg (fun i => IsReal (x i)) (funext fun b => match b with
    | ⟨0, _⟩ => Fin.ext ?_
    | ⟨1, _⟩ => Fin.ext ?_)).mp e
  · exact Nat.zero_add _
  · exact Nat.zero_add _

end Cert.Kernel10Ideal.Value

end
-- ==== Proof.AdamStep.lean ====
/- One element of the optimiser's step. -/
module

public import Idealize.ShloMosaic.Lib.Pipeline.ValueKit

@[expose] public section

noncomputable section

namespace Cert.AdamStep

open Idealize.ShloMosaic

/-- The first moment after the gradient `g`. -/
abbrev moment (m g : Ideal .f32) : Ideal .f32 :=
  FloatOps.addf (FloatOps.mulf (Scalar.ofBits .f32 0x3F666666#32) m) (FloatOps.mulf (Scalar.ofBits .f32 0x3DCCCCCD#32) g)

/-- The second moment after the gradient `g`. -/
abbrev second (v g : Ideal .f32) : Ideal .f32 :=
  FloatOps.addf (FloatOps.mulf (Scalar.ofBits .f32 0x3F7FBE77#32) v)
    (FloatOps.mulf (Scalar.ofBits .f32 0x3A83126F#32) (FloatOps.mulf g g))

/-- The step of a weight `w` from the gradient and the moments before it. -/
abbrev step (w g m v : Ideal .f32) : Ideal .f32 :=
  FloatOps.mulf (Scalar.ofBits .f32 0xBA83126F#32)
    (FloatOps.addf
      (FloatOps.divf (FloatOps.divf (moment m g) (Scalar.ofBits .f32 0x3F26BD02#32))
        (FloatOps.addf (FloatOps.sqrt (FloatOps.divf (second v g) (Scalar.ofBits .f32 0x3C231ACC#32)))
          (Scalar.ofBits .f32 0x322BCC77#32)))
      (FloatOps.mulf (Scalar.ofBits .f32 0x3C23D70A#32) w))

end Cert.AdamStep

end
-- ==== Proof.AdamAttnIn.lean ====
/- The optimiser's step for the attention input projection's weights: the step, the first moment and the second moment that the kernel
   leaves are the reference's. -/
module

public import proofs.«01_k».proof.Proof.Gen.Kernel11Ideal.Value
public import proofs.«01_k».proof.Proof.Gen.Reference11Ideal.Run
public import proofs.«01_k».proof.Proof.Gen.Reference11Ideal.Read
public import proofs.«01_k».proof.Proof.AdamStep
public import Idealize.ShloMosaic.Lib.Pipeline.ValueKit

@[expose] public section

set_option maxRecDepth 16384

noncomputable section

namespace Cert.Kernel11Ideal.Value

open Cert.Kernel11Ideal Cert.Kernel11Ideal.Gen Cert.AdamStep
open Idealize.ShloMosaic Idealize.ShloMosaic.TcCoe Idealize.SL.Sem
open Idealize.ShloMosaic.Pipeline (Dat)

variable (m : (ℓ : Loc nD τ sig) → Buf (Elt Ideal) ℓ)

/-- The first moment in a block. -/
theorem pay_m (g x : FVec Ideal S512x768 .f32) (y : S512x768.Idx) : k0_pay2 (F := Ideal) g x y = moment (x y) (g y) := by
  unfold k0_pay2 k0_pay1
  simp only [shapeCast_self]
  rfl

/-- The second moment in a block. -/
theorem pay_v (g x : FVec Ideal S512x768 .f32) (y : S512x768.Idx) : k0_pay3 (F := Ideal) g x y = second (x y) (g y) := by
  unfold k0_pay3 k0_pay1
  simp only [shapeCast_self]
  rfl

/-- The step in a block. -/
theorem pay_d (w g x z : FVec Ideal S512x768 .f32) (y : S512x768.Idx) : k0_pay4 (F := Ideal) w g x z y = step (w y) (g y) (x y) (z y) := by
  unfold k0_pay4 k0_pay3 k0_pay2 k0_pay1
  simp only [shapeCast_self]
  rfl

section point

variable (c : Dev nD) (t : Fin cfg0.N) (y : S512x768.Idx)

/-- The place in the array of the block's element. -/
abbrev place : S2048x768.Idx := ((View.whole main_v4_0).slice (win0_4.rect t)).emb y

/-- A block of the weights is the argument's at the place of the block. -/
theorem read0 : iblk m c 0 t y = shapeCast S2048x768 (m ((c : Thread nD τ).loc main_arg0)) shapeCasts_S2x1024x768_S2048x768 (place t y) := by
  have e : V m c main_v0 = shapeCast S2048x768 (m ((c : Thread nD τ).loc main_arg0)) shapeCasts_S2x1024x768_S2048x768 := by
    entry_read
    rfl
  rw [← e]
  rfl

/-- A block of the gradient is the argument's at the place of the block. -/
theorem read1 : iblk m c 1 t y = shapeCast S2048x768 (m ((c : Thread nD τ).loc main_arg1)) shapeCasts_S2x1024x768_S2048x768 (place t y) := by
  have e : V m c main_v1 = shapeCast S2048x768 (m ((c : Thread nD τ).loc main_arg1)) shapeCasts_S2x1024x768_S2048x768 := by
    entry_read
    rfl
  rw [← e]
  rfl

/-- A block of the first moment is the argument's at the place of the block. -/
theorem read2 : iblk m c 2 t y = shapeCast S2048x768 (m ((c : Thread nD τ).loc main_arg2)) shapeCasts_S2x1024x768_S2048x768 (place t y) := by
  have e : V m c main_v2 = shapeCast S2048x768 (m ((c : Thread nD τ).loc main_arg2)) shapeCasts_S2x1024x768_S2048x768 := by
    entry_read
    rfl
  rw [← e]
  rfl

/-- A block of the second moment is the argument's at the place of the block. -/
theorem read3 : iblk m c 3 t y = shapeCast S2048x768 (m ((c : Thread nD τ).loc main_arg3)) shapeCasts_S2x1024x768_S2048x768 (place t y) := by
  have e : V m c main_v3 = shapeCast S2048x768 (m ((c : Thread nD τ).loc main_arg3)) shapeCasts_S2x1024x768_S2048x768 := by
    entry_read
    rfl
  rw [← e]
  rfl

end point

/-- The step that the kernel leaves is the reference's. -/
theorem final_d (c : Dev nD) : (dats m 0 c).arrAt 4 (cfgs 0).N = Cert.Reference11Ideal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [pay_d, read0 m c t y, read1 m c t y, read2 m c t y, read3 m c t y]
  rfl

/-- The first moment that the kernel leaves is the reference's. -/
theorem final_m (c : Dev nD) : (dats m 0 c).arrAt 5 (cfgs 0).N = Cert.Reference11Ideal.Read.val_main_v25 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  rw [pay_m, read1 m c t y, read2 m c t y]
  rfl

/-- The second moment that the kernel leaves is the reference's. -/
theorem final_v (c : Dev nD) : (dats m 0 c).arrAt 6 (cfgs 0).N = Cert.Reference11Ideal.Read.val_main_v26 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  rw [pay_v, read1 m c t y, read3 m c t y]
  rfl

end Cert.Kernel11Ideal.Value

end
-- ==== Proof.AdamOut.lean ====
/- The optimiser's step for the attention output projection's weights: the step, the first moment and the second moment that the kernel
   leaves are the reference's. -/
module

public import proofs.«01_k».proof.Proof.Gen.Kernel12Ideal.Value
public import proofs.«01_k».proof.Proof.Gen.Reference12Ideal.Run
public import proofs.«01_k».proof.Proof.Gen.Reference12Ideal.Read
public import proofs.«01_k».proof.Proof.AdamStep
public import Idealize.ShloMosaic.Lib.Pipeline.ValueKit

@[expose] public section

set_option maxRecDepth 16384

noncomputable section

namespace Cert.Kernel12Ideal.Value

open Cert.Kernel12Ideal Cert.Kernel12Ideal.Gen Cert.AdamStep
open Idealize.ShloMosaic Idealize.ShloMosaic.TcCoe Idealize.SL.Sem
open Idealize.ShloMosaic.Pipeline (Dat)

variable (m : (ℓ : Loc nD τ sig) → Buf (Elt Ideal) ℓ)

/-- The first moment in a block. -/
theorem pay_m (g x : FVec Ideal S512x1024 .f32) (y : S512x1024.Idx) : k0_pay2 (F := Ideal) g x y = moment (x y) (g y) := by
  unfold k0_pay2 k0_pay1
  simp only [shapeCast_self]
  rfl

/-- The second moment in a block. -/
theorem pay_v (g x : FVec Ideal S512x1024 .f32) (y : S512x1024.Idx) : k0_pay3 (F := Ideal) g x y = second (x y) (g y) := by
  unfold k0_pay3 k0_pay1
  simp only [shapeCast_self]
  rfl

/-- The step in a block. -/
theorem pay_d (w g x z : FVec Ideal S512x1024 .f32) (y : S512x1024.Idx) : k0_pay4 (F := Ideal) w g x z y = step (w y) (g y) (x y) (z y) := by
  unfold k0_pay4 k0_pay3 k0_pay2 k0_pay1
  simp only [shapeCast_self]
  rfl

section point

variable (c : Dev nD) (t : Fin cfg0.N) (y : S512x1024.Idx)

/-- The place in the array of the block's element. -/
abbrev place : S512x1024.Idx := ((View.whole main_v4_0).slice (win0_4.rect t)).emb y

/-- A block of the weights is the argument's at the place of the block. -/
theorem read0 : iblk m c 0 t y = shapeCast S512x1024 (m ((c : Thread nD τ).loc main_arg0)) shapeCasts_S2x256x1024_S512x1024 (place t y) := by
  have e : V m c main_v0 = shapeCast S512x1024 (m ((c : Thread nD τ).loc main_arg0)) shapeCasts_S2x256x1024_S512x1024 := by
    entry_read
    rfl
  rw [← e]
  rfl

/-- A block of the gradient is the argument's at the place of the block. -/
theorem read1 : iblk m c 1 t y = shapeCast S512x1024 (m ((c : Thread nD τ).loc main_arg1)) shapeCasts_S2x256x1024_S512x1024 (place t y) := by
  have e : V m c main_v1 = shapeCast S512x1024 (m ((c : Thread nD τ).loc main_arg1)) shapeCasts_S2x256x1024_S512x1024 := by
    entry_read
    rfl
  rw [← e]
  rfl

/-- A block of the first moment is the argument's at the place of the block. -/
theorem read2 : iblk m c 2 t y = shapeCast S512x1024 (m ((c : Thread nD τ).loc main_arg2)) shapeCasts_S2x256x1024_S512x1024 (place t y) := by
  have e : V m c main_v2 = shapeCast S512x1024 (m ((c : Thread nD τ).loc main_arg2)) shapeCasts_S2x256x1024_S512x1024 := by
    entry_read
    rfl
  rw [← e]
  rfl

/-- A block of the second moment is the argument's at the place of the block. -/
theorem read3 : iblk m c 3 t y = shapeCast S512x1024 (m ((c : Thread nD τ).loc main_arg3)) shapeCasts_S2x256x1024_S512x1024 (place t y) := by
  have e : V m c main_v3 = shapeCast S512x1024 (m ((c : Thread nD τ).loc main_arg3)) shapeCasts_S2x256x1024_S512x1024 := by
    entry_read
    rfl
  rw [← e]
  rfl

end point

/-- The step that the kernel leaves is the reference's. -/
theorem final_d (c : Dev nD) : (dats m 0 c).arrAt 4 (cfgs 0).N = Cert.Reference12Ideal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [pay_d, read0 m c t y, read1 m c t y, read2 m c t y, read3 m c t y]
  rfl

/-- The first moment that the kernel leaves is the reference's. -/
theorem final_m (c : Dev nD) : (dats m 0 c).arrAt 5 (cfgs 0).N = Cert.Reference12Ideal.Read.val_main_v25 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  rw [pay_m, read1 m c t y, read2 m c t y]
  rfl

/-- The second moment that the kernel leaves is the reference's. -/
theorem final_v (c : Dev nD) : (dats m 0 c).arrAt 6 (cfgs 0).N = Cert.Reference12Ideal.Read.val_main_v26 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  rw [pay_v, read1 m c t y, read3 m c t y]
  rfl

end Cert.Kernel12Ideal.Value

end
-- ==== Proof.AdamRecIn.lean ====
/- The optimiser's step for the recurrent layers' input projection's weights: the step, the first moment and the second moment that the kernel
   leaves are the reference's. -/
module

public import proofs.«01_k».proof.Proof.Gen.Kernel13Ideal.Value
public import proofs.«01_k».proof.Proof.Gen.Reference13Ideal.Run
public import proofs.«01_k».proof.Proof.Gen.Reference13Ideal.Read
public import proofs.«01_k».proof.Proof.AdamStep
public import Idealize.ShloMosaic.Lib.Pipeline.ValueKit

@[expose] public section

set_option maxRecDepth 16384

noncomputable section

namespace Cert.Kernel13Ideal.Value

open Cert.Kernel13Ideal Cert.Kernel13Ideal.Gen Cert.AdamStep
open Idealize.ShloMosaic Idealize.ShloMosaic.TcCoe Idealize.SL.Sem
open Idealize.ShloMosaic.Pipeline (Dat)

variable (m : (ℓ : Loc nD τ sig) → Buf (Elt Ideal) ℓ)

/-- The first moment in a block. -/
theorem pay_m (g x : FVec Ideal S512x512 .f32) (y : S512x512.Idx) : k0_pay2 (F := Ideal) g x y = moment (x y) (g y) := by
  unfold k0_pay2 k0_pay1
  simp only [shapeCast_self]
  rfl

/-- The second moment in a block. -/
theorem pay_v (g x : FVec Ideal S512x512 .f32) (y : S512x512.Idx) : k0_pay3 (F := Ideal) g x y = second (x y) (g y) := by
  unfold k0_pay3 k0_pay1
  simp only [shapeCast_self]
  rfl

/-- The step in a block. -/
theorem pay_d (w g x z : FVec Ideal S512x512 .f32) (y : S512x512.Idx) : k0_pay4 (F := Ideal) w g x z y = step (w y) (g y) (x y) (z y) := by
  unfold k0_pay4 k0_pay3 k0_pay2 k0_pay1
  simp only [shapeCast_self]
  rfl

section point

variable (c : Dev nD) (t : Fin cfg0.N) (y : S512x512.Idx)

/-- The place in the array of the block's element. -/
abbrev place : S2048x512.Idx := ((View.whole main_v4_0).slice (win0_4.rect t)).emb y

/-- A block of the weights is the argument's at the place of the block. -/
theorem read0 : iblk m c 0 t y = shapeCast S2048x512 (m ((c : Thread nD τ).loc main_arg0)) shapeCasts_S2x1024x512_S2048x512 (place t y) := by
  have e : V m c main_v0 = shapeCast S2048x512 (m ((c : Thread nD τ).loc main_arg0)) shapeCasts_S2x1024x512_S2048x512 := by
    entry_read
    rfl
  rw [← e]
  rfl

/-- A block of the gradient is the argument's at the place of the block. -/
theorem read1 : iblk m c 1 t y = shapeCast S2048x512 (m ((c : Thread nD τ).loc main_arg1)) shapeCasts_S2x1024x512_S2048x512 (place t y) := by
  have e : V m c main_v1 = shapeCast S2048x512 (m ((c : Thread nD τ).loc main_arg1)) shapeCasts_S2x1024x512_S2048x512 := by
    entry_read
    rfl
  rw [← e]
  rfl

/-- A block of the first moment is the argument's at the place of the block. -/
theorem read2 : iblk m c 2 t y = shapeCast S2048x512 (m ((c : Thread nD τ).loc main_arg2)) shapeCasts_S2x1024x512_S2048x512 (place t y) := by
  have e : V m c main_v2 = shapeCast S2048x512 (m ((c : Thread nD τ).loc main_arg2)) shapeCasts_S2x1024x512_S2048x512 := by
    entry_read
    rfl
  rw [← e]
  rfl

/-- A block of the second moment is the argument's at the place of the block. -/
theorem read3 : iblk m c 3 t y = shapeCast S2048x512 (m ((c : Thread nD τ).loc main_arg3)) shapeCasts_S2x1024x512_S2048x512 (place t y) := by
  have e : V m c main_v3 = shapeCast S2048x512 (m ((c : Thread nD τ).loc main_arg3)) shapeCasts_S2x1024x512_S2048x512 := by
    entry_read
    rfl
  rw [← e]
  rfl

end point

/-- The step that the kernel leaves is the reference's. -/
theorem final_d (c : Dev nD) : (dats m 0 c).arrAt 4 (cfgs 0).N = Cert.Reference13Ideal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [pay_d, read0 m c t y, read1 m c t y, read2 m c t y, read3 m c t y]
  rfl

/-- The first moment that the kernel leaves is the reference's. -/
theorem final_m (c : Dev nD) : (dats m 0 c).arrAt 5 (cfgs 0).N = Cert.Reference13Ideal.Read.val_main_v25 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  rw [pay_m, read1 m c t y, read2 m c t y]
  rfl

/-- The second moment that the kernel leaves is the reference's. -/
theorem final_v (c : Dev nD) : (dats m 0 c).arrAt 6 (cfgs 0).N = Cert.Reference13Ideal.Read.val_main_v26 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  rw [pay_v, read1 m c t y, read3 m c t y]
  rfl

end Cert.Kernel13Ideal.Value

end
-- ==== Proof.AdamFfn.lean ====
/- The optimiser's step for the down projection's weights: the step, the first moment and the second moment that the kernel
   leaves are the reference's. -/
module

public import proofs.«01_k».proof.Proof.Gen.Kernel14Ideal.Value
public import proofs.«01_k».proof.Proof.Gen.Reference14Ideal.Run
public import proofs.«01_k».proof.Proof.Gen.Reference14Ideal.Read
public import proofs.«01_k».proof.Proof.AdamStep
public import Idealize.ShloMosaic.Lib.Pipeline.ValueKit

@[expose] public section

set_option maxRecDepth 16384

noncomputable section

namespace Cert.Kernel14Ideal.Value

open Cert.Kernel14Ideal Cert.Kernel14Ideal.Gen Cert.AdamStep
open Idealize.ShloMosaic Idealize.ShloMosaic.TcCoe Idealize.SL.Sem
open Idealize.ShloMosaic.Pipeline (Dat)

variable (m : (ℓ : Loc nD τ sig) → Buf (Elt Ideal) ℓ)

/-- The first moment in a block. -/
theorem pay_m (g x : FVec Ideal S352x1024 .f32) (y : S352x1024.Idx) : k0_pay2 (F := Ideal) g x y = moment (x y) (g y) := by
  unfold k0_pay2 k0_pay1
  simp only [shapeCast_self]
  rfl

/-- The second moment in a block. -/
theorem pay_v (g x : FVec Ideal S352x1024 .f32) (y : S352x1024.Idx) : k0_pay3 (F := Ideal) g x y = second (x y) (g y) := by
  unfold k0_pay3 k0_pay1
  simp only [shapeCast_self]
  rfl

/-- The step in a block. -/
theorem pay_d (w g x z : FVec Ideal S352x1024 .f32) (y : S352x1024.Idx) : k0_pay4 (F := Ideal) w g x z y = step (w y) (g y) (x y) (z y) := by
  unfold k0_pay4 k0_pay3 k0_pay2 k0_pay1
  simp only [shapeCast_self]
  rfl

section point

variable (c : Dev nD) (t : Fin cfg0.N) (y : S352x1024.Idx)

/-- The place in the array of the block's element. -/
abbrev place : S2816x1024.Idx := ((View.whole main_v4_0).slice (win0_4.rect t)).emb y

/-- A block of the weights is the argument's at the place of the block. -/
theorem read0 : iblk m c 0 t y = shapeCast S2816x1024 (m ((c : Thread nD τ).loc main_arg0)) shapeCasts_S4x704x1024_S2816x1024 (place t y) := by
  have e : V m c main_v0 = shapeCast S2816x1024 (m ((c : Thread nD τ).loc main_arg0)) shapeCasts_S4x704x1024_S2816x1024 := by
    entry_read
    rfl
  rw [← e]
  rfl

/-- A block of the gradient is the argument's at the place of the block. -/
theorem read1 : iblk m c 1 t y = shapeCast S2816x1024 (m ((c : Thread nD τ).loc main_arg1)) shapeCasts_S4x704x1024_S2816x1024 (place t y) := by
  have e : V m c main_v1 = shapeCast S2816x1024 (m ((c : Thread nD τ).loc main_arg1)) shapeCasts_S4x704x1024_S2816x1024 := by
    entry_read
    rfl
  rw [← e]
  rfl

/-- A block of the first moment is the argument's at the place of the block. -/
theorem read2 : iblk m c 2 t y = shapeCast S2816x1024 (m ((c : Thread nD τ).loc main_arg2)) shapeCasts_S4x704x1024_S2816x1024 (place t y) := by
  have e : V m c main_v2 = shapeCast S2816x1024 (m ((c : Thread nD τ).loc main_arg2)) shapeCasts_S4x704x1024_S2816x1024 := by
    entry_read
    rfl
  rw [← e]
  rfl

/-- A block of the second moment is the argument's at the place of the block. -/
theorem read3 : iblk m c 3 t y = shapeCast S2816x1024 (m ((c : Thread nD τ).loc main_arg3)) shapeCasts_S4x704x1024_S2816x1024 (place t y) := by
  have e : V m c main_v3 = shapeCast S2816x1024 (m ((c : Thread nD τ).loc main_arg3)) shapeCasts_S4x704x1024_S2816x1024 := by
    entry_read
    rfl
  rw [← e]
  rfl

end point

/-- The step that the kernel leaves is the reference's. -/
theorem final_d (c : Dev nD) : (dats m 0 c).arrAt 4 (cfgs 0).N = Cert.Reference14Ideal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [pay_d, read0 m c t y, read1 m c t y, read2 m c t y, read3 m c t y]
  rfl

/-- The first moment that the kernel leaves is the reference's. -/
theorem final_m (c : Dev nD) : (dats m 0 c).arrAt 5 (cfgs 0).N = Cert.Reference14Ideal.Read.val_main_v25 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  rw [pay_m, read1 m c t y, read2 m c t y]
  rfl

/-- The second moment that the kernel leaves is the reference's. -/
theorem final_v (c : Dev nD) : (dats m 0 c).arrAt 6 (cfgs 0).N = Cert.Reference14Ideal.Read.val_main_v26 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  rw [pay_v, read1 m c t y, read3 m c t y]
  rfl

end Cert.Kernel14Ideal.Value

end
-- ==== Proof.AdamGate.lean ====
/- The optimiser's step for the recurrence gates' weights: the step, the first moment and the second moment that the kernel
   leaves are the reference's. -/
module

public import proofs.«01_k».proof.Proof.Gen.Kernel15Ideal.Value
public import proofs.«01_k».proof.Proof.Gen.Reference15Ideal.Run
public import proofs.«01_k».proof.Proof.Gen.Reference15Ideal.Read
public import proofs.«01_k».proof.Proof.AdamStep
public import Idealize.ShloMosaic.Lib.Pipeline.ValueKit

@[expose] public section

set_option maxRecDepth 16384

noncomputable section

namespace Cert.Kernel15Ideal.Value

open Cert.Kernel15Ideal Cert.Kernel15Ideal.Gen Cert.AdamStep
open Idealize.ShloMosaic Idealize.ShloMosaic.TcCoe Idealize.SL.Sem
open Idealize.ShloMosaic.Pipeline (Dat)

variable (m : (ℓ : Loc nD τ sig) → Buf (Elt Ideal) ℓ)

/-- The first moment in a block. -/
theorem pay_m (g x : FVec Ideal S512x256 .f32) (y : S512x256.Idx) : k0_pay2 (F := Ideal) g x y = moment (x y) (g y) := by
  unfold k0_pay2 k0_pay1
  simp only [shapeCast_self]
  rfl

/-- The second moment in a block. -/
theorem pay_v (g x : FVec Ideal S512x256 .f32) (y : S512x256.Idx) : k0_pay3 (F := Ideal) g x y = second (x y) (g y) := by
  unfold k0_pay3 k0_pay1
  simp only [shapeCast_self]
  rfl

/-- The step in a block. -/
theorem pay_d (w g x z : FVec Ideal S512x256 .f32) (y : S512x256.Idx) : k0_pay4 (F := Ideal) w g x z y = step (w y) (g y) (x y) (z y) := by
  unfold k0_pay4 k0_pay3 k0_pay2 k0_pay1
  simp only [shapeCast_self]
  rfl

section point

variable (c : Dev nD) (t : Fin cfg0.N) (y : S512x256.Idx)

/-- The place in the array of the block's element. -/
abbrev place : S512x256.Idx := ((View.whole main_v4_0).slice (win0_4.rect t)).emb y

/-- A block of the weights is the argument's at the place of the block. -/
theorem read0 : iblk m c 0 t y = shapeCast S512x256 (m ((c : Thread nD τ).loc main_arg0)) shapeCasts_S2x4x64x256_S512x256 (place t y) := by
  have e : V m c main_v0 = shapeCast S512x256 (m ((c : Thread nD τ).loc main_arg0)) shapeCasts_S2x4x64x256_S512x256 := by
    entry_read
    rfl
  rw [← e]
  rfl

/-- A block of the gradient is the argument's at the place of the block. -/
theorem read1 : iblk m c 1 t y = shapeCast S512x256 (m ((c : Thread nD τ).loc main_arg1)) shapeCasts_S2x4x64x256_S512x256 (place t y) := by
  have e : V m c main_v1 = shapeCast S512x256 (m ((c : Thread nD τ).loc main_arg1)) shapeCasts_S2x4x64x256_S512x256 := by
    entry_read
    rfl
  rw [← e]
  rfl

/-- A block of the first moment is the argument's at the place of the block. -/
theorem read2 : iblk m c 2 t y = shapeCast S512x256 (m ((c : Thread nD τ).loc main_arg2)) shapeCasts_S2x4x64x256_S512x256 (place t y) := by
  have e : V m c main_v2 = shapeCast S512x256 (m ((c : Thread nD τ).loc main_arg2)) shapeCasts_S2x4x64x256_S512x256 := by
    entry_read
    rfl
  rw [← e]
  rfl

/-- A block of the second moment is the argument's at the place of the block. -/
theorem read3 : iblk m c 3 t y = shapeCast S512x256 (m ((c : Thread nD τ).loc main_arg3)) shapeCasts_S2x4x64x256_S512x256 (place t y) := by
  have e : V m c main_v3 = shapeCast S512x256 (m ((c : Thread nD τ).loc main_arg3)) shapeCasts_S2x4x64x256_S512x256 := by
    entry_read
    rfl
  rw [← e]
  rfl

end point

/-- The step that the kernel leaves is the reference's. -/
theorem final_d (c : Dev nD) : (dats m 0 c).arrAt 4 (cfgs 0).N = Cert.Reference15Ideal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [pay_d, read0 m c t y, read1 m c t y, read2 m c t y, read3 m c t y]
  rfl

/-- The first moment that the kernel leaves is the reference's. -/
theorem final_m (c : Dev nD) : (dats m 0 c).arrAt 5 (cfgs 0).N = Cert.Reference15Ideal.Read.val_main_v25 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  rw [pay_m, read1 m c t y, read2 m c t y]
  rfl

/-- The second moment that the kernel leaves is the reference's. -/
theorem final_v (c : Dev nD) : (dats m 0 c).arrAt 6 (cfgs 0).N = Cert.Reference15Ideal.Read.val_main_v26 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  rw [pay_v, read1 m c t y, read3 m c t y]
  rfl

end Cert.Kernel15Ideal.Value

end
-- ==== Proof.AdamSmall.lean ====
/- The optimiser's step for the small weights, packed in one array and padded with zeros: the step, the first moment and the second moment that the kernel
   leaves are the reference's. -/
module

public import proofs.«01_k».proof.Proof.Gen.Kernel16Ideal.Value
public import proofs.«01_k».proof.Proof.Gen.Reference16Ideal.Run
public import proofs.«01_k».proof.Proof.Gen.Reference16Ideal.Read
public import proofs.«01_k».proof.Proof.AdamStep
public import Idealize.ShloMosaic.Lib.Pipeline.ValueKit
public import Idealize.ShloMosaic.Lib.IdealHost

@[expose] public section

set_option maxRecDepth 16384

noncomputable section

namespace Cert.Kernel16Ideal.Value

open Cert.Kernel16Ideal Cert.Kernel16Ideal.Gen Cert.AdamStep
open Idealize.ShloMosaic Idealize.ShloMosaic.TcCoe Idealize.SL.Sem
open Idealize.ShloMosaic.Pipeline (Dat)

variable (m : (ℓ : Loc nD τ sig) → Buf (Elt Ideal) ℓ)

/-- Zeros give a zero first moment. -/
theorem moment_zero : moment 0 0 = 0 := by
  simp [moment]

/-- Zeros give a zero second moment. -/
theorem second_zero : second 0 0 = 0 := by
  simp [second]

/-- Zeros give a zero step. -/
theorem step_zero : step 0 0 0 0 = 0 := by
  have h1 : Ideal.ofBits .f32 0x3F26BD02#32 ≠ 0 := by simp [Ideal.ofBits, Ideal.ieee]
  have h2 : Ideal.ofBits .f32 0x3C231ACC#32 ≠ 0 := by simp [Ideal.ofBits, Ideal.ieee]
  have h3 : Ideal.ofBits .f32 0x322BCC77#32 ≠ 0 := by simp [Ideal.ofBits, Ideal.ieee]
  have hs : Ideal.sqrt 0 = 0 := by
    rw [← EReal.coe_zero, Ideal.sqrt_coe]
    simp
  unfold step
  rw [moment_zero, second_zero]
  simp [Ideal.zero_div h1, Ideal.zero_div h2, hs, Ideal.zero_div h3]

/-- The first moment in a block. -/
theorem pay_m (g x : FVec Ideal S232x128 .f32) (y : S232x128.Idx) : k0_pay2 (F := Ideal) g x y = moment (x y) (g y) := by
  unfold k0_pay2 k0_pay1
  simp only [shapeCast_self]
  rfl

/-- The second moment in a block. -/
theorem pay_v (g x : FVec Ideal S232x128 .f32) (y : S232x128.Idx) : k0_pay3 (F := Ideal) g x y = second (x y) (g y) := by
  unfold k0_pay3 k0_pay1
  simp only [shapeCast_self]
  rfl

/-- The step in a block. -/
theorem pay_d (w g x z : FVec Ideal S232x128 .f32) (y : S232x128.Idx) : k0_pay4 (F := Ideal) w g x z y = step (w y) (g y) (x y) (z y) := by
  unfold k0_pay4 k0_pay3 k0_pay2 k0_pay1
  simp only [shapeCast_self]
  rfl

/-- The value of the padding. -/
abbrev fill : FVec Ideal S_ .f32 := Cert.Reference16Ideal.Read.val_main_call0_v0 (F := Ideal)

theorem fill_first : fill (Shape.Idx.first h_S_) = 0 := by
  show ((((0#32 : BitVec 32).toInt : ℤ) : ℝ) : EReal) = 0
  simp

/-- A packed array with the padding behind it. -/
abbrev padded (x : FVec Ideal S28688 .f32) : FVec Ideal S29696 .f32 :=
  pad S29696 ![0] ![1008] ![0] x fill pads_S28688_S29696_010080 h_S_

/-- The padding of a function's values, where the function takes zeros to zero. -/
theorem padded_map (f : Ideal .f32 → Ideal .f32 → Ideal .f32 → Ideal .f32 → Ideal .f32) (hf : f 0 0 0 0 = 0)
    (w g x z : FVec Ideal S28688 .f32) (j : S29696.Idx) :
    padded (fun i => f (w i) (g i) (x i) (z i)) j = f (padded w j) (padded g j) (padded x j) (padded z j) := by
  unfold padded pad
  split
  · rfl
  · rw [fill_first, hf]

section point

variable (c : Dev nD) (t : Fin cfg0.N) (y : S232x128.Idx)

/-- The place in the array of the block's element. -/
abbrev place : S232x128.Idx := ((View.whole main_v8_0).slice (win0_4.rect t)).emb y

/-- A block of the weights is the argument's at the place of the block. -/
theorem read0 : iblk m c 0 t y = shapeCast S232x128 (padded (m ((c : Thread nD τ).loc main_arg0))) shapeCasts_S29696_S232x128 (place t y) := by
  have e : V m c main_v1 = shapeCast S232x128 (padded (m ((c : Thread nD τ).loc main_arg0))) shapeCasts_S29696_S232x128 := by
    entry_read
    rfl
  rw [← e]
  rfl

/-- A block of the gradient is the argument's at the place of the block. -/
theorem read1 : iblk m c 1 t y = shapeCast S232x128 (padded (m ((c : Thread nD τ).loc main_arg1))) shapeCasts_S29696_S232x128 (place t y) := by
  have e : V m c main_v3 = shapeCast S232x128 (padded (m ((c : Thread nD τ).loc main_arg1))) shapeCasts_S29696_S232x128 := by
    entry_read
    rfl
  rw [← e]
  rfl

/-- A block of the first moment is the argument's at the place of the block. -/
theorem read2 : iblk m c 2 t y = shapeCast S232x128 (padded (m ((c : Thread nD τ).loc main_arg2))) shapeCasts_S29696_S232x128 (place t y) := by
  have e : V m c main_v5 = shapeCast S232x128 (padded (m ((c : Thread nD τ).loc main_arg2))) shapeCasts_S29696_S232x128 := by
    entry_read
    rfl
  rw [← e]
  rfl

/-- A block of the second moment is the argument's at the place of the block. -/
theorem read3 : iblk m c 3 t y = shapeCast S232x128 (padded (m ((c : Thread nD τ).loc main_arg3))) shapeCasts_S29696_S232x128 (place t y) := by
  have e : V m c main_v7 = shapeCast S232x128 (padded (m ((c : Thread nD τ).loc main_arg3))) shapeCasts_S29696_S232x128 := by
    entry_read
    rfl
  rw [← e]
  rfl

end point

/-- The step that the kernel leaves is the reference's. -/
theorem final_d (c : Dev nD) : (dats m 0 c).arrAt 4 (cfgs 0).N = Cert.Reference16Ideal.Read.val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [pay_d, read0 m c t y, read1 m c t y, read2 m c t y, read3 m c t y]
  exact (padded_map step step_zero _ _ _ _ _).symm

/-- The first moment that the kernel leaves is the reference's. -/
theorem final_m (c : Dev nD) : (dats m 0 c).arrAt 5 (cfgs 0).N = Cert.Reference16Ideal.Read.val_main_v27 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  rw [pay_m, read1 m c t y, read2 m c t y]
  exact (padded_map (fun _ g x _ => moment x g) moment_zero (m ((c : Thread nD τ).loc main_arg1)) _ _ (m ((c : Thread nD τ).loc main_arg1)) _).symm

/-- The second moment that the kernel leaves is the reference's. -/
theorem final_v (c : Dev nD) : (dats m 0 c).arrAt 6 (cfgs 0).N = Cert.Reference16Ideal.Read.val_main_v29 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  rw [pay_v, read1 m c t y, read3 m c t y]
  exact (padded_map (fun _ g _ z => second z g) second_zero (m ((c : Thread nD τ).loc main_arg1)) _ (m ((c : Thread nD τ).loc main_arg1)) _ _).symm

end Cert.Kernel16Ideal.Value

end
-- ==== Proof.AttnInForward.lean ====
/- The attention input projection: every block of the result is one product, and the reference's is the same product. -/
module

public import proofs.«01_k».proof.Proof.Gen.Kernel17Ideal.Value
public import proofs.«01_k».proof.Proof.Gen.Reference17Ideal.Run
public import proofs.«01_k».proof.Proof.Gen.Reference17Ideal.Read
public import Idealize.ShloMosaic.Lib.Pipeline.ValueKit

@[expose] public section

set_option maxRecDepth 16384

noncomputable section

namespace Cert.Kernel17Ideal.Value

open Cert.Kernel17Ideal Cert.Kernel17Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The reference's element. -/
theorem ref_apply (a : FVec Ideal Cert.Reference17Ideal.S8192x1024 .bf16) (w : FVec Ideal Cert.Reference17Ideal.S1024x3072 .bf16) (i : Cert.Reference17Ideal.S8192x3072.Idx) :
    Cert.Reference17Ideal.Read.val_main_v3 (F := Ideal) a w i = ∑ l : Fin 1024, a (ix2 (i 0) l) * w (ix2 l (i 1)) := by
  rw [Cert.Reference17Ideal.Read.val_main_v3_apply, Cert.Reference17Ideal.Read.val_main_v2_apply]
  refine Finset.sum_congr rfl fun l _ => congrArg₂ (· * ·) (congrArg a ?_) (congrArg w ?_) <;> funext b <;> apply Fin.ext <;>
    match b with
    | ⟨0, _⟩ => rfl
    | ⟨1, _⟩ => rfl

/-- The body's payload: the product over the block's tokens and columns. -/
theorem pay_apply (x : FVec Ideal S2048x1024 .bf16) (w : FVec Ideal S1x1x1024x768 .bf16) (j : S2048x768.Idx) :
    k0_pay1 (F := Ideal) x w j = ∑ l : Fin 1024, x (ix2 (j 0) l) * w (ix4 0 0 l (j 1)) := by
  pointwise [k0_pay1]

/-- Every window's block index at every grid point. -/
theorem idx_val : ∀ t : Fin cfg0.N, win0_0.index t = ![t.val / 4, 0]
    ∧ win0_1.index t = ![0, t.val % 4, 0, 0]
    ∧ win0_2.index t = ![t.val / 4, t.val % 4] :=
  (by decide +kernel : ∀ t : Fin grid0.N, _)

/-- The array the kernel leaves is the reference's. -/
theorem final (c : Dev nD) : (dats m 0 c).arrAt 2 (cfgs 0).N
    = Cert.Reference17Ideal.Read.val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_apply, ref_apply]
  have h0 : (y 0).val < 2048 := (y 0).isLt
  have h1 : (y 1).val < 768 := (y 1).isLt
  refine Finset.sum_congr (M := EReal) rfl fun k _ => ?_
  blk_point [iblk, V, idx_val t]

end Cert.Kernel17Ideal.Value

end
-- ==== Proof.AttnOutForward.lean ====
/- The attention output projection: per token block the kernel adds two products, one per attention's columns; the
   reference has one product over all the columns. -/
module

public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.ValueKit

@[expose] public section

set_option maxRecDepth 16384

noncomputable section

namespace Cert.Kernel18Ideal.Value

open Cert.Kernel18Ideal Cert.Kernel18Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The reference's element. -/
theorem ref_apply (a b : FVec Ideal Cert.Reference18Ideal.S8192x512 .bf16) (w : FVec Ideal Cert.Reference18Ideal.S1024x1024 .bf16) (i : Cert.Reference18Ideal.S8192x1024.Idx) :
    Cert.Reference18Ideal.Read.val_main_v3 (F := Ideal) a b w i
      = (∑ l : Fin 512, a (ix2 (i 0) l) * w (ix2 ⟨l.val, by omega⟩ (i 1)))
        + ∑ l : Fin 512, b (ix2 (i 0) l) * w (ix2 ⟨512 + l.val, by omega⟩ (i 1)) := by
  rw [Cert.Reference18Ideal.Read.val_main_v3_apply]
  rw [Fin.sum_univ_add (a := 512) (b := 512)]
  refine congrArg₂ (· + ·) ?_ ?_
  · refine Finset.sum_congr rfl fun l _ => congrArg₂ (· * ·) ?_ (congrArg w ?_)
    · show Cert.Reference18Ideal.Read.val_main_v0 (F := Ideal) a b _ = _
      unfold Cert.Reference18Ideal.Read.val_main_v0
      refine concatenate_pair_apply_left (t := Cert.Reference18Ideal.S8192x1024) (1 : Fin 2) a b _ _ rfl (ix2 (i 0) l) fun c => ?_
      match c with
      | ⟨0, _⟩ => rfl
      | ⟨1, _⟩ => rfl
    · funext b
      apply Fin.ext
      match b with
      | ⟨0, _⟩ => rfl
      | ⟨1, _⟩ => rfl
  · refine Finset.sum_congr rfl fun l _ => congrArg₂ (· * ·) ?_ (congrArg w ?_)
    · show Cert.Reference18Ideal.Read.val_main_v0 (F := Ideal) a b _ = _
      unfold Cert.Reference18Ideal.Read.val_main_v0
      refine concatenate_pair_apply_right (t := Cert.Reference18Ideal.S8192x1024) (1 : Fin 2) a b _ _ rfl rfl (ix2 (i 0) l) (fun c hc => ?_) ?_
      · match c with
        | ⟨0, _⟩ => rfl
        | ⟨1, _⟩ => exact absurd rfl hc
      · exact Nat.add_comm _ _
    · funext b
      apply Fin.ext
      match b with
      | ⟨0, _⟩ => rfl
      | ⟨1, _⟩ => rfl

/-- One half's product. -/
abbrev P (x : FVec Ideal S2048x512 .bf16) (w : FVec Ideal S1x1x512x1024 .bf16) (j : S2048x1024.Idx) : EReal :=
  ∑ l : Fin 512, x (ix2 (j 0) l) * w (ix4 0 0 l (j 1))

/-- The body's payload: the two products added. -/
theorem pay_apply (x0 : FVec Ideal S2048x512 .bf16) (w0 : FVec Ideal S1x1x512x1024 .bf16) (x1 : FVec Ideal S2048x512 .bf16) (w1 : FVec Ideal S1x1x512x1024 .bf16) (j : S2048x1024.Idx) :
    k0_pay1 (F := Ideal) x0 w0 x1 w1 j = P x0 w0 j + P x1 w1 j := by
  pointwise [k0_pay1]

/-- Every window's block index at every grid point. -/
theorem idx_val : ∀ t : Fin cfg0.N, win0_0.index t = ![t.val, 0]
    ∧ win0_1.index t = ![0, 0, 0, 0]
    ∧ win0_2.index t = ![t.val, 0]
    ∧ win0_3.index t = ![0, 0, 1, 0]
    ∧ win0_4.index t = ![t.val, 0] :=
  (by decide +kernel : ∀ t : Fin grid0.N, _)

/-- The array the kernel leaves is the reference's. -/
theorem final (c : Dev nD) : (dats m 0 c).arrAt 4 (cfgs 0).N
    = Cert.Reference18Ideal.Read.val_main_v3 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  rw [pay_apply, ref_apply]
  have h0 : (y 0).val < 2048 := (y 0).isLt
  have h1 : (y 1).val < 1024 := (y 1).isLt
  refine congrArg₂ (· + ·) ?_ ?_ <;>
    refine Finset.sum_congr rfl fun k _ => ?_ <;> blk_point [iblk, V, idx_val t]

end Cert.Kernel18Ideal.Value

end
-- ==== Proof.AttnOutGrad.lean ====
/- The cotangent of the attention output projection's input. -/
module

public import proofs.«01_k».proof.Proof.Gen.Kernel19Ideal.Value
public import proofs.«01_k».proof.Proof.Gen.Reference19Ideal.Run
public import proofs.«01_k».proof.Proof.Gen.Reference19Ideal.Read
public import Idealize.ShloMosaic.Lib.Pipeline.ValueKit

@[expose] public section

set_option maxRecDepth 16384

noncomputable section

namespace Cert.Kernel19Ideal.Value

open Cert.Kernel19Ideal Cert.Kernel19Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The reference's element. -/
theorem ref_apply (a : FVec Ideal Cert.Reference19Ideal.S8192x1024 .bf16) (w : FVec Ideal Cert.Reference19Ideal.S1024x1024 .bf16) (i : Cert.Reference19Ideal.S8192x1024.Idx) :
    Cert.Reference19Ideal.Read.val_main_v5 (F := Ideal) a w i = ∑ l : Fin 1024, a (ix2 (i 0) l) * w (ix2 (i 1) l) := by
  rw [Cert.Reference19Ideal.Read.val_main_v5_apply, Cert.Reference19Ideal.Read.val_main_v4_apply]
  refine Finset.sum_congr rfl fun l _ => congrArg₂ (· * ·) (congrArg a ?_) (congrArg w ?_) <;> funext b <;> apply Fin.ext <;>
    match b with
    | ⟨0, _⟩ => rfl
    | ⟨1, _⟩ => rfl

/-- The body's payload: the product over the block's tokens and columns. -/
theorem pay_apply (x : FVec Ideal S2048x1024 .bf16) (w : FVec Ideal S1x1x1024x1024 .bf16) (j : S2048x1024.Idx) :
    k0_pay1 (F := Ideal) x w j = ∑ l : Fin 1024, x (ix2 (j 0) l) * w (ix4 0 0 (j 1) l) := by
  pointwise [k0_pay1]

/-- Every window's block index at every grid point. -/
theorem idx_val : ∀ t : Fin cfg0.N, win0_0.index t = ![t.val, 0]
    ∧ win0_1.index t = ![0, 0, 0, 0]
    ∧ win0_2.index t = ![t.val, 0] :=
  (by decide +kernel : ∀ t : Fin grid0.N, _)

/-- The array the kernel leaves is the reference's. -/
theorem final (c : Dev nD) : (dats m 0 c).arrAt 2 (cfgs 0).N
    = Cert.Reference19Ideal.Read.val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_apply, ref_apply]
  have h0 : (y 0).val < 2048 := (y 0).isLt
  have h1 : (y 1).val < 1024 := (y 1).isLt
  refine Finset.sum_congr (M := EReal) rfl fun k _ => ?_
  blk_point [iblk, V, idx_val t]

end Cert.Kernel19Ideal.Value

end
-- ==== Proof.RecInForward.lean ====
/- The recurrent layer's input projection: every block of the result is one product, and the reference's is the same. -/
module

public import proofs.«01_k».proof.Proof.Gen.Kernel20Ideal.Value
public import proofs.«01_k».proof.Proof.Gen.Reference20Ideal.Run
public import proofs.«01_k».proof.Proof.Gen.Reference20Ideal.Read
public import Idealize.ShloMosaic.Lib.Pipeline.ValueKit

@[expose] public section

set_option maxRecDepth 16384

noncomputable section

namespace Cert.Kernel20Ideal.Value

open Cert.Kernel20Ideal Cert.Kernel20Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The reference's element. -/
theorem ref_apply (a : FVec Ideal Cert.Reference20Ideal.S8192x1024 .bf16) (w : FVec Ideal Cert.Reference20Ideal.S1024x2048 .bf16) (i : Cert.Reference20Ideal.S8192x2048.Idx) :
    Cert.Reference20Ideal.Read.val_main_v2 (F := Ideal) a w i = ∑ l : Fin 1024, a (ix2 (i 0) l) * w (ix2 l (i 1)) := by
  rw [Cert.Reference20Ideal.Read.val_main_v2_apply]
  refine Finset.sum_congr rfl fun l _ => congrArg₂ (· * ·) (congrArg a ?_) (congrArg w ?_) <;> funext b <;> apply Fin.ext <;>
    match b with
    | ⟨0, _⟩ => rfl
    | ⟨1, _⟩ => rfl

/-- The body's payload: the product over the block's tokens and columns. -/
theorem pay_apply (x : FVec Ideal S2048x1024 .bf16) (w : FVec Ideal S1x1x1024x512 .bf16) (j : S2048x512.Idx) :
    k0_pay1 (F := Ideal) x w j = ∑ l : Fin 1024, x (ix2 (j 0) l) * w (ix4 0 0 l (j 1)) := by
  pointwise [k0_pay1]

/-- Every window's block index at every grid point. -/
theorem idx_val : ∀ t : Fin cfg0.N, win0_0.index t = ![t.val / 4, 0]
    ∧ win0_1.index t = ![0, t.val % 4, 0, 0]
    ∧ win0_2.index t = ![t.val / 4, t.val % 4] :=
  (by decide +kernel : ∀ t : Fin grid0.N, _)

/-- The array the kernel leaves is the reference's. -/
theorem final (c : Dev nD) : (dats m 0 c).arrAt 2 (cfgs 0).N
    = Cert.Reference20Ideal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_apply, ref_apply]
  have h0 : (y 0).val < 2048 := (y 0).isLt
  have h1 : (y 1).val < 512 := (y 1).isLt
  refine Finset.sum_congr (M := EReal) rfl fun k _ => ?_
  blk_point [iblk, V, idx_val t]

end Cert.Kernel20Ideal.Value

end
-- ==== Proof.RecOutForward.lean ====
/- The recurrent layer's output projection: every token block is one product, and the reference's is the same. -/
module

public import proofs.«01_k».proof.Proof.Gen.Kernel21Ideal.Value
public import proofs.«01_k».proof.Proof.Gen.Reference21Ideal.Run
public import proofs.«01_k».proof.Proof.Gen.Reference21Ideal.Read
public import Idealize.ShloMosaic.Lib.Pipeline.ValueKit

@[expose] public section

set_option maxRecDepth 16384

noncomputable section

namespace Cert.Kernel21Ideal.Value

open Cert.Kernel21Ideal Cert.Kernel21Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The reference's element. -/
theorem ref_apply (a : FVec Ideal Cert.Reference21Ideal.S8192x1024 .bf16) (w : FVec Ideal Cert.Reference21Ideal.S1024x1024 .bf16) (i : Cert.Reference21Ideal.S8192x1024.Idx) :
    Cert.Reference21Ideal.Read.val_main_v2 (F := Ideal) a w i = ∑ l : Fin 1024, a (ix2 (i 0) l) * w (ix2 l (i 1)) := by
  rw [Cert.Reference21Ideal.Read.val_main_v2_apply]
  refine Finset.sum_congr rfl fun l _ => congrArg₂ (· * ·) (congrArg a ?_) (congrArg w ?_) <;> funext b <;> apply Fin.ext <;>
    match b with
    | ⟨0, _⟩ => rfl
    | ⟨1, _⟩ => rfl

/-- The body's payload: the product over the block's tokens and columns. -/
theorem pay_apply (x : FVec Ideal S2048x1024 .bf16) (w : FVec Ideal S1x1x1024x1024 .bf16) (j : S2048x1024.Idx) :
    k0_pay1 (F := Ideal) x w j = ∑ l : Fin 1024, x (ix2 (j 0) l) * w (ix4 0 0 l (j 1)) := by
  pointwise [k0_pay1]

/-- Every window's block index at every grid point. -/
theorem idx_val : ∀ t : Fin cfg0.N, win0_0.index t = ![t.val, 0]
    ∧ win0_1.index t = ![0, 0, 0, 0]
    ∧ win0_2.index t = ![t.val, 0] :=
  (by decide +kernel : ∀ t : Fin grid0.N, _)

/-- The array the kernel leaves is the reference's. -/
theorem final (c : Dev nD) : (dats m 0 c).arrAt 2 (cfgs 0).N
    = Cert.Reference21Ideal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_apply, ref_apply]
  have h0 : (y 0).val < 2048 := (y 0).isLt
  have h1 : (y 1).val < 1024 := (y 1).isLt
  refine Finset.sum_congr (M := EReal) rfl fun k _ => ?_
  blk_point [iblk, V, idx_val t]

end Cert.Kernel21Ideal.Value

end
-- ==== Proof.RecOutGrad.lean ====
/- The cotangent of the recurrent layer's output projection's input. -/
module

public import proofs.«01_k».proof.Proof.Gen.Kernel22Ideal.Value
public import proofs.«01_k».proof.Proof.Gen.Reference22Ideal.Run
public import proofs.«01_k».proof.Proof.Gen.Reference22Ideal.Read
public import Idealize.ShloMosaic.Lib.Pipeline.ValueKit

@[expose] public section

set_option maxRecDepth 16384

noncomputable section

namespace Cert.Kernel22Ideal.Value

open Cert.Kernel22Ideal Cert.Kernel22Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The reference's element. -/
theorem ref_apply (a : FVec Ideal Cert.Reference22Ideal.S8192x1024 .bf16) (w : FVec Ideal Cert.Reference22Ideal.S1024x1024 .bf16) (i : Cert.Reference22Ideal.S8192x1024.Idx) :
    Cert.Reference22Ideal.Read.val_main_v4 (F := Ideal) a w i = ∑ l : Fin 1024, a (ix2 (i 0) l) * w (ix2 (i 1) l) := by
  rw [Cert.Reference22Ideal.Read.val_main_v4_apply]
  refine Finset.sum_congr rfl fun l _ => congrArg₂ (· * ·) (congrArg a ?_) (congrArg w ?_) <;> funext b <;> apply Fin.ext <;>
    match b with
    | ⟨0, _⟩ => rfl
    | ⟨1, _⟩ => rfl

/-- The body's payload: the product over the block's tokens and columns. -/
theorem pay_apply (x : FVec Ideal S2048x1024 .bf16) (w : FVec Ideal S1x1x1024x1024 .bf16) (j : S2048x1024.Idx) :
    k0_pay1 (F := Ideal) x w j = ∑ l : Fin 1024, x (ix2 (j 0) l) * w (ix4 0 0 (j 1) l) := by
  pointwise [k0_pay1]

/-- Every window's block index at every grid point. -/
theorem idx_val : ∀ t : Fin cfg0.N, win0_0.index t = ![t.val, 0]
    ∧ win0_1.index t = ![0, 0, 0, 0]
    ∧ win0_2.index t = ![t.val, 0] :=
  (by decide +kernel : ∀ t : Fin grid0.N, _)

/-- The array the kernel leaves is the reference's. -/
theorem final (c : Dev nD) : (dats m 0 c).arrAt 2 (cfgs 0).N
    = Cert.Reference22Ideal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_apply, ref_apply]
  have h0 : (y 0).val < 2048 := (y 0).isLt
  have h1 : (y 1).val < 1024 := (y 1).isLt
  refine Finset.sum_congr (M := EReal) rfl fun k _ => ?_
  blk_point [iblk, V, idx_val t]

end Cert.Kernel22Ideal.Value

end
-- ==== Proof.RecOutWgrad.lean ====
/- The value of the recurrent layer's output projection's weight gradient: the accumulator the kernel carries over the two
   halves of the tokens is the whole contraction over the tokens, which is what the reference's one product contracts. -/
module

public import proofs.«01_k».proof.Proof.Gen.Kernel23Ideal.Value
public import proofs.«01_k».proof.Proof.Gen.Reference23Ideal.Run
public import proofs.«01_k».proof.Proof.Gen.Reference23Ideal.Read
public import Idealize.ShloMosaic.Lib.Pipeline.ValueKit

@[expose] public section

set_option maxRecDepth 16384

noncomputable section

namespace Cert.Kernel23Ideal.Value

open Cert.Kernel23Ideal Cert.Kernel23Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The reference's element: the contraction over all the tokens. -/
theorem ref_apply (h d : FVec Ideal Cert.Reference23Ideal.S8192x1024 .bf16) (i : Cert.Reference23Ideal.S1x1024x1024.Idx) :
    Cert.Reference23Ideal.Read.val_main_v6 (F := Ideal) h d i = ∑ l : Fin 8192, d (ix2 l (i 2)) * h (ix2 l (i 1)) := by
  have h0 : (i 0).val < 1 := (i 0).isLt
  have h1 : (i 1).val < 1024 := (i 1).isLt
  have h2 : (i 2).val < 1024 := (i 2).isLt
  rw [Cert.Reference23Ideal.Read.val_main_v6_apply, Cert.Reference23Ideal.Read.val_main_v5_apply, Cert.Reference23Ideal.Read.val_main_v4_apply]
  have e1 : (((i 0).val * 1024 + (i 1).val) * 1024 + (i 2).val) / 1024 = (i 1).val := by omega
  have e2 : (((i 0).val * 1024 + (i 1).val) * 1024 + (i 2).val) % 1024 = (i 2).val := by omega
  refine Finset.sum_congr rfl fun l _ => ?_
  refine congrArg₂ (· * ·) (congrArg d ?_) (congrArg h ?_) <;> funext b <;> apply Fin.ext <;>
    match b with
    | ⟨0, _⟩ => rfl
    | ⟨1, _⟩ => dsimp; omega

/-- Every window's block index at every grid point. -/
theorem idx_val : ∀ t : Fin cfg0.N, win0_0.index t = ![t.val % 2, 0]
    ∧ win0_1.index t = ![t.val % 2, 0]
    ∧ win0_2.index t = ![0, 0, 0] :=
  (by decide +kernel : ∀ t : Fin grid0.N, _)

/-- The first half's payload: the product over that half of the tokens. -/
theorem first_apply (x : FVec Ideal S4096x1024 .bf16) (d : FVec Ideal S4096x1024 .bf16) (j : S1024x1024.Idx) :
    k0_pay2 (F := Ideal) x d j = 0 + ∑ k : Fin 4096, x (ix2 k (j 0)) * d (ix2 k (j 1)) := by
  pointwise [k0_pay2, k0_pay1]

/-- The second half's payload adds its product to what the first left. -/
theorem next_apply (x : FVec Ideal S4096x1024 .bf16) (d : FVec Ideal S4096x1024 .bf16) (acc : FVec Ideal S1024x1024 .f32) (j : S1024x1024.Idx) :
    k0_pay3 (F := Ideal) x d acc j = acc j + ∑ k : Fin 4096, x (ix2 k (j 0)) * d (ix2 k (j 1)) := by
  pointwise [k0_pay3, k0_pay1]

/-- At the point that writes a block back, the block is the accumulator re-laid. -/
theorem out_eq (c : Dev nD) (t : Fin cfg0.N) (h : t.val % 2 = 1) :
    (outsAt0 m c t.val t.isLt).1 = k0_pay4 (F := Ideal) (outsAt0 m c t.val t.isLt).2 := by
  rw [outsAt0_B m c t (by omega) h h]
  frame_out

/-- The array the kernel leaves is the reference's. -/
theorem final (c : Dev nD) : (dats m 0 c).arrAt 2 (cfgs 0).N
    = Cert.Reference23Ideal.Read.val_main_v6 (F := Ideal) (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  blk_simp
  rw [after0_2, out_eq m c t ht]
  rw [show ∀ v : FVec Ideal S1024x1024 .f32, k0_pay4 (F := Ideal) v y = v (ix2 (y 1) (y 2)) from fun v => by pointwise [k0_pay4]]
  rw [Pipeline.eq_sum_fin_of_reset_step_apply_of_flush (fun n h => (outsAt0 m c n h).2) 2 (fun _ => 0) _
    (fun t h j => by rw [outsAt0_A m c t h (by omega) (by omega)]; frame_out; rw [first_apply])
    (fun t h j => by rw [outsAt0_B m c t h (by omega) (by omega)]; frame_out; rw [next_apply, (Memref.isWhole_whole _).read_unread]) t ht _, zero_add, ref_apply]
  refine Fin.sum_mul_add_congr fun s k hl => ?_
  refine Eq.trans ?_ (EReal.mul_comm _ _)
  blk_point [iblk, V, idx_val t, idx_val ⟨_, Pipeline.run_point_lt_of_flush t ht s⟩]

end Cert.Kernel23Ideal.Value

end
-- ==== Proof.RecInWgrad.lean ====
/- The value of the recurrent layer's input projection's weight gradient: the accumulator the kernel carries over the two
   halves of the tokens is the whole contraction over the tokens, which is what the reference's one product contracts. -/
module

public import proofs.«01_k».proof.Proof.Gen.Kernel24Ideal.Value
public import proofs.«01_k».proof.Proof.Gen.Reference24Ideal.Run
public import proofs.«01_k».proof.Proof.Gen.Reference24Ideal.Read
public import Idealize.ShloMosaic.Lib.Pipeline.ValueKit

@[expose] public section

set_option maxRecDepth 16384

noncomputable section

namespace Cert.Kernel24Ideal.Value

open Cert.Kernel24Ideal Cert.Kernel24Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The reference's element: the contraction over all the tokens. -/
theorem ref_apply (h : FVec Ideal Cert.Reference24Ideal.S8192x1024 .bf16) (d : FVec Ideal Cert.Reference24Ideal.S8192x2048 .bf16) (i : Cert.Reference24Ideal.S1x4x1024x512.Idx) :
    Cert.Reference24Ideal.Read.val_main_v8 (F := Ideal) h d i = ∑ l : Fin 8192, d (ix2 l ⟨(i 1).val * 512 + (i 3).val, by
      have h1 : (i 1).val < 4 := (i 1).isLt; have h3 : (i 3).val < 512 := (i 3).isLt; omega⟩) * h (ix2 l (i 2)) := by
  have h0 : (i 0).val < 1 := (i 0).isLt
  have h1 : (i 1).val < 4 := (i 1).isLt
  have h2 : (i 2).val < 1024 := (i 2).isLt
  have h3 : (i 3).val < 512 := (i 3).isLt
  rw [Cert.Reference24Ideal.Read.val_main_v8_apply, Cert.Reference24Ideal.Read.val_main_v7_apply, Cert.Reference24Ideal.Read.val_main_v6_apply, Cert.Reference24Ideal.Read.val_main_v5_apply,
    Cert.Reference24Ideal.Read.val_main_v4_apply]
  have e1 : ((((i 0).val * 4 + (i 1).val) * 1024 + (i 2).val) * 512 + (i 3).val) / 512 % 1024 = (i 2).val := by omega
  have e2 : ((((i 0).val * 4 + (i 1).val) * 1024 + (i 2).val) * 512 + (i 3).val) / 524288 = (i 1).val := by omega
  have e3 : ((((i 0).val * 4 + (i 1).val) * 1024 + (i 2).val) * 512 + (i 3).val) % 512 = (i 3).val := by omega
  refine Finset.sum_congr rfl fun l _ => ?_
  refine congrArg₂ (· * ·) (congrArg d ?_) (congrArg h ?_) <;> funext b <;> apply Fin.ext <;>
    match b with
    | ⟨0, _⟩ => rfl
    | ⟨1, _⟩ => dsimp; simp only [e1, e2, e3]; omega

/-- Every window's block index at every grid point. -/
theorem idx_val : ∀ t : Fin cfg0.N, win0_0.index t = ![t.val % 2, 0]
    ∧ win0_1.index t = ![t.val % 2, t.val / 2]
    ∧ win0_2.index t = ![0, t.val / 2, 0, 0] :=
  (by decide +kernel : ∀ t : Fin grid0.N, _)

/-- The first half's payload: the product over that half of the tokens. -/
theorem first_apply (x : FVec Ideal S4096x1024 .bf16) (d : FVec Ideal S4096x512 .bf16) (j : S1024x512.Idx) :
    k0_pay2 (F := Ideal) x d j = 0 + ∑ k : Fin 4096, x (ix2 k (j 0)) * d (ix2 k (j 1)) := by
  pointwise [k0_pay2, k0_pay1]

/-- The second half's payload adds its product to what the first left. -/
theorem next_apply (x : FVec Ideal S4096x1024 .bf16) (d : FVec Ideal S4096x512 .bf16) (acc : FVec Ideal S1024x512 .f32) (j : S1024x512.Idx) :
    k0_pay3 (F := Ideal) x d acc j = acc j + ∑ k : Fin 4096, x (ix2 k (j 0)) * d (ix2 k (j 1)) := by
  pointwise [k0_pay3, k0_pay1]

/-- At the point that writes a block back, the block is the accumulator re-laid. -/
theorem out_eq (c : Dev nD) (t : Fin cfg0.N) (h : t.val % 2 = 1) :
    (outsAt0 m c t.val t.isLt).1 = k0_pay4 (F := Ideal) (outsAt0 m c t.val t.isLt).2 := by
  rw [outsAt0_B m c t (by omega) h h]
  frame_out

/-- The array the kernel leaves is the reference's. -/
theorem final (c : Dev nD) : (dats m 0 c).arrAt 2 (cfgs 0).N
    = Cert.Reference24Ideal.Read.val_main_v8 (F := Ideal) (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  blk_simp
  rw [after0_2, out_eq m c t ht]
  rw [show ∀ v : FVec Ideal S1024x512 .f32, k0_pay4 (F := Ideal) v y = v (ix2 (y 2) (y 3)) from fun v => by pointwise [k0_pay4]]
  rw [Pipeline.eq_sum_fin_of_reset_step_apply_of_flush (fun n h => (outsAt0 m c n h).2) 2 (fun _ => 0) _
    (fun t h j => by rw [outsAt0_A m c t h (by omega) (by omega)]; frame_out; rw [first_apply])
    (fun t h j => by rw [outsAt0_B m c t h (by omega) (by omega)]; frame_out; rw [next_apply, (Memref.isWhole_whole _).read_unread]) t ht _, zero_add, ref_apply]
  refine Fin.sum_mul_add_congr fun s k hl => ?_
  refine Eq.trans ?_ (EReal.mul_comm _ _)
  blk_point [iblk, V, idx_val t, idx_val ⟨_, Pipeline.run_point_lt_of_flush t ht s⟩]

end Cert.Kernel24Ideal.Value

end
-- ==== Proof.RecInGrad.lean ====
/- The value of the gradient into the recurrent layer's input projection: per token block the kernel adds four
   products, one per quarter of the projection's columns; the reference has one product over all the columns. -/
module

public import proofs.«01_k».proof.Proof.Gen.Kernel25Ideal.Value
public import proofs.«01_k».proof.Proof.Gen.Reference25Ideal.Run
public import proofs.«01_k».proof.Proof.Gen.Reference25Ideal.Read
public import Idealize.ShloMosaic.Lib.Pipeline.ValueKit

@[expose] public section

set_option maxRecDepth 16384

noncomputable section

namespace Cert.Kernel25Ideal.Value

open Cert.Kernel25Ideal Cert.Kernel25Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The reference's element: one product over the projection's columns. -/
theorem ref_apply (a : FVec Ideal Cert.Reference25Ideal.S8192x2048 .bf16) (w : FVec Ideal Cert.Reference25Ideal.S1024x2048 .bf16) (i : Cert.Reference25Ideal.S8192x1024.Idx) :
    Cert.Reference25Ideal.Read.val_main_v4 (F := Ideal) a w i = ∑ l : Fin 2048, a (ix2 (i 0) l) * w (ix2 (i 1) l) := by
  rw [Cert.Reference25Ideal.Read.val_main_v4_apply]
  refine Finset.sum_congr rfl fun l _ => congrArg₂ (· * ·) (congrArg a ?_) (congrArg w ?_) <;> funext b <;> apply Fin.ext <;>
    match b with
    | ⟨0, _⟩ => rfl
    | ⟨1, _⟩ => rfl

/-- One quarter's product at an index of the token block. -/
abbrev P (x : FVec Ideal S1024x512 .bf16) (w : FVec Ideal S1x1x1024x512 .bf16) (j : S1024x1024.Idx) : EReal :=
  ∑ k : Fin 512, x (ix2 (j 0) k) * w (ix4 0 0 (j 1) k)

/-- The body's payload: the four products added up. -/
theorem pay_apply (x0 : FVec Ideal S1024x512 .bf16) (w0 : FVec Ideal S1x1x1024x512 .bf16) (x1 : FVec Ideal S1024x512 .bf16) (w1 : FVec Ideal S1x1x1024x512 .bf16) (x2 : FVec Ideal S1024x512 .bf16) (w2 : FVec Ideal S1x1x1024x512 .bf16) (x3 : FVec Ideal S1024x512 .bf16) (w3 : FVec Ideal S1x1x1024x512 .bf16) (j : S1024x1024.Idx) :
    k0_pay1 (F := Ideal) x0 w0 x1 w1 x2 w2 x3 w3 j = P x0 w0 j + P x1 w1 j + P x2 w2 j + P x3 w3 j := by
  pointwise [k0_pay1]

/-- A sum over 2048 columns is the sum of the four quarters' sums. -/
theorem quarters (f : Fin 2048 → EReal) :
    ∑ l, f l = (∑ k : Fin 512, f ⟨k.val, by omega⟩) + (∑ k : Fin 512, f ⟨512 + k.val, by omega⟩)
      + (∑ k : Fin 512, f ⟨1024 + k.val, by omega⟩) + ∑ k : Fin 512, f ⟨1536 + k.val, by omega⟩ := by
  rw [← Fin.sum_mul_add_congr (F := fun (s : Fin 4) (k : Fin 512) => f ⟨s.val * 512 + k.val, by omega⟩) fun s k hl => rfl,
    Fin.sum_univ_four]
  rfl

/-- Every window's block index at every grid point. -/
theorem idx_val : ∀ t : Fin cfg0.N, win0_0.index t = ![t.val, 0]
    ∧ win0_1.index t = ![0, 0, 0, 0]
    ∧ win0_2.index t = ![t.val, 1]
    ∧ win0_3.index t = ![0, 1, 0, 0]
    ∧ win0_4.index t = ![t.val, 2]
    ∧ win0_5.index t = ![0, 2, 0, 0]
    ∧ win0_6.index t = ![t.val, 3]
    ∧ win0_7.index t = ![0, 3, 0, 0]
    ∧ win0_8.index t = ![t.val, 0] :=
  (by decide +kernel : ∀ t : Fin grid0.N, _)

/-- The array the kernel leaves is the reference's. -/
theorem final (c : Dev nD) : (dats m 0 c).arrAt 8 (cfgs 0).N
    = Cert.Reference25Ideal.Read.val_main_v4 (F := Ideal) (m ((c : Thread nD τ).loc main_arg0)) (m ((c : Thread nD τ).loc main_arg1)) := by
  refine (dats m 0 c).arrAt_eq_of_covers 8 _ (by decide +kernel) fun t hf y => ?_
  blk_simp
  rw [after0_8]
  frame_out
  rw [pay_apply, ref_apply, quarters]
  have h0 : (y 0).val < 1024 := (y 0).isLt
  have h1 : (y 1).val < 1024 := (y 1).isLt
  refine congrArg₂ (· + ·) (congrArg₂ (· + ·) (congrArg₂ (· + ·) ?_ ?_) ?_) ?_ <;>
    refine Finset.sum_congr rfl fun k _ => ?_ <;> blk_point [iblk, V, idx_val t]

end Cert.Kernel25Ideal.Value

end
-- ==== Proof.AttnOutWgrad.lean ====
/- The lower half of the attention output projection's weight gradient: the accumulator over the two halves of the tokens
   is the whole contraction, and the upper half of the array stays as it was. -/
module

public import proofs.«01_k».proof.Proof.Gen.Kernel26Ideal.Value
public import proofs.«01_k».proof.Proof.Gen.Reference26Ideal.Run
public import proofs.«01_k».proof.Proof.Gen.Reference26Ideal.Read
public import Idealize.ShloMosaic.Lib.Pipeline.ValueKit

@[expose] public section

set_option maxRecDepth 16384

noncomputable section

namespace Cert.Kernel26Ideal.Value

open Cert.Kernel26Ideal Cert.Kernel26Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The reference's element in the lower half: the contraction over all the tokens. -/
theorem ref_lower (g : FVec Ideal Cert.Reference26Ideal.S1x1024x1024 .f32) (b : FVec Ideal Cert.Reference26Ideal.S8192x512 .bf16) (d : FVec Ideal Cert.Reference26Ideal.S8192x1024 .bf16)
    (i : Cert.Reference26Ideal.S1x1024x1024.Idx) (p : Fin 512) (hp : (i 1).val = 512 + p.val) :
    Cert.Reference26Ideal.Read.val_main_v8 (F := Ideal) g b d i = ∑ l : Fin 8192, d (ix2 l (i 2)) * b (ix2 l p) := by
  have e : Cert.Reference26Ideal.Read.val_main_v8 (F := Ideal) g b d i = Cert.Reference26Ideal.Read.val_main_v6 (F := Ideal) b d (show Cert.Reference26Ideal.S1x512x1024.Idx from ix3 (n0 := 1) (n1 := 512) 0 p (i 2)) := by
    unfold Cert.Reference26Ideal.Read.val_main_v8
    refine concatenate_pair_apply_right (t := Cert.Reference26Ideal.S1x1024x1024) (s₁ := Cert.Reference26Ideal.S1x512x1024) (s₂ := Cert.Reference26Ideal.S1x512x1024) (1 : Fin 3) _ _ _ _ rfl rfl (ix3 (n0 := 1) (n1 := 512) 0 p (i 2)) (fun c hc => ?_) ?_
    · match c with
      | ⟨0, _⟩ =>
        have h0 : (i 0).val < 1 := (i 0).isLt
        exact (show (0 : Nat) = (i 0).val by omega)
      | ⟨1, _⟩ => exact absurd rfl hc
      | ⟨2, _⟩ => rfl
    · exact (show p.val + 512 = (i 1).val by omega)
  have h1 : p.val < 512 := p.isLt
  have h2 : (i 2).val < 1024 := (i 2).isLt
  rw [e, Cert.Reference26Ideal.Read.val_main_v6_apply, Cert.Reference26Ideal.Read.val_main_v5_apply, Cert.Reference26Ideal.Read.val_main_v4_apply]
  have e1 : ((0 * 512 + p.val) * 1024 + (i 2).val) / 1024 = p.val := by omega
  have e2 : ((0 * 512 + p.val) * 1024 + (i 2).val) % 1024 = (i 2).val := by omega
  refine Finset.sum_congr rfl fun l _ => ?_
  refine congrArg₂ (· * ·) (congrArg d ?_) (congrArg b ?_) <;> funext b <;> apply Fin.ext
  · match b with
    | ⟨0, _⟩ => rfl
    | ⟨1, _⟩ => exact e2
  · match b with
    | ⟨0, _⟩ => rfl
    | ⟨1, _⟩ => exact e1

/-- The reference's element in the upper half: the array's own. -/
theorem ref_upper (g : FVec Ideal Cert.Reference26Ideal.S1x1024x1024 .f32) (b : FVec Ideal Cert.Reference26Ideal.S8192x512 .bf16) (d : FVec Ideal Cert.Reference26Ideal.S8192x1024 .bf16)
    (i : Cert.Reference26Ideal.S1x1024x1024.Idx) (h : (i 1).val < 512) : Cert.Reference26Ideal.Read.val_main_v8 (F := Ideal) g b d i = g i := by
  have e : Cert.Reference26Ideal.Read.val_main_v8 (F := Ideal) g b d i = Cert.Reference26Ideal.Read.val_main_v7 (F := Ideal) g (show Cert.Reference26Ideal.S1x512x1024.Idx from ix3 (n0 := 1) (n1 := 512) (i 0) ⟨(i 1).val, h⟩ (i 2)) := by
    unfold Cert.Reference26Ideal.Read.val_main_v8
    refine concatenate_pair_apply_left (t := Cert.Reference26Ideal.S1x1024x1024) (s₁ := Cert.Reference26Ideal.S1x512x1024) (s₂ := Cert.Reference26Ideal.S1x512x1024) (1 : Fin 3) _ _ _ _ rfl (ix3 (n0 := 1) (n1 := 512) (i 0) ⟨(i 1).val, h⟩ (i 2)) fun c => ?_
    match c with
    | ⟨0, _⟩ => rfl
    | ⟨1, _⟩ => rfl
    | ⟨2, _⟩ => rfl
  rw [e, Cert.Reference26Ideal.Read.val_main_v7_apply]
  refine congrArg g (funext fun c => Fin.ext ?_)
  match c with
  | ⟨0, _⟩ => rfl
  | ⟨1, _⟩ => rfl
  | ⟨2, _⟩ => rfl

/-- Every window's block index at every grid point. -/
theorem idx_val : ∀ t : Fin cfg0.N, win0_0.index t = ![t.val % 2, 0]
    ∧ win0_1.index t = ![t.val % 2, 0]
    ∧ win0_2.index t = ![0, 1, 0] :=
  (by decide +kernel : ∀ t : Fin grid0.N, _)

/-- The first half's payload: the product over that half of the tokens. -/
theorem first_apply (x : FVec Ideal S4096x512 .bf16) (d : FVec Ideal S4096x1024 .bf16) (j : S512x1024.Idx) :
    k0_pay2 (F := Ideal) x d j = 0 + ∑ k : Fin 4096, x (ix2 k (j 0)) * d (ix2 k (j 1)) := by
  pointwise [k0_pay2, k0_pay1]

/-- The second half's payload adds its product to what the first left. -/
theorem next_apply (x : FVec Ideal S4096x512 .bf16) (d : FVec Ideal S4096x1024 .bf16) (acc : FVec Ideal S512x1024 .f32) (j : S512x1024.Idx) :
    k0_pay3 (F := Ideal) x d acc j = acc j + ∑ k : Fin 4096, x (ix2 k (j 0)) * d (ix2 k (j 1)) := by
  pointwise [k0_pay3, k0_pay1]

/-- At the point that writes a block back, the block is the accumulator re-laid. -/
theorem out_eq (c : Dev nD) (t : Fin cfg0.N) (h : t.val % 2 = 1) :
    (outsAt0 m c t.val t.isLt).1 = k0_pay4 (F := Ideal) (outsAt0 m c t.val t.isLt).2 := by
  rw [outsAt0_B m c t (by omega) h h]
  frame_out

/-- The array the kernel leaves is the reference's. -/
theorem final (c : Dev nD) : (dats m 0 c).arrAt 2 (cfgs 0).N
    = Cert.Reference26Ideal.Read.val_main_v8 (F := Ideal) (m ((c : Thread nD τ).loc main_arg0)) (m ((c : Thread nD τ).loc main_arg1)) (m ((c : Thread nD τ).loc main_arg2)) := by
  refine (dats m 0 c).arrAt_eq_of_coversWhere_of_agree 2 _ (fun β => 1 ≤ β 1) (by decide +kernel) (fun t hf y => ?_) (fun j hj => ?_)
  · have ht : t.val % 2 = 1 := (flush0_2 t).mp hf
    blk_simp
    rw [after0_2, out_eq m c t ht]
    rw [show ∀ v : FVec Ideal S512x1024 .f32, k0_pay4 (F := Ideal) v y = v (ix2 (y 1) (y 2)) from fun v => by pointwise [k0_pay4]]
    rw [Pipeline.eq_sum_fin_of_reset_step_apply_of_flush (fun n h => (outsAt0 m c n h).2) 2 (fun _ => 0) _
      (fun t h j => by rw [outsAt0_A m c t h (by omega) (by omega)]; frame_out; rw [first_apply])
      (fun t h j => by rw [outsAt0_B m c t h (by omega) (by omega)]; frame_out; rw [next_apply, (Memref.isWhole_whole _).read_unread]) t ht _, zero_add]
    rw [ref_lower _ _ _ _ (y 1) (by blk_simp [idx_val t])]
    refine Fin.sum_mul_add_congr fun s k hl => ?_
    refine Eq.trans ?_ (EReal.mul_comm _ _)
    blk_point [iblk, V, idx_val t, idx_val ⟨_, Pipeline.run_point_lt_of_flush t ht s⟩]
  · blk_simp [Pipeline.Window.cell_apply] at hj
    rw [ref_upper]
    · rw [A_eq]
      rfl
    · exact (show (j 1).val < 512 by omega)

end Cert.Kernel26Ideal.Value

end
-- ==== Proof.AttnOutWgradUpper.lean ====
/- The upper half of the attention output projection's weight gradient: the accumulator over the two halves of the tokens
   is the whole contraction, and the lower half of the array stays as it was. -/
module

public import proofs.«01_k».proof.Proof.Gen.Kernel27Ideal.Value
public import proofs.«01_k».proof.Proof.Gen.Reference27Ideal.Run
public import proofs.«01_k».proof.Proof.Gen.Reference27Ideal.Read
public import Idealize.ShloMosaic.Lib.Pipeline.ValueKit

@[expose] public section

set_option maxRecDepth 16384

noncomputable section

namespace Cert.Kernel27Ideal.Value

open Cert.Kernel27Ideal Cert.Kernel27Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The reference's element in the upper half: the contraction over all the tokens. -/
theorem ref_upper (g : FVec Ideal Cert.Reference27Ideal.S1x1024x1024 .f32) (b : FVec Ideal Cert.Reference27Ideal.S8192x512 .bf16) (d : FVec Ideal Cert.Reference27Ideal.S8192x1024 .bf16)
    (i : Cert.Reference27Ideal.S1x1024x1024.Idx) (p : Fin 512) (hp : (i 1).val = p.val) :
    Cert.Reference27Ideal.Read.val_main_v8 (F := Ideal) g b d i = ∑ l : Fin 8192, d (ix2 l (i 2)) * b (ix2 l p) := by
  have e : Cert.Reference27Ideal.Read.val_main_v8 (F := Ideal) g b d i = Cert.Reference27Ideal.Read.val_main_v6 (F := Ideal) b d (show Cert.Reference27Ideal.S1x512x1024.Idx from ix3 (n0 := 1) (n1 := 512) 0 p (i 2)) := by
    unfold Cert.Reference27Ideal.Read.val_main_v8
    refine concatenate_pair_apply_left (t := Cert.Reference27Ideal.S1x1024x1024) (s₁ := Cert.Reference27Ideal.S1x512x1024) (s₂ := Cert.Reference27Ideal.S1x512x1024) (1 : Fin 3) _ _ _ _ rfl (ix3 (n0 := 1) (n1 := 512) 0 p (i 2)) fun c => ?_
    match c with
    | ⟨0, _⟩ =>
      have h0 : (i 0).val < 1 := (i 0).isLt
      exact (show (0 : Nat) = (i 0).val by omega)
    | ⟨1, _⟩ => exact hp.symm
    | ⟨2, _⟩ => rfl
  have h1 : p.val < 512 := p.isLt
  have h2 : (i 2).val < 1024 := (i 2).isLt
  rw [e, Cert.Reference27Ideal.Read.val_main_v6_apply, Cert.Reference27Ideal.Read.val_main_v5_apply, Cert.Reference27Ideal.Read.val_main_v4_apply]
  have e1 : ((0 * 512 + p.val) * 1024 + (i 2).val) / 1024 = p.val := by omega
  have e2 : ((0 * 512 + p.val) * 1024 + (i 2).val) % 1024 = (i 2).val := by omega
  refine Finset.sum_congr rfl fun l _ => ?_
  refine congrArg₂ (· * ·) (congrArg d ?_) (congrArg b ?_) <;> funext b <;> apply Fin.ext
  · match b with
    | ⟨0, _⟩ => rfl
    | ⟨1, _⟩ => exact e2
  · match b with
    | ⟨0, _⟩ => rfl
    | ⟨1, _⟩ => exact e1

/-- The reference's element in the lower half: the array's own. -/
theorem ref_lower (g : FVec Ideal Cert.Reference27Ideal.S1x1024x1024 .f32) (b : FVec Ideal Cert.Reference27Ideal.S8192x512 .bf16) (d : FVec Ideal Cert.Reference27Ideal.S8192x1024 .bf16)
    (i : Cert.Reference27Ideal.S1x1024x1024.Idx) (h : 512 ≤ (i 1).val) : Cert.Reference27Ideal.Read.val_main_v8 (F := Ideal) g b d i = g i := by
  have h1 : (i 1).val < 1024 := (i 1).isLt
  have hp : (i 1).val - 512 < 512 := by omega
  have e : Cert.Reference27Ideal.Read.val_main_v8 (F := Ideal) g b d i = Cert.Reference27Ideal.Read.val_main_v7 (F := Ideal) g (show Cert.Reference27Ideal.S1x512x1024.Idx from ix3 (n0 := 1) (n1 := 512) (i 0) ⟨(i 1).val - 512, hp⟩ (i 2)) := by
    unfold Cert.Reference27Ideal.Read.val_main_v8
    refine concatenate_pair_apply_right (t := Cert.Reference27Ideal.S1x1024x1024) (s₁ := Cert.Reference27Ideal.S1x512x1024) (s₂ := Cert.Reference27Ideal.S1x512x1024) (1 : Fin 3) _ _ _ _ rfl rfl (ix3 (n0 := 1) (n1 := 512) (i 0) ⟨(i 1).val - 512, hp⟩ (i 2)) (fun c hc => ?_) ?_
    · match c with
      | ⟨0, _⟩ => rfl
      | ⟨1, _⟩ => exact absurd rfl hc
      | ⟨2, _⟩ => rfl
    · exact (show (i 1).val - 512 + 512 = (i 1).val by omega)
  rw [e, Cert.Reference27Ideal.Read.val_main_v7_apply]
  refine congrArg g (funext fun c => Fin.ext ?_)
  match c with
  | ⟨0, _⟩ => rfl
  | ⟨1, _⟩ => exact (show 512 + ((i 1).val - 512) = (i 1).val by omega)
  | ⟨2, _⟩ => rfl

/-- Every window's block index at every grid point. -/
theorem idx_val : ∀ t : Fin cfg0.N, win0_0.index t = ![t.val % 2, 0]
    ∧ win0_1.index t = ![t.val % 2, 0]
    ∧ win0_2.index t = ![0, 0, 0] :=
  (by decide +kernel : ∀ t : Fin grid0.N, _)

/-- The first half's payload: the product over that half of the tokens. -/
theorem first_apply (x : FVec Ideal S4096x512 .bf16) (d : FVec Ideal S4096x1024 .bf16) (j : S512x1024.Idx) :
    k0_pay2 (F := Ideal) x d j = 0 + ∑ k : Fin 4096, x (ix2 k (j 0)) * d (ix2 k (j 1)) := by
  pointwise [k0_pay2, k0_pay1]

/-- The second half's payload adds its product to what the first left. -/
theorem next_apply (x : FVec Ideal S4096x512 .bf16) (d : FVec Ideal S4096x1024 .bf16) (acc : FVec Ideal S512x1024 .f32) (j : S512x1024.Idx) :
    k0_pay3 (F := Ideal) x d acc j = acc j + ∑ k : Fin 4096, x (ix2 k (j 0)) * d (ix2 k (j 1)) := by
  pointwise [k0_pay3, k0_pay1]

/-- At the point that writes a block back, the block is the accumulator re-laid. -/
theorem out_eq (c : Dev nD) (t : Fin cfg0.N) (h : t.val % 2 = 1) :
    (outsAt0 m c t.val t.isLt).1 = k0_pay4 (F := Ideal) (outsAt0 m c t.val t.isLt).2 := by
  rw [outsAt0_B m c t (by omega) h h]
  frame_out

/-- The array the kernel leaves is the reference's. -/
theorem final (c : Dev nD) : (dats m 0 c).arrAt 2 (cfgs 0).N
    = Cert.Reference27Ideal.Read.val_main_v8 (F := Ideal) (m ((c : Thread nD τ).loc main_arg0)) (m ((c : Thread nD τ).loc main_arg1)) (m ((c : Thread nD τ).loc main_arg2)) := by
  refine (dats m 0 c).arrAt_eq_of_coversWhere_of_agree 2 _ (fun β => β 1 < 1) (by decide +kernel) (fun t hf y => ?_) (fun j hj => ?_)
  · have ht : t.val % 2 = 1 := (flush0_2 t).mp hf
    blk_simp
    rw [after0_2, out_eq m c t ht]
    rw [show ∀ v : FVec Ideal S512x1024 .f32, k0_pay4 (F := Ideal) v y = v (ix2 (y 1) (y 2)) from fun v => by pointwise [k0_pay4]]
    rw [Pipeline.eq_sum_fin_of_reset_step_apply_of_flush (fun n h => (outsAt0 m c n h).2) 2 (fun _ => 0) _
      (fun t h j => by rw [outsAt0_A m c t h (by omega) (by omega)]; frame_out; rw [first_apply])
      (fun t h j => by rw [outsAt0_B m c t h (by omega) (by omega)]; frame_out; rw [next_apply, (Memref.isWhole_whole _).read_unread]) t ht _, zero_add]
    rw [ref_upper _ _ _ _ (y 1) (by blk_simp [idx_val t])]
    refine Fin.sum_mul_add_congr fun s k hl => ?_
    refine Eq.trans ?_ (EReal.mul_comm _ _)
    blk_point [iblk, V, idx_val t, idx_val ⟨_, Pipeline.run_point_lt_of_flush t ht s⟩]
  · blk_simp [Pipeline.Window.cell_apply] at hj
    rw [ref_lower]
    · rw [A_eq]
      rfl
    · exact (show 512 ≤ (j 1).val by omega)

end Cert.Kernel27Ideal.Value

end
-- ==== Proof.NormForward.lean ====
/- The first layer's normed input: every row divided by its root mean square, times the gain. -/
module

public import proofs.«01_k».proof.Proof.Gen.Kernel28Ideal.Value
public import proofs.«01_k».proof.Proof.Gen.Reference28Ideal.Run
public import proofs.«01_k».proof.Proof.Gen.Reference28Ideal.Read
public import Idealize.ShloMosaic.Lib.Pipeline.ValueKit

@[expose] public section

set_option maxRecDepth 16384

noncomputable section

namespace Cert.Kernel28Ideal.Value

open Cert.Kernel28Ideal Cert.Kernel28Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The reference's element. -/
theorem ref_apply (x : FVec Ideal Cert.Reference28Ideal.S8192x1024 .f32) (g : FVec Ideal Cert.Reference28Ideal.S1024 .f32) (i : Cert.Reference28Ideal.S8192x1024.Idx) :
    Cert.Reference28Ideal.Read.val_main_v13 (F := Ideal) x g i = x i * Ideal.rsqrt (Ideal.div (∑ k, x (ix2 (i 0) k) * x (ix2 (i 0) k)) (Ideal.ofBits .f32 1149239296#32) + Ideal.ofBits .f32 897988541#32) * g (ix1 (i 1)) := by
  pointwise [Cert.Reference28Ideal.Read.val_main_v0, Cert.Reference28Ideal.Read.val_main_cst, Cert.Reference28Ideal.Read.val_main_v1, Cert.Reference28Ideal.Read.val_main_v2, Cert.Reference28Ideal.Read.val_main_cst_0, Cert.Reference28Ideal.Read.val_main_v3, Cert.Reference28Ideal.Read.val_main_v4, Cert.Reference28Ideal.Read.val_main_cst_1, Cert.Reference28Ideal.Read.val_main_v5, Cert.Reference28Ideal.Read.val_main_v6, Cert.Reference28Ideal.Read.val_main_v7, Cert.Reference28Ideal.Read.val_main_v8, Cert.Reference28Ideal.Read.val_main_v9, Cert.Reference28Ideal.Read.val_main_v10, Cert.Reference28Ideal.Read.val_main_v11, Cert.Reference28Ideal.Read.val_main_v12, Cert.Reference28Ideal.Read.val_main_v13]

/-- The kernel's element. -/
theorem pay_apply (x : FVec Ideal S512x1024 .f32) (g : FVec Ideal S1x1024 .f32) (i : S512x1024.Idx) :
    k0_pay1 (F := Ideal) x g i = x i * Ideal.rsqrt (Ideal.div (∑ k, x (ix2 (i 0) k) * x (ix2 (i 0) k)) (Ideal.ofBits .f32 1149239296#32) + Ideal.ofBits .f32 897988541#32) * g (ix2 0 (i 1)) := by
  pointwise [k0_pay1]

/-- Every window's block index at every grid point. -/
theorem idx_val : ∀ t : Fin cfg0.N, win0_0.index t = ![t.val, 0]
    ∧ win0_1.index t = ![0, 0]
    ∧ win0_2.index t = ![t.val, 0] :=
  (by decide +kernel : ∀ t : Fin grid0.N, _)

/-- The array the kernel leaves is the reference's. -/
theorem final (c : Dev nD) : (dats m 0 c).arrAt 2 (cfgs 0).N
    = Cert.Reference28Ideal.Read.val_main_v13 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_apply, ref_apply]
  blk_point [iblk, V, idx_val t]

end Cert.Kernel28Ideal.Value

end
-- ==== Proof.ResidForward.lean ====
/- The residual sum and the next normed input: the stream plus the normed output of a layer's part, and that sum normed again. -/
module

public import proofs.«01_k».proof.Proof.Gen.Kernel29Ideal.Value
public import proofs.«01_k».proof.Proof.Gen.Reference29Ideal.Run
public import proofs.«01_k».proof.Proof.Gen.Reference29Ideal.Read
public import Idealize.ShloMosaic.Lib.Pipeline.ValueKit

@[expose] public section

set_option maxRecDepth 16384

noncomputable section

namespace Cert.Kernel29Ideal.Value

open Cert.Kernel29Ideal Cert.Kernel29Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- The reference's sum. -/
theorem ref_sum (x z : FVec Ideal Cert.Reference29Ideal.S8192x1024 .f32) (g : FVec Ideal Cert.Reference29Ideal.S1024 .f32) (i : Cert.Reference29Ideal.S8192x1024.Idx) :
    Cert.Reference29Ideal.Read.val_main_v13 (F := Ideal) x z g i = x i + z i * Ideal.rsqrt (Ideal.div (∑ k, z (ix2 (i 0) k) * z (ix2 (i 0) k)) (Ideal.ofBits .f32 1149239296#32) + Ideal.ofBits .f32 897988541#32) * g (ix1 (i 1)) := by
  pointwise [Cert.Reference29Ideal.Read.val_main_v0, Cert.Reference29Ideal.Read.val_main_cst, Cert.Reference29Ideal.Read.val_main_v1, Cert.Reference29Ideal.Read.val_main_v2, Cert.Reference29Ideal.Read.val_main_cst_0, Cert.Reference29Ideal.Read.val_main_v3, Cert.Reference29Ideal.Read.val_main_v4, Cert.Reference29Ideal.Read.val_main_cst_1, Cert.Reference29Ideal.Read.val_main_v5, Cert.Reference29Ideal.Read.val_main_v6, Cert.Reference29Ideal.Read.val_main_v7, Cert.Reference29Ideal.Read.val_main_v8, Cert.Reference29Ideal.Read.val_main_v9, Cert.Reference29Ideal.Read.val_main_v10, Cert.Reference29Ideal.Read.val_main_v11, Cert.Reference29Ideal.Read.val_main_v12, Cert.Reference29Ideal.Read.val_main_v13]

/-- The reference's normed sum, from the sum. -/
theorem ref_norm (x z : FVec Ideal Cert.Reference29Ideal.S8192x1024 .f32) (g h : FVec Ideal Cert.Reference29Ideal.S1024 .f32) (i : Cert.Reference29Ideal.S8192x1024.Idx) :
    Cert.Reference29Ideal.Read.val_main_v27 (F := Ideal) x z g h i = Cert.Reference29Ideal.Read.val_main_v13 (F := Ideal) x z g i
      * Ideal.rsqrt (Ideal.div (∑ k, Cert.Reference29Ideal.Read.val_main_v13 (F := Ideal) x z g (ix2 (i 0) k) * Cert.Reference29Ideal.Read.val_main_v13 (F := Ideal) x z g (ix2 (i 0) k)) (Ideal.ofBits .f32 1149239296#32) + Ideal.ofBits .f32 897988541#32) * h (ix1 (i 1)) := by
  pointwise [Cert.Reference29Ideal.Read.val_main_v14, Cert.Reference29Ideal.Read.val_main_cst_2, Cert.Reference29Ideal.Read.val_main_v15, Cert.Reference29Ideal.Read.val_main_v16, Cert.Reference29Ideal.Read.val_main_cst_3, Cert.Reference29Ideal.Read.val_main_v17, Cert.Reference29Ideal.Read.val_main_v18, Cert.Reference29Ideal.Read.val_main_cst_4, Cert.Reference29Ideal.Read.val_main_v19, Cert.Reference29Ideal.Read.val_main_v20, Cert.Reference29Ideal.Read.val_main_v21, Cert.Reference29Ideal.Read.val_main_v22, Cert.Reference29Ideal.Read.val_main_v23, Cert.Reference29Ideal.Read.val_main_v24, Cert.Reference29Ideal.Read.val_main_v25, Cert.Reference29Ideal.Read.val_main_v26, Cert.Reference29Ideal.Read.val_main_v27]

/-- The kernel's sum. -/
theorem pay_sum (x z : FVec Ideal S512x1024 .f32) (g : FVec Ideal S1x1024 .f32) (i : S512x1024.Idx) :
    k0_pay1 (F := Ideal) x z g i = x i + z i * Ideal.rsqrt (Ideal.div (∑ k, z (ix2 (i 0) k) * z (ix2 (i 0) k)) (Ideal.ofBits .f32 1149239296#32) + Ideal.ofBits .f32 897988541#32) * g (ix2 0 (i 1)) := by
  pointwise [k0_pay1]

/-- The kernel's normed sum, from the sum. -/
theorem pay_norm (x z : FVec Ideal S512x1024 .f32) (g h : FVec Ideal S1x1024 .f32) (i : S512x1024.Idx) :
    k0_pay2 (F := Ideal) x z g h i = k0_pay1 (F := Ideal) x z g i * Ideal.rsqrt (Ideal.div (∑ k, k0_pay1 (F := Ideal) x z g (ix2 (i 0) k) * k0_pay1 (F := Ideal) x z g (ix2 (i 0) k)) (Ideal.ofBits .f32 1149239296#32) + Ideal.ofBits .f32 897988541#32) * h (ix2 0 (i 1)) := by
  pointwise [k0_pay2]

/-- Every window's block index at every grid point. -/
theorem idx_val : ∀ t : Fin cfg0.N, win0_0.index t = ![t.val, 0]
    ∧ win0_1.index t = ![t.val, 0]
    ∧ win0_2.index t = ![0, 0]
    ∧ win0_3.index t = ![0, 0]
    ∧ win0_4.index t = ![t.val, 0]
    ∧ win0_5.index t = ![t.val, 0] :=
  (by decide +kernel : ∀ t : Fin grid0.N, _)

/-- The row of the array that a row of a block is. -/
def row (t : Fin cfg0.N) (a : Fin 512) : Fin 8192 :=
  ⟨512 * t.val + a.val, by have := a.isLt; have h : t.val < 16 := lt_of_lt_of_eq t.isLt (by decide); omega⟩

/-- The sum in a block is the reference's at the block's place. -/
theorem sum_eq (c : Dev nD) (t : Fin cfg0.N) (y : S512x1024.Idx) : k0_pay1 (F := Ideal) (iblk m c 0 t) (iblk m c 1 t) (iblk m c 2 t) y
    = Cert.Reference29Ideal.Read.val_main_v13 (F := Ideal) (m ((c : Thread nD τ).loc main_arg0)) (m ((c : Thread nD τ).loc main_arg1)) (m ((c : Thread nD τ).loc main_arg2)) (ix2 (row t (y 0)) (y 1)) := by
  rw [pay_sum, ref_sum]
  unfold row
  blk_point [iblk, V, idx_val t]

/-- The array of sums the kernel leaves is the reference's. -/
theorem final_sum (c : Dev nD) : (dats m 0 c).arrAt 4 (cfgs 0).N
    = Cert.Reference29Ideal.Read.val_main_v13 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  rw [sum_eq m c t y]
  unfold row
  blk_point [iblk, V, idx_val t]

/-- The normed array the kernel leaves is the reference's. -/
theorem final_norm (c : Dev nD) : (dats m 0 c).arrAt 5 (cfgs 0).N
    = Cert.Reference29Ideal.Read.val_main_v27 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  rw [pay_norm, ref_norm]
  simp only [sum_eq m c t]
  unfold row
  blk_point [iblk, V, idx_val t]

end Cert.Kernel29Ideal.Value

end
-- ==== Proof.RowNorm.lean ====
/- A row divided by its root mean square, and the cotangent through that division: the form with the normed row's own mean
   and the form the chain rule gives agree at every extended real. -/
module

public import Idealize.ShloMosaic.Lib.Pipeline.ValueKit

@[expose] public section

noncomputable section

namespace Cert.RowNorm

open Idealize.ShloMosaic
open scoped BigOperators

/-- The width as the programs spell it. -/
theorem width_eq : Ideal.ofBits .f32 1149239296#32 = ((1024 : ℝ) : EReal) := by
  simp [Ideal.ofBits, Ideal.ieee, -EReal.coe_mul]
  norm_num

/-- Minus a half as the reference spells it. -/
theorem half_eq : Ideal.ofBits .f32 3204448256#32 = ((-(1 / 2) : ℝ) : EReal) := by
  simp [Ideal.ofBits, Ideal.ieee, -EReal.coe_mul]
  norm_num

/-- The constant under the root is a positive real. -/
theorem small_eq : ∃ e : ℝ, 0 < e ∧ Ideal.ofBits .f32 897988541#32 = (e : EReal) := by
  refine ⟨_, ?_, by simp [Ideal.ofBits, Ideal.ieee]; rfl⟩
  norm_num

/-- The mean of the squares of a row, and the constant. -/
def meanSq (f : Fin 1024 → EReal) : EReal :=
  Ideal.div (∑ k, f k * f k) (Ideal.ofBits .f32 1149239296#32) + Ideal.ofBits .f32 897988541#32

/-- A positive real factor comes out of a sum. -/
theorem mul_sum_of_nonneg {ι : Type} (s : Finset ι) (r : ℝ) (h : 0 ≤ r) (f : ι → EReal) : (r : EReal) * ∑ k ∈ s, f k = ∑ k ∈ s, (r : EReal) * f k := by
  classical
  induction s using Finset.induction_on with
  | empty => simp
  | insert a s ha ih =>
    rw [Finset.sum_insert ha, Finset.sum_insert ha, EReal.left_distrib_of_nonneg_of_ne_top (EReal.coe_nonneg.mpr h) (EReal.coe_ne_top r), ih]

/-- A square is not negative. -/
theorem sq_nonneg' (a : EReal) : 0 ≤ a * a := by
  induction a with
  | bot => simp
  | top => simp
  | coe a => exact_mod_cast mul_self_nonneg a

/-- The mean of the squares is infinite or a positive real. -/
theorem meanSq_cases (f : Fin 1024 → EReal) : meanSq f = ⊤ ∨ ∃ s : ℝ, 0 < s ∧ meanSq f = (s : EReal) := by
  obtain ⟨e, he, hE⟩ := small_eq
  have h : 0 ≤ ∑ k, f k * f k := Finset.sum_nonneg fun k _ => sq_nonneg' (f k)
  unfold meanSq
  rw [hE, width_eq, Ideal.div_coe (by norm_num)]
  generalize (∑ k, f k * f k) = S at h
  induction S with
  | bot => simp at h
  | top => left; rw [EReal.top_mul_coe_of_pos (by norm_num)]; rfl
  | coe S =>
    right
    have h' : 0 ≤ S := by exact_mod_cast h
    exact ⟨S * (1 / 1024) + e, by positivity, by push_cast; rfl⟩

/-- Two equal summands with a negative factor. -/
theorem add_self_neg (a : EReal) (c : ℝ) (hc : 0 < c) : a * ((-c : ℝ) : EReal) + a * ((-c : ℝ) : EReal) = -(a * ((2 * c : ℝ) : EReal)) := by
  induction a with
  | bot =>
    rw [EReal.bot_mul_coe_of_neg (by linarith), EReal.bot_mul_coe_of_pos (by linarith)]
    rfl
  | top =>
    rw [EReal.top_mul_coe_of_neg (by linarith), EReal.top_mul_coe_of_pos (by linarith)]
    rfl
  | coe a =>
    have : a * -c + a * -c = -(a * (2 * c)) := by ring
    exact_mod_cast this

/-- The cotangent at an element of a row: the kernel's form and the chain rule's. -/
theorem grad_eq (f u : Fin 1024 → EReal) (a b d : EReal) :
    d + Ideal.rsqrt (meanSq f) * (b - a * Ideal.rsqrt (meanSq f)
        * Ideal.div (∑ k, u k * (f k * Ideal.rsqrt (meanSq f))) (Ideal.ofBits .f32 1149239296#32))
      = d + b * Ideal.rsqrt (meanSq f)
        + a * Ideal.div ((∑ k, f k * u k) * (Ideal.ofBits .f32 3204448256#32 * Ideal.div (Ideal.rsqrt (meanSq f)) (meanSq f))) (Ideal.ofBits .f32 1149239296#32)
        + Ideal.div ((∑ k, f k * u k) * (Ideal.ofBits .f32 3204448256#32 * Ideal.div (Ideal.rsqrt (meanSq f)) (meanSq f))) (Ideal.ofBits .f32 1149239296#32) * a := by
  rw [width_eq, half_eq, Ideal.div_coe (by norm_num), Ideal.div_coe (by norm_num)]
  rcases meanSq_cases f with h | ⟨s, hs, h⟩
  · rw [h, Ideal.rsqrt_top]
    simp [Ideal.div]
  · rw [h, Ideal.rsqrt_coe, if_neg (by linarith), if_neg hs.ne', Ideal.div_coe hs.ne']
    have hr : 0 < (Real.sqrt s)⁻¹ := inv_pos.mpr (Real.sqrt_pos.mpr hs)
    have hrs : 1 / s = (Real.sqrt s)⁻¹ * (Real.sqrt s)⁻¹ := by
      rw [← mul_inv, Real.mul_self_sqrt hs.le, one_div]
    rw [hrs]
    generalize (Real.sqrt s)⁻¹ = r at hr
    have e1 : (∑ k, u k * (f k * (r : EReal))) = (r : EReal) * ∑ k, f k * u k := by
      rw [mul_sum_of_nonneg _ r hr.le]
      refine Finset.sum_congr rfl fun k _ => ?_
      rw [← mul_assoc, mul_comm, mul_comm (u k)]
    rw [e1]
    generalize (∑ k, f k * u k) = T
    have e2 : T * (((-(1 / 2) : ℝ) : EReal) * ((r : EReal) * ((r * r : ℝ) : EReal))) * ((1 / 1024 : ℝ) : EReal) * a
        = (a * T) * ((-(r * r * r * (1 / 2048)) : ℝ) : EReal) := by
      have : (-(1 / 2) * (r * (r * r)) * (1 / 1024) : ℝ) = -(r * r * r * (1 / 2048)) := by ring
      rw [← this]
      push_cast
      ac_rfl
    have e3 : (r : EReal) * (a * (r : EReal) * ((r : EReal) * T * ((1 / 1024 : ℝ) : EReal))) = (a * T) * ((2 * (r * r * r * (1 / 2048)) : ℝ) : EReal) := by
      have : (2 * (r * r * r * (1 / 2048)) : ℝ) = r * (r * (r * (1 / 1024))) := by ring
      rw [this]
      push_cast
      ac_rfl
    rw [mul_comm a (T * _ * _), e2, add_assoc, add_self_neg _ _ (by positivity), sub_eq_add_neg,
      EReal.left_distrib_of_nonneg_of_ne_top (EReal.coe_nonneg.mpr hr.le) (EReal.coe_ne_top r), mul_neg, e3, mul_comm (r : EReal) b, add_assoc]

/-- The same without another cotangent to add to. -/
theorem grad_eq_alone (f u : Fin 1024 → EReal) (a b : EReal) :
    Ideal.rsqrt (meanSq f) * (b - a * Ideal.rsqrt (meanSq f)
        * Ideal.div (∑ k, u k * (f k * Ideal.rsqrt (meanSq f))) (Ideal.ofBits .f32 1149239296#32))
      = b * Ideal.rsqrt (meanSq f)
        + a * Ideal.div ((∑ k, f k * u k) * (Ideal.ofBits .f32 3204448256#32 * Ideal.div (Ideal.rsqrt (meanSq f)) (meanSq f))) (Ideal.ofBits .f32 1149239296#32)
        + Ideal.div ((∑ k, f k * u k) * (Ideal.ofBits .f32 3204448256#32 * Ideal.div (Ideal.rsqrt (meanSq f)) (meanSq f))) (Ideal.ofBits .f32 1149239296#32) * a := by
  have h := grad_eq f u a b 0
  rwa [zero_add, zero_add] at h

end Cert.RowNorm

end
-- ==== Proof.NormGrad.lean ====
/- The input's cotangent through the first layer's norm, with the residual stream's, and the gain's gradient: the two arrays
   the kernel leaves are the reference's. -/
module

public import proofs.«01_k».proof.Proof.Gen.Kernel30Ideal.Value
public import proofs.«01_k».proof.Proof.Gen.Reference30Ideal.Run
public import proofs.«01_k».proof.Proof.Gen.Reference30Ideal.Read
public import proofs.«01_k».proof.Proof.RowNorm
public import Idealize.ShloMosaic.Lib.Pipeline.ValueKit

@[expose] public section

set_option maxRecDepth 16384

noncomputable section

namespace Cert.Kernel30Ideal.Value

open Cert.Kernel30Ideal Cert.Kernel30Ideal.Gen Cert.RowNorm
open Idealize.ShloMosaic Idealize.ShloMosaic.TcCoe Idealize.SL.Sem
open Idealize.ShloMosaic.Pipeline (Dat)
open scoped BigOperators

variable (m : (ℓ : Loc nD τ sig) → Buf (Elt Ideal) ℓ)

/-- The reference's cotangent of the input at an element. -/
theorem ref_x (x h d : FVec Ideal Cert.Reference30Ideal.S8192x1024 .f32) (g : FVec Ideal Cert.Reference30Ideal.S1024 .f32) (i : Cert.Reference30Ideal.S8192x1024.Idx) :
    Cert.Reference30Ideal.Read.val_main_v36 (F := Ideal) x h d g i = d i + h i * g (ix1 (i 1)) * Ideal.rsqrt (meanSq fun k => x (ix2 (i 0) k))
      + x i * Ideal.div ((∑ k, x (ix2 (i 0) k) * (h (ix2 (i 0) k) * g (ix1 k))) * (Ideal.ofBits .f32 3204448256#32 * Ideal.div (Ideal.rsqrt (meanSq fun k => x (ix2 (i 0) k))) (meanSq fun k => x (ix2 (i 0) k)))) (Ideal.ofBits .f32 1149239296#32)
      + Ideal.div ((∑ k, x (ix2 (i 0) k) * (h (ix2 (i 0) k) * g (ix1 k))) * (Ideal.ofBits .f32 3204448256#32 * Ideal.div (Ideal.rsqrt (meanSq fun k => x (ix2 (i 0) k))) (meanSq fun k => x (ix2 (i 0) k)))) (Ideal.ofBits .f32 1149239296#32) * x i := by
  pointwise [Cert.Reference30Ideal.Read.val_main_v0, Cert.Reference30Ideal.Read.val_main_cst, Cert.Reference30Ideal.Read.val_main_v1, Cert.Reference30Ideal.Read.val_main_v2, Cert.Reference30Ideal.Read.val_main_cst_0, Cert.Reference30Ideal.Read.val_main_v3, Cert.Reference30Ideal.Read.val_main_v4, Cert.Reference30Ideal.Read.val_main_cst_1, Cert.Reference30Ideal.Read.val_main_v5, Cert.Reference30Ideal.Read.val_main_v6, Cert.Reference30Ideal.Read.val_main_v7, Cert.Reference30Ideal.Read.val_main_v8, Cert.Reference30Ideal.Read.val_main_cst_2, Cert.Reference30Ideal.Read.val_main_v9, Cert.Reference30Ideal.Read.val_main_v10, Cert.Reference30Ideal.Read.val_main_v11, Cert.Reference30Ideal.Read.val_main_v12, Cert.Reference30Ideal.Read.val_main_v13, Cert.Reference30Ideal.Read.val_main_v14, Cert.Reference30Ideal.Read.val_main_v15, Cert.Reference30Ideal.Read.val_main_v16, Cert.Reference30Ideal.Read.val_main_cst_3, Cert.Reference30Ideal.Read.val_main_v17, Cert.Reference30Ideal.Read.val_main_v18, Cert.Reference30Ideal.Read.val_main_v19, Cert.Reference30Ideal.Read.val_main_v20, Cert.Reference30Ideal.Read.val_main_cst_4, Cert.Reference30Ideal.Read.val_main_v21, Cert.Reference30Ideal.Read.val_main_v22, Cert.Reference30Ideal.Read.val_main_cst_5, Cert.Reference30Ideal.Read.val_main_v23, Cert.Reference30Ideal.Read.val_main_v24, Cert.Reference30Ideal.Read.val_main_v25, Cert.Reference30Ideal.Read.val_main_v26, Cert.Reference30Ideal.Read.val_main_v27, Cert.Reference30Ideal.Read.val_main_v28, Cert.Reference30Ideal.Read.val_main_cst_6, Cert.Reference30Ideal.Read.val_main_v29, Cert.Reference30Ideal.Read.val_main_v30, Cert.Reference30Ideal.Read.val_main_cst_7, Cert.Reference30Ideal.Read.val_main_v31, Cert.Reference30Ideal.Read.val_main_v32, Cert.Reference30Ideal.Read.val_main_v33, Cert.Reference30Ideal.Read.val_main_v34, Cert.Reference30Ideal.Read.val_main_v35, Cert.Reference30Ideal.Read.val_main_v36, Cert.Reference30Ideal.Read.val_main_v37]
  simp only [meanSq, Finset.univ_unique, Finset.sum_singleton]

/-- The reference's gradient of the gain at an element. -/
theorem ref_g (x h : FVec Ideal Cert.Reference30Ideal.S8192x1024 .f32) (i : Cert.Reference30Ideal.S1x1024.Idx) :
    Cert.Reference30Ideal.Read.val_main_v37 (F := Ideal) x h i = ∑ l, x (ix2 l (i 1)) * Ideal.rsqrt (meanSq fun k => x (ix2 l k)) * h (ix2 l (i 1)) := by
  pointwise [Cert.Reference30Ideal.Read.val_main_v0, Cert.Reference30Ideal.Read.val_main_cst, Cert.Reference30Ideal.Read.val_main_v1, Cert.Reference30Ideal.Read.val_main_v2, Cert.Reference30Ideal.Read.val_main_cst_0, Cert.Reference30Ideal.Read.val_main_v3, Cert.Reference30Ideal.Read.val_main_v4, Cert.Reference30Ideal.Read.val_main_cst_1, Cert.Reference30Ideal.Read.val_main_v5, Cert.Reference30Ideal.Read.val_main_v6, Cert.Reference30Ideal.Read.val_main_v7, Cert.Reference30Ideal.Read.val_main_v8, Cert.Reference30Ideal.Read.val_main_cst_2, Cert.Reference30Ideal.Read.val_main_v9, Cert.Reference30Ideal.Read.val_main_v10, Cert.Reference30Ideal.Read.val_main_v11, Cert.Reference30Ideal.Read.val_main_v12, Cert.Reference30Ideal.Read.val_main_v13, Cert.Reference30Ideal.Read.val_main_v14, Cert.Reference30Ideal.Read.val_main_v15, Cert.Reference30Ideal.Read.val_main_v16, Cert.Reference30Ideal.Read.val_main_cst_3, Cert.Reference30Ideal.Read.val_main_v17, Cert.Reference30Ideal.Read.val_main_v18, Cert.Reference30Ideal.Read.val_main_v19, Cert.Reference30Ideal.Read.val_main_v20, Cert.Reference30Ideal.Read.val_main_cst_4, Cert.Reference30Ideal.Read.val_main_v21, Cert.Reference30Ideal.Read.val_main_v22, Cert.Reference30Ideal.Read.val_main_cst_5, Cert.Reference30Ideal.Read.val_main_v23, Cert.Reference30Ideal.Read.val_main_v24, Cert.Reference30Ideal.Read.val_main_v25, Cert.Reference30Ideal.Read.val_main_v26, Cert.Reference30Ideal.Read.val_main_v27, Cert.Reference30Ideal.Read.val_main_v28, Cert.Reference30Ideal.Read.val_main_cst_6, Cert.Reference30Ideal.Read.val_main_v29, Cert.Reference30Ideal.Read.val_main_v30, Cert.Reference30Ideal.Read.val_main_cst_7, Cert.Reference30Ideal.Read.val_main_v31, Cert.Reference30Ideal.Read.val_main_v32, Cert.Reference30Ideal.Read.val_main_v33, Cert.Reference30Ideal.Read.val_main_v34, Cert.Reference30Ideal.Read.val_main_v35, Cert.Reference30Ideal.Read.val_main_v36, Cert.Reference30Ideal.Read.val_main_v37]
  simp only [meanSq, Finset.univ_unique, Finset.sum_singleton]

/-- The kernel's cotangent of the input at an element of a block. -/
theorem pay_x (x h d : FVec Ideal S512x1024 .f32) (g : FVec Ideal S1x1024 .f32) (i : S512x1024.Idx) :
    k0_pay5 (F := Ideal) x h d g i = d i + Ideal.rsqrt (meanSq fun k => x (ix2 (i 0) k)) * (h i * g (ix2 0 (i 1)) - x i * Ideal.rsqrt (meanSq fun k => x (ix2 (i 0) k))
      * Ideal.div (∑ k, h (ix2 (i 0) k) * g (ix2 0 k) * (x (ix2 (i 0) k) * Ideal.rsqrt (meanSq fun k => x (ix2 (i 0) k)))) (Ideal.ofBits .f32 1149239296#32)) := by
  pointwise [k0_pay5, k0_pay3, k0_pay2]
  simp only [meanSq]

/-- A block's part of the gain's gradient. -/
theorem pay_g (x h : FVec Ideal S512x1024 .f32) (i : S1x1024.Idx) :
    k0_pay4 (F := Ideal) x h i = ∑ l, h (ix2 l (i 1)) * (x (ix2 l (i 1)) * Ideal.rsqrt (meanSq fun k => x (ix2 l k))) := by
  pointwise [k0_pay4, k0_pay3, k0_pay2]
  simp only [meanSq]

/-- The later blocks' parts are added to what is there. -/
theorem pay_add (v w : FVec Ideal S1x1024 .f32) (i : S1x1024.Idx) : k0_pay1 (F := Ideal) v w i = w i + v i := by
  pointwise [k0_pay1]

/-- Every window's block index at every grid point. -/
theorem idx_val : ∀ t : Fin cfg0.N, win0_0.index t = ![t.val, 0]
    ∧ win0_1.index t = ![t.val, 0]
    ∧ win0_2.index t = ![t.val, 0]
    ∧ win0_3.index t = ![0, 0]
    ∧ win0_4.index t = ![t.val, 0]
    ∧ win0_5.index t = ![0, 0] :=
  (by decide +kernel : ∀ t : Fin grid0.N, _)

/-- The first output's block at every point. -/
theorem out_x (c : Dev nD) (t : Fin cfg0.N) :
    (outsAt0 m c t.val t.isLt).1 = k0_pay5 (F := Ideal) (iblk m c 0 t) (iblk m c 1 t) (iblk m c 2 t) (iblk m c 3 t) := by
  by_cases h : t.val % 16 = 0
  · rw [outsAt0_A m c t h (by have h : t.val < 16 := lt_of_lt_of_eq t.isLt (by decide); omega)]
    frame_out
  · rw [outsAt0_B m c t h (by omega)]
    frame_out

/-- The input's cotangent the kernel leaves is the reference's. -/
theorem final_x (c : Dev nD) : (dats m 0 c).arrAt 4 (cfgs 0).N
    = Cert.Reference30Ideal.Read.val_main_v36 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, out_x m c t, pay_x, ref_x, grad_eq]
  blk_point [iblk, V, idx_val t]

/-- The gain's gradient the kernel leaves is the reference's. -/
theorem final_g (c : Dev nD) : (dats m 0 c).arrAt 5 (cfgs 0).N
    = Cert.Reference30Ideal.Read.val_main_v37 (F := Ideal) (m ((c : Thread nD τ).loc main_arg0)) (m ((c : Thread nD τ).loc main_arg1)) := by
  refine (dats m 0 c).arrAt_eq_of_covers 5 _ (by decide +kernel) fun t hf y => ?_
  have ht : t.val % 16 = 15 := (flush0_5 t).mp hf
  blk_simp
  rw [after0_5]
  rw [Pipeline.eq_sum_fin_of_reset_step_apply_of_flush (fun n h => (outsAt0 m c n h).2) 16 (fun _ => 0)
      (fun t => k0_pay4 (F := Ideal) (iblk m c 0 t) (iblk m c 1 t))
    (fun t h j => by
      rw [outsAt0_A m c t h (by have h : t.val < 16 := lt_of_lt_of_eq t.isLt (by decide); omega), zero_add]
      frame_out)
    (fun t h j => by
      rw [outsAt0_B m c t h (by omega)]
      frame_out
      rw [pay_add]) t ht _, zero_add]
  rw [ref_g]
  simp only [pay_g]
  refine Fin.sum_mul_add_congr fun s k hl => ?_
  rw [mul_comm]
  blk_point [iblk, V, idx_val t, idx_val ⟨_, Pipeline.run_point_lt_of_flush t ht s⟩]

end Cert.Kernel30Ideal.Value

end
-- ==== Proof.PostNormGrad.lean ====
/- The cotangent through the norm after the feed-forward layer, and the gain's gradient: the two arrays
   the kernel leaves are the reference's. -/
module

public import proofs.«01_k».proof.Proof.Gen.Kernel31Ideal.Value
public import proofs.«01_k».proof.Proof.Gen.Reference31Ideal.Run
public import proofs.«01_k».proof.Proof.Gen.Reference31Ideal.Read
public import proofs.«01_k».proof.Proof.RowNorm
public import Idealize.ShloMosaic.Lib.Pipeline.ValueKit

@[expose] public section

set_option maxRecDepth 16384

noncomputable section

namespace Cert.Kernel31Ideal.Value

open Cert.Kernel31Ideal Cert.Kernel31Ideal.Gen Cert.RowNorm
open Idealize.ShloMosaic Idealize.ShloMosaic.TcCoe Idealize.SL.Sem
open Idealize.ShloMosaic.Pipeline (Dat)
open scoped BigOperators

variable (m : (ℓ : Loc nD τ sig) → Buf (Elt Ideal) ℓ)

/-- The reference's cotangent of the input at an element. -/
theorem ref_x (x h : FVec Ideal Cert.Reference31Ideal.S8192x1024 .f32) (g : FVec Ideal Cert.Reference31Ideal.S1024 .f32) (i : Cert.Reference31Ideal.S8192x1024.Idx) :
    Cert.Reference31Ideal.Read.val_main_v36 (F := Ideal) x h g i = h i * g (ix1 (i 1)) * Ideal.rsqrt (meanSq fun k => x (ix2 (i 0) k))
      + x i * Ideal.div ((∑ k, x (ix2 (i 0) k) * (h (ix2 (i 0) k) * g (ix1 k))) * (Ideal.ofBits .f32 3204448256#32 * Ideal.div (Ideal.rsqrt (meanSq fun k => x (ix2 (i 0) k))) (meanSq fun k => x (ix2 (i 0) k)))) (Ideal.ofBits .f32 1149239296#32)
      + Ideal.div ((∑ k, x (ix2 (i 0) k) * (h (ix2 (i 0) k) * g (ix1 k))) * (Ideal.ofBits .f32 3204448256#32 * Ideal.div (Ideal.rsqrt (meanSq fun k => x (ix2 (i 0) k))) (meanSq fun k => x (ix2 (i 0) k)))) (Ideal.ofBits .f32 1149239296#32) * x i := by
  pointwise [Cert.Reference31Ideal.Read.val_main_v0, Cert.Reference31Ideal.Read.val_main_cst, Cert.Reference31Ideal.Read.val_main_v1, Cert.Reference31Ideal.Read.val_main_v2, Cert.Reference31Ideal.Read.val_main_cst_0, Cert.Reference31Ideal.Read.val_main_v3, Cert.Reference31Ideal.Read.val_main_v4, Cert.Reference31Ideal.Read.val_main_cst_1, Cert.Reference31Ideal.Read.val_main_v5, Cert.Reference31Ideal.Read.val_main_v6, Cert.Reference31Ideal.Read.val_main_v7, Cert.Reference31Ideal.Read.val_main_v8, Cert.Reference31Ideal.Read.val_main_cst_2, Cert.Reference31Ideal.Read.val_main_v9, Cert.Reference31Ideal.Read.val_main_v10, Cert.Reference31Ideal.Read.val_main_v11, Cert.Reference31Ideal.Read.val_main_v12, Cert.Reference31Ideal.Read.val_main_v13, Cert.Reference31Ideal.Read.val_main_v14, Cert.Reference31Ideal.Read.val_main_v15, Cert.Reference31Ideal.Read.val_main_v16, Cert.Reference31Ideal.Read.val_main_cst_3, Cert.Reference31Ideal.Read.val_main_v17, Cert.Reference31Ideal.Read.val_main_v18, Cert.Reference31Ideal.Read.val_main_v19, Cert.Reference31Ideal.Read.val_main_v20, Cert.Reference31Ideal.Read.val_main_cst_4, Cert.Reference31Ideal.Read.val_main_v21, Cert.Reference31Ideal.Read.val_main_v22, Cert.Reference31Ideal.Read.val_main_cst_5, Cert.Reference31Ideal.Read.val_main_v23, Cert.Reference31Ideal.Read.val_main_v24, Cert.Reference31Ideal.Read.val_main_v25, Cert.Reference31Ideal.Read.val_main_v26, Cert.Reference31Ideal.Read.val_main_v27, Cert.Reference31Ideal.Read.val_main_cst_6, Cert.Reference31Ideal.Read.val_main_v28, Cert.Reference31Ideal.Read.val_main_v29, Cert.Reference31Ideal.Read.val_main_cst_7, Cert.Reference31Ideal.Read.val_main_v30, Cert.Reference31Ideal.Read.val_main_v31, Cert.Reference31Ideal.Read.val_main_v32, Cert.Reference31Ideal.Read.val_main_v33, Cert.Reference31Ideal.Read.val_main_v34, Cert.Reference31Ideal.Read.val_main_v35, Cert.Reference31Ideal.Read.val_main_v36, Cert.Reference31Ideal.Read.val_main_v37]
  simp only [meanSq, Finset.univ_unique, Finset.sum_singleton]

/-- The reference's gradient of the gain at an element. -/
theorem ref_g (x h : FVec Ideal Cert.Reference31Ideal.S8192x1024 .f32) (i : Cert.Reference31Ideal.S1x1024.Idx) :
    Cert.Reference31Ideal.Read.val_main_v37 (F := Ideal) x h i = ∑ l, x (ix2 l (i 1)) * Ideal.rsqrt (meanSq fun k => x (ix2 l k)) * h (ix2 l (i 1)) := by
  pointwise [Cert.Reference31Ideal.Read.val_main_v0, Cert.Reference31Ideal.Read.val_main_cst, Cert.Reference31Ideal.Read.val_main_v1, Cert.Reference31Ideal.Read.val_main_v2, Cert.Reference31Ideal.Read.val_main_cst_0, Cert.Reference31Ideal.Read.val_main_v3, Cert.Reference31Ideal.Read.val_main_v4, Cert.Reference31Ideal.Read.val_main_cst_1, Cert.Reference31Ideal.Read.val_main_v5, Cert.Reference31Ideal.Read.val_main_v6, Cert.Reference31Ideal.Read.val_main_v7, Cert.Reference31Ideal.Read.val_main_v8, Cert.Reference31Ideal.Read.val_main_cst_2, Cert.Reference31Ideal.Read.val_main_v9, Cert.Reference31Ideal.Read.val_main_v10, Cert.Reference31Ideal.Read.val_main_v11, Cert.Reference31Ideal.Read.val_main_v12, Cert.Reference31Ideal.Read.val_main_v13, Cert.Reference31Ideal.Read.val_main_v14, Cert.Reference31Ideal.Read.val_main_v15, Cert.Reference31Ideal.Read.val_main_v16, Cert.Reference31Ideal.Read.val_main_cst_3, Cert.Reference31Ideal.Read.val_main_v17, Cert.Reference31Ideal.Read.val_main_v18, Cert.Reference31Ideal.Read.val_main_v19, Cert.Reference31Ideal.Read.val_main_v20, Cert.Reference31Ideal.Read.val_main_cst_4, Cert.Reference31Ideal.Read.val_main_v21, Cert.Reference31Ideal.Read.val_main_v22, Cert.Reference31Ideal.Read.val_main_cst_5, Cert.Reference31Ideal.Read.val_main_v23, Cert.Reference31Ideal.Read.val_main_v24, Cert.Reference31Ideal.Read.val_main_v25, Cert.Reference31Ideal.Read.val_main_v26, Cert.Reference31Ideal.Read.val_main_v27, Cert.Reference31Ideal.Read.val_main_cst_6, Cert.Reference31Ideal.Read.val_main_v28, Cert.Reference31Ideal.Read.val_main_v29, Cert.Reference31Ideal.Read.val_main_cst_7, Cert.Reference31Ideal.Read.val_main_v30, Cert.Reference31Ideal.Read.val_main_v31, Cert.Reference31Ideal.Read.val_main_v32, Cert.Reference31Ideal.Read.val_main_v33, Cert.Reference31Ideal.Read.val_main_v34, Cert.Reference31Ideal.Read.val_main_v35, Cert.Reference31Ideal.Read.val_main_v36, Cert.Reference31Ideal.Read.val_main_v37]
  simp only [meanSq, Finset.univ_unique, Finset.sum_singleton]

/-- The kernel's cotangent of the input at an element of a block. -/
theorem pay_x (x h : FVec Ideal S512x1024 .f32) (g : FVec Ideal S1x1024 .f32) (i : S512x1024.Idx) :
    k0_pay4 (F := Ideal) x h g i = Ideal.rsqrt (meanSq fun k => x (ix2 (i 0) k)) * (h i * g (ix2 0 (i 1)) - x i * Ideal.rsqrt (meanSq fun k => x (ix2 (i 0) k))
      * Ideal.div (∑ k, h (ix2 (i 0) k) * g (ix2 0 k) * (x (ix2 (i 0) k) * Ideal.rsqrt (meanSq fun k => x (ix2 (i 0) k)))) (Ideal.ofBits .f32 1149239296#32)) := by
  pointwise [k0_pay4, k0_pay2, k0_pay1]
  simp only [meanSq]

/-- A block's part of the gain's gradient. -/
theorem pay_g (x h : FVec Ideal S512x1024 .f32) (i : S1x1024.Idx) :
    k0_pay3 (F := Ideal) x h i = ∑ l, h (ix2 l (i 1)) * (x (ix2 l (i 1)) * Ideal.rsqrt (meanSq fun k => x (ix2 l k))) := by
  pointwise [k0_pay3, k0_pay2, k0_pay1]
  simp only [meanSq]

/-- The later blocks' parts are added to what is there. -/
theorem pay_add (x h : FVec Ideal S512x1024 .f32) (w : FVec Ideal S1x1024 .f32) (i : S1x1024.Idx) :
    k0_pay5 (F := Ideal) x h w i = w i + k0_pay3 (F := Ideal) x h i := by
  pointwise [k0_pay5]

/-- Every window's block index at every grid point. -/
theorem idx_val : ∀ t : Fin cfg0.N, win0_0.index t = ![t.val, 0]
    ∧ win0_1.index t = ![t.val, 0]
    ∧ win0_2.index t = ![0, 0]
    ∧ win0_3.index t = ![t.val, 0]
    ∧ win0_4.index t = ![0, 0] :=
  (by decide +kernel : ∀ t : Fin grid0.N, _)

/-- The first output's block at every point. -/
theorem out_x (c : Dev nD) (t : Fin cfg0.N) :
    (outsAt0 m c t.val t.isLt).1 = k0_pay4 (F := Ideal) (iblk m c 0 t) (iblk m c 1 t) (iblk m c 2 t) := by
  by_cases h : t.val % 16 = 0
  · rw [outsAt0_A m c t h (by have h : t.val < 16 := lt_of_lt_of_eq t.isLt (by decide); omega)]
    frame_out
  · rw [outsAt0_B m c t h (by omega)]
    frame_out

/-- The input's cotangent the kernel leaves is the reference's. -/
theorem final_x (c : Dev nD) : (dats m 0 c).arrAt 3 (cfgs 0).N
    = Cert.Reference31Ideal.Read.val_main_v36 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out_x m c t, pay_x, ref_x, grad_eq_alone]
  blk_point [iblk, V, idx_val t]

/-- The gain's gradient the kernel leaves is the reference's. -/
theorem final_g (c : Dev nD) : (dats m 0 c).arrAt 4 (cfgs 0).N
    = Cert.Reference31Ideal.Read.val_main_v37 (F := Ideal) (m ((c : Thread nD τ).loc main_arg0)) (m ((c : Thread nD τ).loc main_arg1)) := by
  refine (dats m 0 c).arrAt_eq_of_covers 4 _ (by decide +kernel) fun t hf y => ?_
  have ht : t.val % 16 = 15 := (flush0_4 t).mp hf
  blk_simp
  rw [after0_4]
  rw [Pipeline.eq_sum_fin_of_reset_step_apply_of_flush (fun n h => (outsAt0 m c n h).2) 16 (fun _ => 0)
      (fun t => k0_pay3 (F := Ideal) (iblk m c 0 t) (iblk m c 1 t))
    (fun t h j => by
      rw [outsAt0_A m c t h (by have h : t.val < 16 := lt_of_lt_of_eq t.isLt (by decide); omega), zero_add]
      frame_out)
    (fun t h j => by
      rw [outsAt0_B m c t h (by omega)]
      frame_out
      rw [pay_add]) t ht _, zero_add]
  rw [ref_g]
  simp only [pay_g]
  refine Fin.sum_mul_add_congr fun s k hl => ?_
  rw [mul_comm]
  blk_point [iblk, V, idx_val t, idx_val ⟨_, Pipeline.run_point_lt_of_flush t ht s⟩]

end Cert.Kernel31Ideal.Value

end
-- ==== Proof.NormPairGrad.lean ====
/- The stream's cotangent through the norm before the feed-forward layer, that one through the norm after the mixing layer,
   and the two gains' gradients: the four arrays the kernel leaves are the reference's. -/
module

public import proofs.«01_k».proof.Proof.Gen.Kernel32Ideal.Value
public import proofs.«01_k».proof.Proof.Gen.Reference32Ideal.Run
public import proofs.«01_k».proof.Proof.Gen.Reference32Ideal.Read
public import proofs.«01_k».proof.Proof.RowNorm
public import Idealize.ShloMosaic.Lib.Pipeline.ValueKit

@[expose] public section

set_option maxRecDepth 16384

noncomputable section

namespace Cert.Kernel32Ideal.Value

open Cert.Kernel32Ideal Cert.Kernel32Ideal.Gen Cert.RowNorm
open Idealize.ShloMosaic Idealize.ShloMosaic.TcCoe Idealize.SL.Sem
open Idealize.ShloMosaic.Pipeline (Dat)
open scoped BigOperators

variable (m : (ℓ : Loc nD τ sig) → Buf (Elt Ideal) ℓ)

/-- The reference's cotangent of the stream at an element. -/
theorem ref_x (x h d : FVec Ideal Cert.Reference32Ideal.S8192x1024 .f32) (g : FVec Ideal Cert.Reference32Ideal.S1024 .f32) (i : Cert.Reference32Ideal.S8192x1024.Idx) :
    Cert.Reference32Ideal.Read.val_main_v36 (F := Ideal) x h d g i = d i + h i * g (ix1 (i 1)) * Ideal.rsqrt (meanSq fun k => x (ix2 (i 0) k))
      + x i * Ideal.div ((∑ k, x (ix2 (i 0) k) * (h (ix2 (i 0) k) * g (ix1 k))) * (Ideal.ofBits .f32 3204448256#32 * Ideal.div (Ideal.rsqrt (meanSq fun k => x (ix2 (i 0) k))) (meanSq fun k => x (ix2 (i 0) k)))) (Ideal.ofBits .f32 1149239296#32)
      + Ideal.div ((∑ k, x (ix2 (i 0) k) * (h (ix2 (i 0) k) * g (ix1 k))) * (Ideal.ofBits .f32 3204448256#32 * Ideal.div (Ideal.rsqrt (meanSq fun k => x (ix2 (i 0) k))) (meanSq fun k => x (ix2 (i 0) k)))) (Ideal.ofBits .f32 1149239296#32) * x i := by
  pointwise [Cert.Reference32Ideal.Read.val_main_v0, Cert.Reference32Ideal.Read.val_main_cst, Cert.Reference32Ideal.Read.val_main_v1, Cert.Reference32Ideal.Read.val_main_v2, Cert.Reference32Ideal.Read.val_main_cst_0, Cert.Reference32Ideal.Read.val_main_v3, Cert.Reference32Ideal.Read.val_main_v4, Cert.Reference32Ideal.Read.val_main_cst_1, Cert.Reference32Ideal.Read.val_main_v5, Cert.Reference32Ideal.Read.val_main_v6, Cert.Reference32Ideal.Read.val_main_v7, Cert.Reference32Ideal.Read.val_main_v8, Cert.Reference32Ideal.Read.val_main_cst_2, Cert.Reference32Ideal.Read.val_main_v9, Cert.Reference32Ideal.Read.val_main_v10, Cert.Reference32Ideal.Read.val_main_v11, Cert.Reference32Ideal.Read.val_main_v12, Cert.Reference32Ideal.Read.val_main_v13, Cert.Reference32Ideal.Read.val_main_v14, Cert.Reference32Ideal.Read.val_main_v15, Cert.Reference32Ideal.Read.val_main_v16, Cert.Reference32Ideal.Read.val_main_cst_3, Cert.Reference32Ideal.Read.val_main_v17, Cert.Reference32Ideal.Read.val_main_v18, Cert.Reference32Ideal.Read.val_main_v19, Cert.Reference32Ideal.Read.val_main_v20, Cert.Reference32Ideal.Read.val_main_cst_4, Cert.Reference32Ideal.Read.val_main_v21, Cert.Reference32Ideal.Read.val_main_v22, Cert.Reference32Ideal.Read.val_main_cst_5, Cert.Reference32Ideal.Read.val_main_v23, Cert.Reference32Ideal.Read.val_main_v24, Cert.Reference32Ideal.Read.val_main_v25, Cert.Reference32Ideal.Read.val_main_v26, Cert.Reference32Ideal.Read.val_main_v27, Cert.Reference32Ideal.Read.val_main_v28, Cert.Reference32Ideal.Read.val_main_cst_6, Cert.Reference32Ideal.Read.val_main_v29, Cert.Reference32Ideal.Read.val_main_v30, Cert.Reference32Ideal.Read.val_main_cst_7, Cert.Reference32Ideal.Read.val_main_v31, Cert.Reference32Ideal.Read.val_main_v32, Cert.Reference32Ideal.Read.val_main_v33, Cert.Reference32Ideal.Read.val_main_v34, Cert.Reference32Ideal.Read.val_main_v35, Cert.Reference32Ideal.Read.val_main_v36, Cert.Reference32Ideal.Read.val_main_v37, Cert.Reference32Ideal.Read.val_main_cst_8, Cert.Reference32Ideal.Read.val_main_v38, Cert.Reference32Ideal.Read.val_main_v39, Cert.Reference32Ideal.Read.val_main_cst_9, Cert.Reference32Ideal.Read.val_main_v40, Cert.Reference32Ideal.Read.val_main_v41, Cert.Reference32Ideal.Read.val_main_cst_10, Cert.Reference32Ideal.Read.val_main_v42, Cert.Reference32Ideal.Read.val_main_v43, Cert.Reference32Ideal.Read.val_main_v44, Cert.Reference32Ideal.Read.val_main_v45, Cert.Reference32Ideal.Read.val_main_cst_11, Cert.Reference32Ideal.Read.val_main_v46, Cert.Reference32Ideal.Read.val_main_v47, Cert.Reference32Ideal.Read.val_main_v48, Cert.Reference32Ideal.Read.val_main_v49, Cert.Reference32Ideal.Read.val_main_v50, Cert.Reference32Ideal.Read.val_main_v51, Cert.Reference32Ideal.Read.val_main_v52, Cert.Reference32Ideal.Read.val_main_v53, Cert.Reference32Ideal.Read.val_main_cst_12, Cert.Reference32Ideal.Read.val_main_v54, Cert.Reference32Ideal.Read.val_main_v55, Cert.Reference32Ideal.Read.val_main_v56, Cert.Reference32Ideal.Read.val_main_v57, Cert.Reference32Ideal.Read.val_main_cst_13, Cert.Reference32Ideal.Read.val_main_v58, Cert.Reference32Ideal.Read.val_main_v59, Cert.Reference32Ideal.Read.val_main_cst_14, Cert.Reference32Ideal.Read.val_main_v60, Cert.Reference32Ideal.Read.val_main_v61, Cert.Reference32Ideal.Read.val_main_v62, Cert.Reference32Ideal.Read.val_main_v63, Cert.Reference32Ideal.Read.val_main_v64, Cert.Reference32Ideal.Read.val_main_cst_15, Cert.Reference32Ideal.Read.val_main_v65, Cert.Reference32Ideal.Read.val_main_v66, Cert.Reference32Ideal.Read.val_main_cst_16, Cert.Reference32Ideal.Read.val_main_v67, Cert.Reference32Ideal.Read.val_main_v68, Cert.Reference32Ideal.Read.val_main_v69, Cert.Reference32Ideal.Read.val_main_v70, Cert.Reference32Ideal.Read.val_main_v71, Cert.Reference32Ideal.Read.val_main_v72, Cert.Reference32Ideal.Read.val_main_v73, Cert.Reference32Ideal.Read.val_main_v74, Cert.Reference32Ideal.Read.val_main_v75]
  simp only [meanSq, Finset.univ_unique, Finset.sum_singleton]

/-- The reference's cotangent of the mixing layer's output, from the stream's. -/
theorem ref_m (x h d z : FVec Ideal Cert.Reference32Ideal.S8192x1024 .f32) (g q : FVec Ideal Cert.Reference32Ideal.S1024 .f32) (i : Cert.Reference32Ideal.S8192x1024.Idx) :
    Cert.Reference32Ideal.Read.val_main_v73 (F := Ideal) x h d z g q i = Cert.Reference32Ideal.Read.val_main_v36 (F := Ideal) x h d g i * q (ix1 (i 1)) * Ideal.rsqrt (meanSq fun k => z (ix2 (i 0) k))
      + z i * Ideal.div ((∑ k, z (ix2 (i 0) k) * (Cert.Reference32Ideal.Read.val_main_v36 (F := Ideal) x h d g (ix2 (i 0) k) * q (ix1 k))) * (Ideal.ofBits .f32 3204448256#32 * Ideal.div (Ideal.rsqrt (meanSq fun k => z (ix2 (i 0) k))) (meanSq fun k => z (ix2 (i 0) k)))) (Ideal.ofBits .f32 1149239296#32)
      + Ideal.div ((∑ k, z (ix2 (i 0) k) * (Cert.Reference32Ideal.Read.val_main_v36 (F := Ideal) x h d g (ix2 (i 0) k) * q (ix1 k))) * (Ideal.ofBits .f32 3204448256#32 * Ideal.div (Ideal.rsqrt (meanSq fun k => z (ix2 (i 0) k))) (meanSq fun k => z (ix2 (i 0) k)))) (Ideal.ofBits .f32 1149239296#32) * z i := by
  pointwise [Cert.Reference32Ideal.Read.val_main_v0, Cert.Reference32Ideal.Read.val_main_cst, Cert.Reference32Ideal.Read.val_main_v1, Cert.Reference32Ideal.Read.val_main_v2, Cert.Reference32Ideal.Read.val_main_cst_0, Cert.Reference32Ideal.Read.val_main_v3, Cert.Reference32Ideal.Read.val_main_v4, Cert.Reference32Ideal.Read.val_main_cst_1, Cert.Reference32Ideal.Read.val_main_v5, Cert.Reference32Ideal.Read.val_main_v6, Cert.Reference32Ideal.Read.val_main_v7, Cert.Reference32Ideal.Read.val_main_v8, Cert.Reference32Ideal.Read.val_main_cst_2, Cert.Reference32Ideal.Read.val_main_v9, Cert.Reference32Ideal.Read.val_main_v10, Cert.Reference32Ideal.Read.val_main_v11, Cert.Reference32Ideal.Read.val_main_v12, Cert.Reference32Ideal.Read.val_main_v13, Cert.Reference32Ideal.Read.val_main_v14, Cert.Reference32Ideal.Read.val_main_v15, Cert.Reference32Ideal.Read.val_main_v16, Cert.Reference32Ideal.Read.val_main_cst_3, Cert.Reference32Ideal.Read.val_main_v17, Cert.Reference32Ideal.Read.val_main_v18, Cert.Reference32Ideal.Read.val_main_v19, Cert.Reference32Ideal.Read.val_main_v20, Cert.Reference32Ideal.Read.val_main_cst_4, Cert.Reference32Ideal.Read.val_main_v21, Cert.Reference32Ideal.Read.val_main_v22, Cert.Reference32Ideal.Read.val_main_cst_5, Cert.Reference32Ideal.Read.val_main_v23, Cert.Reference32Ideal.Read.val_main_v24, Cert.Reference32Ideal.Read.val_main_v25, Cert.Reference32Ideal.Read.val_main_v26, Cert.Reference32Ideal.Read.val_main_v27, Cert.Reference32Ideal.Read.val_main_v28, Cert.Reference32Ideal.Read.val_main_cst_6, Cert.Reference32Ideal.Read.val_main_v29, Cert.Reference32Ideal.Read.val_main_v30, Cert.Reference32Ideal.Read.val_main_cst_7, Cert.Reference32Ideal.Read.val_main_v31, Cert.Reference32Ideal.Read.val_main_v32, Cert.Reference32Ideal.Read.val_main_v33, Cert.Reference32Ideal.Read.val_main_v34, Cert.Reference32Ideal.Read.val_main_v35, Cert.Reference32Ideal.Read.val_main_v37, Cert.Reference32Ideal.Read.val_main_cst_8, Cert.Reference32Ideal.Read.val_main_v38, Cert.Reference32Ideal.Read.val_main_v39, Cert.Reference32Ideal.Read.val_main_cst_9, Cert.Reference32Ideal.Read.val_main_v40, Cert.Reference32Ideal.Read.val_main_v41, Cert.Reference32Ideal.Read.val_main_cst_10, Cert.Reference32Ideal.Read.val_main_v42, Cert.Reference32Ideal.Read.val_main_v43, Cert.Reference32Ideal.Read.val_main_v44, Cert.Reference32Ideal.Read.val_main_v45, Cert.Reference32Ideal.Read.val_main_cst_11, Cert.Reference32Ideal.Read.val_main_v46, Cert.Reference32Ideal.Read.val_main_v47, Cert.Reference32Ideal.Read.val_main_v48, Cert.Reference32Ideal.Read.val_main_v49, Cert.Reference32Ideal.Read.val_main_v50, Cert.Reference32Ideal.Read.val_main_v51, Cert.Reference32Ideal.Read.val_main_v52, Cert.Reference32Ideal.Read.val_main_v53, Cert.Reference32Ideal.Read.val_main_cst_12, Cert.Reference32Ideal.Read.val_main_v54, Cert.Reference32Ideal.Read.val_main_v55, Cert.Reference32Ideal.Read.val_main_v56, Cert.Reference32Ideal.Read.val_main_v57, Cert.Reference32Ideal.Read.val_main_cst_13, Cert.Reference32Ideal.Read.val_main_v58, Cert.Reference32Ideal.Read.val_main_v59, Cert.Reference32Ideal.Read.val_main_cst_14, Cert.Reference32Ideal.Read.val_main_v60, Cert.Reference32Ideal.Read.val_main_v61, Cert.Reference32Ideal.Read.val_main_v62, Cert.Reference32Ideal.Read.val_main_v63, Cert.Reference32Ideal.Read.val_main_v64, Cert.Reference32Ideal.Read.val_main_cst_15, Cert.Reference32Ideal.Read.val_main_v65, Cert.Reference32Ideal.Read.val_main_v66, Cert.Reference32Ideal.Read.val_main_cst_16, Cert.Reference32Ideal.Read.val_main_v67, Cert.Reference32Ideal.Read.val_main_v68, Cert.Reference32Ideal.Read.val_main_v69, Cert.Reference32Ideal.Read.val_main_v70, Cert.Reference32Ideal.Read.val_main_v71, Cert.Reference32Ideal.Read.val_main_v72, Cert.Reference32Ideal.Read.val_main_v73, Cert.Reference32Ideal.Read.val_main_v74, Cert.Reference32Ideal.Read.val_main_v75]
  simp only [meanSq, Finset.univ_unique, Finset.sum_singleton]

/-- The reference's gradient of the first gain. -/
theorem ref_g (x h : FVec Ideal Cert.Reference32Ideal.S8192x1024 .f32) (i : Cert.Reference32Ideal.S1x1024.Idx) :
    Cert.Reference32Ideal.Read.val_main_v74 (F := Ideal) x h i = ∑ l, x (ix2 l (i 1)) * Ideal.rsqrt (meanSq fun k => x (ix2 l k)) * h (ix2 l (i 1)) := by
  pointwise [Cert.Reference32Ideal.Read.val_main_v0, Cert.Reference32Ideal.Read.val_main_cst, Cert.Reference32Ideal.Read.val_main_v1, Cert.Reference32Ideal.Read.val_main_v2, Cert.Reference32Ideal.Read.val_main_cst_0, Cert.Reference32Ideal.Read.val_main_v3, Cert.Reference32Ideal.Read.val_main_v4, Cert.Reference32Ideal.Read.val_main_cst_1, Cert.Reference32Ideal.Read.val_main_v5, Cert.Reference32Ideal.Read.val_main_v6, Cert.Reference32Ideal.Read.val_main_v7, Cert.Reference32Ideal.Read.val_main_v8, Cert.Reference32Ideal.Read.val_main_cst_2, Cert.Reference32Ideal.Read.val_main_v9, Cert.Reference32Ideal.Read.val_main_v10, Cert.Reference32Ideal.Read.val_main_v11, Cert.Reference32Ideal.Read.val_main_v12, Cert.Reference32Ideal.Read.val_main_v13, Cert.Reference32Ideal.Read.val_main_v14, Cert.Reference32Ideal.Read.val_main_v15, Cert.Reference32Ideal.Read.val_main_v16, Cert.Reference32Ideal.Read.val_main_cst_3, Cert.Reference32Ideal.Read.val_main_v17, Cert.Reference32Ideal.Read.val_main_v18, Cert.Reference32Ideal.Read.val_main_v19, Cert.Reference32Ideal.Read.val_main_v20, Cert.Reference32Ideal.Read.val_main_cst_4, Cert.Reference32Ideal.Read.val_main_v21, Cert.Reference32Ideal.Read.val_main_v22, Cert.Reference32Ideal.Read.val_main_cst_5, Cert.Reference32Ideal.Read.val_main_v23, Cert.Reference32Ideal.Read.val_main_v24, Cert.Reference32Ideal.Read.val_main_v25, Cert.Reference32Ideal.Read.val_main_v26, Cert.Reference32Ideal.Read.val_main_v27, Cert.Reference32Ideal.Read.val_main_v28, Cert.Reference32Ideal.Read.val_main_cst_6, Cert.Reference32Ideal.Read.val_main_v29, Cert.Reference32Ideal.Read.val_main_v30, Cert.Reference32Ideal.Read.val_main_cst_7, Cert.Reference32Ideal.Read.val_main_v31, Cert.Reference32Ideal.Read.val_main_v32, Cert.Reference32Ideal.Read.val_main_v33, Cert.Reference32Ideal.Read.val_main_v34, Cert.Reference32Ideal.Read.val_main_v35, Cert.Reference32Ideal.Read.val_main_v37, Cert.Reference32Ideal.Read.val_main_cst_8, Cert.Reference32Ideal.Read.val_main_v38, Cert.Reference32Ideal.Read.val_main_v39, Cert.Reference32Ideal.Read.val_main_cst_9, Cert.Reference32Ideal.Read.val_main_v40, Cert.Reference32Ideal.Read.val_main_v41, Cert.Reference32Ideal.Read.val_main_cst_10, Cert.Reference32Ideal.Read.val_main_v42, Cert.Reference32Ideal.Read.val_main_v43, Cert.Reference32Ideal.Read.val_main_v44, Cert.Reference32Ideal.Read.val_main_v45, Cert.Reference32Ideal.Read.val_main_cst_11, Cert.Reference32Ideal.Read.val_main_v46, Cert.Reference32Ideal.Read.val_main_v47, Cert.Reference32Ideal.Read.val_main_v48, Cert.Reference32Ideal.Read.val_main_v49, Cert.Reference32Ideal.Read.val_main_v50, Cert.Reference32Ideal.Read.val_main_v51, Cert.Reference32Ideal.Read.val_main_v52, Cert.Reference32Ideal.Read.val_main_v53, Cert.Reference32Ideal.Read.val_main_cst_12, Cert.Reference32Ideal.Read.val_main_v54, Cert.Reference32Ideal.Read.val_main_v55, Cert.Reference32Ideal.Read.val_main_v56, Cert.Reference32Ideal.Read.val_main_v57, Cert.Reference32Ideal.Read.val_main_cst_13, Cert.Reference32Ideal.Read.val_main_v58, Cert.Reference32Ideal.Read.val_main_v59, Cert.Reference32Ideal.Read.val_main_cst_14, Cert.Reference32Ideal.Read.val_main_v60, Cert.Reference32Ideal.Read.val_main_v61, Cert.Reference32Ideal.Read.val_main_v62, Cert.Reference32Ideal.Read.val_main_v63, Cert.Reference32Ideal.Read.val_main_v64, Cert.Reference32Ideal.Read.val_main_cst_15, Cert.Reference32Ideal.Read.val_main_v65, Cert.Reference32Ideal.Read.val_main_v66, Cert.Reference32Ideal.Read.val_main_cst_16, Cert.Reference32Ideal.Read.val_main_v67, Cert.Reference32Ideal.Read.val_main_v68, Cert.Reference32Ideal.Read.val_main_v69, Cert.Reference32Ideal.Read.val_main_v70, Cert.Reference32Ideal.Read.val_main_v71, Cert.Reference32Ideal.Read.val_main_v72, Cert.Reference32Ideal.Read.val_main_v73, Cert.Reference32Ideal.Read.val_main_v74, Cert.Reference32Ideal.Read.val_main_v75]
  simp only [meanSq, Finset.univ_unique, Finset.sum_singleton]

/-- The reference's gradient of the second gain, from the stream's cotangent. -/
theorem ref_q (x h d z : FVec Ideal Cert.Reference32Ideal.S8192x1024 .f32) (g : FVec Ideal Cert.Reference32Ideal.S1024 .f32) (i : Cert.Reference32Ideal.S1x1024.Idx) :
    Cert.Reference32Ideal.Read.val_main_v75 (F := Ideal) x h d z g i = ∑ l, z (ix2 l (i 1)) * Ideal.rsqrt (meanSq fun k => z (ix2 l k)) * Cert.Reference32Ideal.Read.val_main_v36 (F := Ideal) x h d g (ix2 l (i 1)) := by
  pointwise [Cert.Reference32Ideal.Read.val_main_v0, Cert.Reference32Ideal.Read.val_main_cst, Cert.Reference32Ideal.Read.val_main_v1, Cert.Reference32Ideal.Read.val_main_v2, Cert.Reference32Ideal.Read.val_main_cst_0, Cert.Reference32Ideal.Read.val_main_v3, Cert.Reference32Ideal.Read.val_main_v4, Cert.Reference32Ideal.Read.val_main_cst_1, Cert.Reference32Ideal.Read.val_main_v5, Cert.Reference32Ideal.Read.val_main_v6, Cert.Reference32Ideal.Read.val_main_v7, Cert.Reference32Ideal.Read.val_main_v8, Cert.Reference32Ideal.Read.val_main_cst_2, Cert.Reference32Ideal.Read.val_main_v9, Cert.Reference32Ideal.Read.val_main_v10, Cert.Reference32Ideal.Read.val_main_v11, Cert.Reference32Ideal.Read.val_main_v12, Cert.Reference32Ideal.Read.val_main_v13, Cert.Reference32Ideal.Read.val_main_v14, Cert.Reference32Ideal.Read.val_main_v15, Cert.Reference32Ideal.Read.val_main_v16, Cert.Reference32Ideal.Read.val_main_cst_3, Cert.Reference32Ideal.Read.val_main_v17, Cert.Reference32Ideal.Read.val_main_v18, Cert.Reference32Ideal.Read.val_main_v19, Cert.Reference32Ideal.Read.val_main_v20, Cert.Reference32Ideal.Read.val_main_cst_4, Cert.Reference32Ideal.Read.val_main_v21, Cert.Reference32Ideal.Read.val_main_v22, Cert.Reference32Ideal.Read.val_main_cst_5, Cert.Reference32Ideal.Read.val_main_v23, Cert.Reference32Ideal.Read.val_main_v24, Cert.Reference32Ideal.Read.val_main_v25, Cert.Reference32Ideal.Read.val_main_v26, Cert.Reference32Ideal.Read.val_main_v27, Cert.Reference32Ideal.Read.val_main_v28, Cert.Reference32Ideal.Read.val_main_cst_6, Cert.Reference32Ideal.Read.val_main_v29, Cert.Reference32Ideal.Read.val_main_v30, Cert.Reference32Ideal.Read.val_main_cst_7, Cert.Reference32Ideal.Read.val_main_v31, Cert.Reference32Ideal.Read.val_main_v32, Cert.Reference32Ideal.Read.val_main_v33, Cert.Reference32Ideal.Read.val_main_v34, Cert.Reference32Ideal.Read.val_main_v35, Cert.Reference32Ideal.Read.val_main_v37, Cert.Reference32Ideal.Read.val_main_cst_8, Cert.Reference32Ideal.Read.val_main_v38, Cert.Reference32Ideal.Read.val_main_v39, Cert.Reference32Ideal.Read.val_main_cst_9, Cert.Reference32Ideal.Read.val_main_v40, Cert.Reference32Ideal.Read.val_main_v41, Cert.Reference32Ideal.Read.val_main_cst_10, Cert.Reference32Ideal.Read.val_main_v42, Cert.Reference32Ideal.Read.val_main_v43, Cert.Reference32Ideal.Read.val_main_v44, Cert.Reference32Ideal.Read.val_main_v45, Cert.Reference32Ideal.Read.val_main_cst_11, Cert.Reference32Ideal.Read.val_main_v46, Cert.Reference32Ideal.Read.val_main_v47, Cert.Reference32Ideal.Read.val_main_v48, Cert.Reference32Ideal.Read.val_main_v49, Cert.Reference32Ideal.Read.val_main_v50, Cert.Reference32Ideal.Read.val_main_v51, Cert.Reference32Ideal.Read.val_main_v52, Cert.Reference32Ideal.Read.val_main_v53, Cert.Reference32Ideal.Read.val_main_cst_12, Cert.Reference32Ideal.Read.val_main_v54, Cert.Reference32Ideal.Read.val_main_v55, Cert.Reference32Ideal.Read.val_main_v56, Cert.Reference32Ideal.Read.val_main_v57, Cert.Reference32Ideal.Read.val_main_cst_13, Cert.Reference32Ideal.Read.val_main_v58, Cert.Reference32Ideal.Read.val_main_v59, Cert.Reference32Ideal.Read.val_main_cst_14, Cert.Reference32Ideal.Read.val_main_v60, Cert.Reference32Ideal.Read.val_main_v61, Cert.Reference32Ideal.Read.val_main_v62, Cert.Reference32Ideal.Read.val_main_v63, Cert.Reference32Ideal.Read.val_main_v64, Cert.Reference32Ideal.Read.val_main_cst_15, Cert.Reference32Ideal.Read.val_main_v65, Cert.Reference32Ideal.Read.val_main_v66, Cert.Reference32Ideal.Read.val_main_cst_16, Cert.Reference32Ideal.Read.val_main_v67, Cert.Reference32Ideal.Read.val_main_v68, Cert.Reference32Ideal.Read.val_main_v69, Cert.Reference32Ideal.Read.val_main_v70, Cert.Reference32Ideal.Read.val_main_v71, Cert.Reference32Ideal.Read.val_main_v72, Cert.Reference32Ideal.Read.val_main_v73, Cert.Reference32Ideal.Read.val_main_v74, Cert.Reference32Ideal.Read.val_main_v75]
  simp only [meanSq, Finset.univ_unique, Finset.sum_singleton]

/-- The kernel's cotangent of the stream at an element of a block. -/
theorem pay_x (x h d : FVec Ideal S512x1024 .f32) (g : FVec Ideal S1x1024 .f32) (i : S512x1024.Idx) :
    k0_pay11 (F := Ideal) x h d g i = d i + Ideal.rsqrt (meanSq fun k => x (ix2 (i 0) k)) * (h i * g (ix2 0 (i 1)) - x i * Ideal.rsqrt (meanSq fun k => x (ix2 (i 0) k))
      * Ideal.div (∑ k, h (ix2 (i 0) k) * g (ix2 0 k) * (x (ix2 (i 0) k) * Ideal.rsqrt (meanSq fun k => x (ix2 (i 0) k)))) (Ideal.ofBits .f32 1149239296#32)) := by
  pointwise [k0_pay11, k0_pay9, k0_pay8]
  simp only [meanSq]

/-- The kernel's cotangent of the mixing layer's output at an element of a block. -/
theorem pay_m (z y : FVec Ideal S512x1024 .f32) (q : FVec Ideal S1x1024 .f32) (i : S512x1024.Idx) :
    k0_pay4 (F := Ideal) z (k0_pay7 (F := Ideal) q) y (k0_pay12 (F := Ideal) z) i = Ideal.rsqrt (meanSq fun k => z (ix2 (i 0) k)) * (y i * q (ix2 0 (i 1)) - z i * Ideal.rsqrt (meanSq fun k => z (ix2 (i 0) k))
      * Ideal.div (∑ k, y (ix2 (i 0) k) * q (ix2 0 k) * (z (ix2 (i 0) k) * Ideal.rsqrt (meanSq fun k => z (ix2 (i 0) k)))) (Ideal.ofBits .f32 1149239296#32)) := by
  pointwise [k0_pay4, k0_pay7, k0_pay12, k0_pay2, k0_pay1]
  simp only [meanSq]

/-- A block's part of the first gain's gradient. -/
theorem pay_g (x h : FVec Ideal S512x1024 .f32) (i : S1x1024.Idx) :
    k0_pay10 (F := Ideal) x h i = ∑ l, h (ix2 l (i 1)) * (x (ix2 l (i 1)) * Ideal.rsqrt (meanSq fun k => x (ix2 l k))) := by
  pointwise [k0_pay10, k0_pay9, k0_pay8]
  simp only [meanSq]

/-- A block's part of the second gain's gradient. -/
theorem pay_q (z y : FVec Ideal S512x1024 .f32) (i : S1x1024.Idx) :
    k0_pay3 (F := Ideal) z y (k0_pay12 (F := Ideal) z) i = ∑ l, y (ix2 l (i 1)) * (z (ix2 l (i 1)) * Ideal.rsqrt (meanSq fun k => z (ix2 l k))) := by
  pointwise [k0_pay3, k0_pay12, k0_pay2, k0_pay1]
  simp only [meanSq]

/-- The later blocks' parts of the first gain's gradient are added to what is there. -/
theorem add_g (v w : FVec Ideal S1x1024 .f32) (i : S1x1024.Idx) : k0_pay5 (F := Ideal) v w i = w i + v i := by
  pointwise [k0_pay5]

/-- And of the second's. -/
theorem add_q (z y : FVec Ideal S512x1024 .f32) (r : FVec Ideal S512x1 .f32) (w : FVec Ideal S1x1024 .f32) (i : S1x1024.Idx) :
    k0_pay6 (F := Ideal) z y r w i = w i + k0_pay3 (F := Ideal) z y r i := by
  pointwise [k0_pay6]

/-- Every window's block index at every grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_6.index t = ![t.val, 0]
    ∧ win0_7.index t = ![t.val, 0]
    ∧ win0_8.index t = ![0, 0]
    ∧ win0_9.index t = ![0, 0] :=
  (by decide +kernel : ∀ t : Fin grid0.N, _)

/-- The points are sixteen. -/
theorem points_lt (t : Fin cfg0.N) : t.val < 16 := lt_of_lt_of_eq t.isLt (by decide)

/-- The row of the array that a row of a block is. -/
def row (t : Fin cfg0.N) (a : Fin 512) : Fin 8192 :=
  ⟨512 * t.val + a.val, by have := a.isLt; have h := points_lt t; omega⟩

/-- The stream's cotangent in a block is the reference's at the block's place. -/
theorem x_eq (c : Dev nD) (t : Fin cfg0.N) (y : S512x1024.Idx) : k0_pay11 (F := Ideal) (iblk m c 0 t) (iblk m c 1 t) (iblk m c 2 t) (iblk m c 4 t) y
    = Cert.Reference32Ideal.Read.val_main_v36 (F := Ideal) (m ((c : Thread nD τ).loc main_arg0)) (m ((c : Thread nD τ).loc main_arg1)) (m ((c : Thread nD τ).loc main_arg2)) (m ((c : Thread nD τ).loc main_arg4)) (ix2 (row t (y 0)) (y 1)) := by
  rw [pay_x, ref_x, grad_eq]
  unfold row
  blk_point [iblk, V, idx_val t]

/-- The first output's block at every point. -/
theorem out_x (c : Dev nD) (t : Fin cfg0.N) : (outsAt0 m c t.val t.isLt).1 = (k0_pay11 (F := Ideal) (iblk m c 0 t) (iblk m c 1 t) (iblk m c 2 t) (iblk m c 4 t)) := by
  by_cases h : t.val % 16 = 0
  · rw [outsAt0_A m c t h (by have := points_lt t; omega) h (by have := points_lt t; omega)]
    frame_out
  · rw [outsAt0_B m c t h (by omega) h (by omega)]
    frame_out

/-- The second output's block at every point. -/
theorem out_m (c : Dev nD) (t : Fin cfg0.N) : (outsAt0 m c t.val t.isLt).2.1
    = k0_pay4 (F := Ideal) (iblk m c 3 t) (k0_pay7 (F := Ideal) (iblk m c 5 t)) (k0_pay11 (F := Ideal) (iblk m c 0 t) (iblk m c 1 t) (iblk m c 2 t) (iblk m c 4 t)) (k0_pay12 (F := Ideal) (iblk m c 3 t)) := by
  by_cases h : t.val % 16 = 0
  · rw [outsAt0_A m c t h (by have := points_lt t; omega) h (by have := points_lt t; omega)]
    frame_out
  · rw [outsAt0_B m c t h (by omega) h (by omega)]
    frame_out

/-- The stream's cotangent the kernel leaves is the reference's. -/
theorem final_x (c : Dev nD) : (dats m 0 c).arrAt 6 (cfgs 0).N
    = Cert.Reference32Ideal.Read.val_main_v36 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 6 _ (by decide +kernel) fun t hf y => ?_
  blk_simp
  rw [after0_6, out_x m c t, x_eq m c t y]
  unfold row
  blk_point [iblk, V, idx_val t]

/-- The cotangent of the mixing layer's output the kernel leaves is the reference's. -/
theorem final_m (c : Dev nD) : (dats m 0 c).arrAt 7 (cfgs 0).N
    = Cert.Reference32Ideal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7, out_m m c t, pay_m, ref_m, grad_eq_alone]
  simp only [x_eq m c t]
  unfold row
  blk_point [iblk, V, idx_val t]

/-- The first gain's gradient the kernel leaves is the reference's. -/
theorem final_g (c : Dev nD) : (dats m 0 c).arrAt 8 (cfgs 0).N
    = Cert.Reference32Ideal.Read.val_main_v74 (F := Ideal) (m ((c : Thread nD τ).loc main_arg0)) (m ((c : Thread nD τ).loc main_arg1)) := by
  refine (dats m 0 c).arrAt_eq_of_covers 8 _ (by decide +kernel) fun t hf y => ?_
  have ht : t.val % 16 = 15 := (flush0_8 t).mp hf
  blk_simp
  rw [after0_8]
  rw [Pipeline.eq_sum_fin_of_reset_step_apply_of_flush (fun n h => (outsAt0 m c n h).2.2.1) 16 (fun _ => 0)
      (fun t => k0_pay10 (F := Ideal) (iblk m c 0 t) (iblk m c 1 t))
    (fun t h j => by
      rw [outsAt0_A m c t h (by have := points_lt t; omega) h (by have := points_lt t; omega), zero_add]
      frame_out)
    (fun t h j => by
      rw [outsAt0_B m c t h (by omega) h (by omega)]
      frame_out
      rw [add_g]) t ht _, zero_add]
  rw [ref_g]
  simp only [pay_g]
  refine Fin.sum_mul_add_congr fun s k hl => ?_
  rw [mul_comm]
  blk_point [iblk, V, idx_val t, idx_val ⟨_, Pipeline.run_point_lt_of_flush t ht s⟩]

/-- The second gain's gradient the kernel leaves is the reference's. -/
theorem final_q (c : Dev nD) : (dats m 0 c).arrAt 9 (cfgs 0).N
    = Cert.Reference32Ideal.Read.val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  have ht : t.val % 16 = 15 := (flush0_9 t).mp hf
  blk_simp
  rw [after0_9]
  rw [Pipeline.eq_sum_fin_of_reset_step_apply_of_flush (fun n h => (outsAt0 m c n h).2.2.2) 16 (fun _ => 0)
      (fun t => k0_pay3 (F := Ideal) (iblk m c 3 t) (k0_pay11 (F := Ideal) (iblk m c 0 t) (iblk m c 1 t) (iblk m c 2 t) (iblk m c 4 t)) (k0_pay12 (F := Ideal) (iblk m c 3 t)))
    (fun t h j => by
      rw [outsAt0_A m c t h (by have := points_lt t; omega) h (by have := points_lt t; omega), zero_add]
      frame_out)
    (fun t h j => by
      rw [outsAt0_B m c t h (by omega) h (by omega)]
      frame_out
      rw [add_q]) t ht _, zero_add]
  rw [ref_q]
  simp only [pay_q, x_eq m c]
  refine Fin.sum_mul_add_congr fun s k hl => ?_
  rw [mul_comm]
  unfold row
  blk_point [iblk, V, idx_val t, idx_val ⟨_, Pipeline.run_point_lt_of_flush t ht s⟩]

end Cert.Kernel32Ideal.Value

end
-- ==== Proof.GateOut.lean ====
/- The recurrent layer's gated output: the scan's output times the gate's `gelu`. -/
module

public import proofs.«01_k».proof.Proof.Gen.Kernel33Ideal.Value
public import proofs.«01_k».proof.Proof.Gen.Reference33Ideal.Run
public import proofs.«01_k».proof.Proof.Gen.Reference33Ideal.Read
public import Idealize.ShloMosaic.Lib.Pipeline.ValueKit

@[expose] public section

set_option maxRecDepth 16384

noncomputable section

namespace Cert.Kernel33Ideal.Value

open Cert.Kernel33Ideal Cert.Kernel33Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ)

/-- `gelu` by the hyperbolic tangent. -/
def gelu (x : EReal) : EReal :=
  x * (Ideal.ofBits .f32 1056964608#32 * (1 + Ideal.tanh (Ideal.ofBits .f32 1061962282#32 * (x + Ideal.ofBits .f32 1027024659#32 * (x * x * x)))))

/-- The reference's element. -/
theorem ref_apply (x : FVec Ideal Cert.Reference33Ideal.S8192x1024 .f32) (p : FVec Ideal Cert.Reference33Ideal.S8192x2048 .f32) (i : Cert.Reference33Ideal.S8192x1024.Idx) :
    Cert.Reference33Ideal.Read.val_main_v15 (F := Ideal) x p i = x i * gelu (p (ix2 (i 0) ⟨(i 1).val, Nat.lt_of_lt_of_le (i 1).isLt (by decide)⟩)) := by
  pointwise [Cert.Reference33Ideal.Read.val_main_v0, Cert.Reference33Ideal.Read.val_main_v1, Cert.Reference33Ideal.Read.val_main_v2, Cert.Reference33Ideal.Read.val_main_cst, Cert.Reference33Ideal.Read.val_main_v3, Cert.Reference33Ideal.Read.val_main_v4, Cert.Reference33Ideal.Read.val_main_v5, Cert.Reference33Ideal.Read.val_main_cst_0, Cert.Reference33Ideal.Read.val_main_v6, Cert.Reference33Ideal.Read.val_main_v7, Cert.Reference33Ideal.Read.val_main_v8, Cert.Reference33Ideal.Read.val_main_cst_1, Cert.Reference33Ideal.Read.val_main_v9, Cert.Reference33Ideal.Read.val_main_v10, Cert.Reference33Ideal.Read.val_main_cst_2, Cert.Reference33Ideal.Read.val_main_v11, Cert.Reference33Ideal.Read.val_main_v12, Cert.Reference33Ideal.Read.val_main_v13, Cert.Reference33Ideal.Read.val_main_v14, Cert.Reference33Ideal.Read.val_main_v15]
  rfl

/-- The kernel's element. -/
theorem pay_apply (x p : FVec Ideal S512x1024 .f32) (i : S512x1024.Idx) : k0_pay1 (F := Ideal) x p i = x i * gelu (p i) := by
  pointwise [k0_pay1]
  rw [gelu, mul_assoc (Ideal.ofBits .f32 1027024659#32) (p i) (p i), mul_assoc (Ideal.ofBits .f32 1027024659#32) (p i * p i) (p i),
    mul_comm (Ideal.ofBits .f32 1056964608#32) (p i), mul_assoc (p i) (Ideal.ofBits .f32 1056964608#32)]

/-- Every window's block index at every grid point. -/
theorem idx_val : ∀ t : Fin cfg0.N, win0_0.index t = ![t.val, 0]
    ∧ win0_1.index t = ![t.val, 0]
    ∧ win0_2.index t = ![t.val, 0] :=
  (by decide +kernel : ∀ t : Fin grid0.N, _)

/-- The array the kernel leaves is the reference's. -/
theorem final (c : Dev nD) : (dats m 0 c).arrAt 2 (cfgs 0).N
    = Cert.Reference33Ideal.Read.val_main_v15 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_apply, ref_apply]
  refine congrArg₂ (· * ·) ?_ (congrArg gelu ?_) <;> blk_point [iblk, V, idx_val t]

end Cert.Kernel33Ideal.Value

end
-- ==== Proof.lean ====
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import proofs.«01_k».proof.Proof.Gen.Pre_finite
public import proofs.«01_k».proof.Proof.Gen.Pre_finite_scores
public import proofs.«01_k».proof.Proof.DownGrad
public import proofs.«01_k».proof.Proof.UpGrad
public import proofs.«01_k».proof.Proof.WgradUp
public import proofs.«01_k».proof.Proof.WgradDown
public import proofs.«01_k».proof.Proof.UpForward
public import proofs.«01_k».proof.Proof.DownForward
public import proofs.«01_k».proof.Proof.InGrad
public import proofs.«01_k».proof.Proof.InWgrad
public import proofs.«01_k».proof.Proof.AttnForward
public import proofs.«01_k».proof.Proof.AdamAttnIn
public import proofs.«01_k».proof.Proof.AdamOut
public import proofs.«01_k».proof.Proof.AdamRecIn
public import proofs.«01_k».proof.Proof.AdamFfn
public import proofs.«01_k».proof.Proof.AdamGate
public import proofs.«01_k».proof.Proof.AdamSmall
public import proofs.«01_k».proof.Proof.AttnInForward
public import proofs.«01_k».proof.Proof.AttnOutForward
public import proofs.«01_k».proof.Proof.AttnOutGrad
public import proofs.«01_k».proof.Proof.RecInForward
public import proofs.«01_k».proof.Proof.RecOutForward
public import proofs.«01_k».proof.Proof.RecOutGrad
public import proofs.«01_k».proof.Proof.RecOutWgrad
public import proofs.«01_k».proof.Proof.RecInWgrad
public import proofs.«01_k».proof.Proof.RecInGrad
public import proofs.«01_k».proof.Proof.AttnOutWgrad
public import proofs.«01_k».proof.Proof.AttnOutWgradUpper
public import proofs.«01_k».proof.Proof.NormForward
public import proofs.«01_k».proof.Proof.ResidForward
public import proofs.«01_k».proof.Proof.NormGrad
public import proofs.«01_k».proof.Proof.PostNormGrad
public import proofs.«01_k».proof.Proof.NormPairGrad
public import proofs.«01_k».proof.Proof.GateOut
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel2

/-- The down projection's backward call: the two cotangents it writes are the reference's, at finite arguments. -/
theorem algebraic2 : Cert.algebraic_Kernel2Ideal_Reference2Ideal_pre_finite := by
  pair_intro
  · run_from Cert.Kernel2Ideal.Gen.run_main m g
  · run_from Cert.Reference2Ideal.Value.run m' g'
    · exact (Cert.Kernel2Ideal.Value.final_dg m hpre c).symm
    · exact (Cert.Kernel2Ideal.Value.final_du m c).symm

/-- The cotangent of the gate and up projections' input. -/
theorem algebraic3 : Cert.algebraic_Kernel3Ideal_Reference3Ideal := by
  pair_intro
  · run_from Cert.Kernel3Ideal.Value.run_blocks m g
  · run_from Cert.Reference3Ideal.Value.run m' g'
    · exact (Cert.Kernel3Ideal.Value.final m c).symm

/-- The gate and up projections' weight gradients. -/
theorem algebraic4 : Cert.algebraic_Kernel4Ideal_Reference4Ideal := by
  pair_intro
  · run_from Cert.Kernel4Ideal.Gen.run_main m g
  · run_from Cert.Reference4Ideal.Value.run m' g'
    · exact (Cert.Kernel4Ideal.Value.final_gate m c).symm
    · exact (Cert.Kernel4Ideal.Value.final_up m c).symm

/-- The down projection's weight gradient. -/
theorem algebraic5 : Cert.algebraic_Kernel5Ideal_Reference5Ideal := by
  pair_intro
  · run_from Cert.Kernel5Ideal.Gen.run_main m g
  · run_from Cert.Reference5Ideal.Value.run m' g'
    · exact (Cert.Kernel5Ideal.Value.final m c).symm

/-- The forward call of the gate and up projections: the gate, the up branch and the hidden product. -/
theorem algebraic6 : Cert.algebraic_Kernel6Ideal_Reference6Ideal := by
  pair_intro
  · run_from Cert.Kernel6Ideal.Value.run_blocks m g
  · run_from Cert.Reference6Ideal.Value.run m' g'
    · exact (Cert.Kernel6Ideal.Value.final_g m c).symm
    · exact (Cert.Kernel6Ideal.Value.final_u m c).symm
    · exact (Cert.Kernel6Ideal.Value.final_hid m c).symm

/-- The down projection. -/
theorem algebraic7 : Cert.algebraic_Kernel7Ideal_Reference7Ideal := by
  pair_intro
  · run_from Cert.Kernel7Ideal.Value.run_blocks m g
  · run_from Cert.Reference7Ideal.Value.run m' g'
    · exact (Cert.Kernel7Ideal.Value.final m c).symm

/-- The cotangent of the attention layer's input. -/
theorem algebraic8 : Cert.algebraic_Kernel8Ideal_Reference8Ideal := by
  pair_intro
  · run_from Cert.Kernel8Ideal.Value.run_blocks m g
  · run_from Cert.Reference8Ideal.Value.run m' g'
    · exact (Cert.Kernel8Ideal.Value.final m c).symm

/-- The attention input projection's weight gradient. -/
theorem algebraic9 : Cert.algebraic_Kernel9Ideal_Reference9Ideal := by
  pair_intro
  · run_from Cert.Kernel9Ideal.Gen.run_main m g
  · run_from Cert.Reference9Ideal.Value.run m' g'
    · exact (Cert.Kernel9Ideal.Value.final m c).symm

/-- The chunked attention, at real queries, keys and biases. -/
theorem algebraic10 : Cert.algebraic_Kernel10Ideal_Reference10Ideal_pre_finite_scores := by
  pair_intro
  · run_from Cert.Kernel10Ideal.Value.run_blocks m g
  · run_from Cert.Reference10Ideal.Value.run m' g'
    · obtain ⟨hX, hB⟩ := Cert.Kernel10Ideal.Value.scores_read _ _ (hpre c)
      rw [Cert.Reference10Ideal.Read.val_main_v60_eq, (hagree c).1, (hagree c).2]
      exact (Cert.Kernel10Ideal.Value.final m c hX hB).symm

/-- The optimiser's step for the attention input projection's weights. -/
theorem algebraic11 : Cert.algebraic_Kernel11Ideal_Reference11Ideal := by
  pair_intro
  · run_from Cert.Kernel11Ideal.Value.run_blocks m g
  · run_from Cert.Reference11Ideal.Value.run m' g'
    · exact (Cert.Kernel11Ideal.Value.final_d m c).symm
    · exact (Cert.Kernel11Ideal.Value.final_m m c).symm
    · exact (Cert.Kernel11Ideal.Value.final_v m c).symm

/-- The optimiser's step for the attention output projection's weights. -/
theorem algebraic12 : Cert.algebraic_Kernel12Ideal_Reference12Ideal := by
  pair_intro
  · run_from Cert.Kernel12Ideal.Value.run_blocks m g
  · run_from Cert.Reference12Ideal.Value.run m' g'
    · exact (Cert.Kernel12Ideal.Value.final_d m c).symm
    · exact (Cert.Kernel12Ideal.Value.final_m m c).symm
    · exact (Cert.Kernel12Ideal.Value.final_v m c).symm

/-- The optimiser's step for the recurrent layers' input projection's weights. -/
theorem algebraic13 : Cert.algebraic_Kernel13Ideal_Reference13Ideal := by
  pair_intro
  · run_from Cert.Kernel13Ideal.Value.run_blocks m g
  · run_from Cert.Reference13Ideal.Value.run m' g'
    · exact (Cert.Kernel13Ideal.Value.final_d m c).symm
    · exact (Cert.Kernel13Ideal.Value.final_m m c).symm
    · exact (Cert.Kernel13Ideal.Value.final_v m c).symm

/-- The optimiser's step for the down projection's weights. -/
theorem algebraic14 : Cert.algebraic_Kernel14Ideal_Reference14Ideal := by
  pair_intro
  · run_from Cert.Kernel14Ideal.Value.run_blocks m g
  · run_from Cert.Reference14Ideal.Value.run m' g'
    · exact (Cert.Kernel14Ideal.Value.final_d m c).symm
    · exact (Cert.Kernel14Ideal.Value.final_m m c).symm
    · exact (Cert.Kernel14Ideal.Value.final_v m c).symm

/-- The optimiser's step for the recurrence gates' weights. -/
theorem algebraic15 : Cert.algebraic_Kernel15Ideal_Reference15Ideal := by
  pair_intro
  · run_from Cert.Kernel15Ideal.Value.run_blocks m g
  · run_from Cert.Reference15Ideal.Value.run m' g'
    · exact (Cert.Kernel15Ideal.Value.final_d m c).symm
    · exact (Cert.Kernel15Ideal.Value.final_m m c).symm
    · exact (Cert.Kernel15Ideal.Value.final_v m c).symm

/-- The optimiser's step for the small weights. -/
theorem algebraic16 : Cert.algebraic_Kernel16Ideal_Reference16Ideal := by
  pair_intro
  · run_from Cert.Kernel16Ideal.Value.run_blocks m g
  · run_from Cert.Reference16Ideal.Value.run m' g'
    · exact (Cert.Kernel16Ideal.Value.final_d m c).symm
    · exact (Cert.Kernel16Ideal.Value.final_m m c).symm
    · exact (Cert.Kernel16Ideal.Value.final_v m c).symm

/-- The attention layer's input projection. -/
theorem algebraic17 : Cert.algebraic_Kernel17Ideal_Reference17Ideal := by
  pair_intro
  · run_from Cert.Kernel17Ideal.Value.run_blocks m g
  · run_from Cert.Reference17Ideal.Value.run m' g'
    · exact (Cert.Kernel17Ideal.Value.final m c).symm

/-- The attention layer's output projection. -/
theorem algebraic18 : Cert.algebraic_Kernel18Ideal_Reference18Ideal := by
  pair_intro
  · run_from Cert.Kernel18Ideal.Value.run_blocks m g
  · run_from Cert.Reference18Ideal.Value.run m' g'
    · exact (Cert.Kernel18Ideal.Value.final m c).symm

/-- The cotangent of the attention output projection's input. -/
theorem algebraic19 : Cert.algebraic_Kernel19Ideal_Reference19Ideal := by
  pair_intro
  · run_from Cert.Kernel19Ideal.Value.run_blocks m g
  · run_from Cert.Reference19Ideal.Value.run m' g'
    · exact (Cert.Kernel19Ideal.Value.final m c).symm

/-- The recurrent layer's input projection. -/
theorem algebraic20 : Cert.algebraic_Kernel20Ideal_Reference20Ideal := by
  pair_intro
  · run_from Cert.Kernel20Ideal.Value.run_blocks m g
  · run_from Cert.Reference20Ideal.Value.run m' g'
    · exact (Cert.Kernel20Ideal.Value.final m c).symm

/-- The recurrent layer's output projection. -/
theorem algebraic21 : Cert.algebraic_Kernel21Ideal_Reference21Ideal := by
  pair_intro
  · run_from Cert.Kernel21Ideal.Value.run_blocks m g
  · run_from Cert.Reference21Ideal.Value.run m' g'
    · exact (Cert.Kernel21Ideal.Value.final m c).symm

/-- The cotangent of the recurrent output projection's input. -/
theorem algebraic22 : Cert.algebraic_Kernel22Ideal_Reference22Ideal := by
  pair_intro
  · run_from Cert.Kernel22Ideal.Value.run_blocks m g
  · run_from Cert.Reference22Ideal.Value.run m' g'
    · exact (Cert.Kernel22Ideal.Value.final m c).symm

/-- The recurrent output projection's weight gradient. -/
theorem algebraic23 : Cert.algebraic_Kernel23Ideal_Reference23Ideal := by
  pair_intro
  · run_from Cert.Kernel23Ideal.Gen.run_main m g
  · run_from Cert.Reference23Ideal.Value.run m' g'
    · exact (Cert.Kernel23Ideal.Value.final m c).symm

/-- The recurrent input projection's weight gradient. -/
theorem algebraic24 : Cert.algebraic_Kernel24Ideal_Reference24Ideal := by
  pair_intro
  · run_from Cert.Kernel24Ideal.Gen.run_main m g
  · run_from Cert.Reference24Ideal.Value.run m' g'
    · exact (Cert.Kernel24Ideal.Value.final m c).symm

/-- The cotangent of the recurrent input projection's input. -/
theorem algebraic25 : Cert.algebraic_Kernel25Ideal_Reference25Ideal := by
  pair_intro
  · run_from Cert.Kernel25Ideal.Value.run_blocks m g
  · run_from Cert.Reference25Ideal.Value.run m' g'
    · exact (Cert.Kernel25Ideal.Value.final m c).symm

/-- The attention output projection's weight gradient, its lower half. -/
theorem algebraic26 : Cert.algebraic_Kernel26Ideal_Reference26Ideal := by
  pair_intro
  · run_from Cert.Kernel26Ideal.Value.run_blocks m g
  · run_from Cert.Reference26Ideal.Value.run m' g'
    · rw [Cert.Reference26Ideal.Read.val_main_v8_eq, (hagree c).2.2]
      exact (Cert.Kernel26Ideal.Value.final m c).symm

/-- The attention output projection's weight gradient, its upper half. -/
theorem algebraic27 : Cert.algebraic_Kernel27Ideal_Reference27Ideal := by
  pair_intro
  · run_from Cert.Kernel27Ideal.Value.run_blocks m g
  · run_from Cert.Reference27Ideal.Value.run m' g'
    · rw [Cert.Reference27Ideal.Read.val_main_v8_eq, (hagree c).2.2]
      exact (Cert.Kernel27Ideal.Value.final m c).symm

/-- The first layer's normed input. -/
theorem algebraic28 : Cert.algebraic_Kernel28Ideal_Reference28Ideal := by
  pair_intro
  · run_from Cert.Kernel28Ideal.Value.run_blocks m g
  · run_from Cert.Reference28Ideal.Value.run m' g'
    · exact (Cert.Kernel28Ideal.Value.final m c).symm

/-- The residual sum and the next normed input. -/
theorem algebraic29 : Cert.algebraic_Kernel29Ideal_Reference29Ideal := by
  pair_intro
  · run_from Cert.Kernel29Ideal.Value.run_blocks m g
  · run_from Cert.Reference29Ideal.Value.run m' g'
    · exact (Cert.Kernel29Ideal.Value.final_sum m c).symm
    · exact (Cert.Kernel29Ideal.Value.final_norm m c).symm

/-- The input's cotangent through the first norm, and the gain's gradient. -/
theorem algebraic30 : Cert.algebraic_Kernel30Ideal_Reference30Ideal := by
  pair_intro
  · run_from Cert.Kernel30Ideal.Value.run_blocks m g
  · run_from Cert.Reference30Ideal.Value.run m' g'
    · exact (Cert.Kernel30Ideal.Value.final_x m c).symm
    · exact (Cert.Kernel30Ideal.Value.final_g m c).symm

/-- The cotangent through the norm after the feed-forward layer, and the gain's gradient. -/
theorem algebraic31 : Cert.algebraic_Kernel31Ideal_Reference31Ideal := by
  pair_intro
  · run_from Cert.Kernel31Ideal.Value.run_blocks m g
  · run_from Cert.Reference31Ideal.Value.run m' g'
    · exact (Cert.Kernel31Ideal.Value.final_x m c).symm
    · exact (Cert.Kernel31Ideal.Value.final_g m c).symm

/-- The cotangents through the two norms between the mixing and the feed-forward layer, and the gains' gradients. -/
theorem algebraic32 : Cert.algebraic_Kernel32Ideal_Reference32Ideal := by
  pair_intro
  · run_from Cert.Kernel32Ideal.Value.run_blocks m g
  · run_from Cert.Reference32Ideal.Value.run m' g'
    · exact (Cert.Kernel32Ideal.Value.final_x m c).symm
    · rw [Cert.Reference32Ideal.Read.val_main_v73_eq, (hagree c).1, (hagree c).2.1, (hagree c).2.2.1, (hagree c).2.2.2.1, (hagree c).2.2.2.2.1, (hagree c).2.2.2.2.2]
      exact (Cert.Kernel32Ideal.Value.final_m m c).symm
    · exact (Cert.Kernel32Ideal.Value.final_g m c).symm
    · rw [Cert.Reference32Ideal.Read.val_main_v75_eq, (hagree c).1, (hagree c).2.1, (hagree c).2.2.1, (hagree c).2.2.2.1, (hagree c).2.2.2.2.1]
      exact (Cert.Kernel32Ideal.Value.final_q m c).symm

/-- The recurrent layer's gated output. -/
theorem algebraic33 : Cert.algebraic_Kernel33Ideal_Reference33Ideal := by
  pair_intro
  · run_from Cert.Kernel33Ideal.Value.run_blocks m g
  · run_from Cert.Reference33Ideal.Value.run m' g'
    · exact (Cert.Kernel33Ideal.Value.final m c).symm

theorem claim : Cert.Claim := ⟨Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Pre_finite.Gen.facts, Cert.Pre_finite_scores.Gen.facts,
  fun m g _ => Cert.Kernel2.Gen.frame m g,
  fun m g _ => Cert.Kernel2Ideal.Gen.frame m g,
  fun m g _ => Cert.Kernel2Ideal.Gen.frame m g,
  fun m g _ => (θ_run Cert.Reference2Ideal.defs _ _).mono (fun r h => ⟨fun c => (h c).2.2, sem_eq_zero_of_no_sems (by decide) r.2⟩)
    (Cert.Reference2Ideal.Value.run m g),
  fun m g _ => (θ_run Cert.Reference2Ideal.defs _ _).mono (fun r h => ⟨fun c => (h c).2.2, sem_eq_zero_of_no_sems (by decide) r.2⟩)
    (Cert.Reference2Ideal.Value.run m g),
  fun m g _ => Cert.Kernel3.Gen.frame m g,
  fun m g _ => Cert.Kernel3Ideal.Gen.frame m g,
  fun m g _ => (θ_run Cert.Reference3Ideal.defs _ _).mono (fun r h => ⟨fun c => (h c).2, sem_eq_zero_of_no_sems (by decide) r.2⟩)
    (Cert.Reference3Ideal.Value.run m g),
  fun m g _ => Cert.Kernel4.Gen.frame m g,
  fun m g _ => Cert.Kernel4Ideal.Gen.frame m g,
  fun m g _ => (θ_run Cert.Reference4Ideal.defs _ _).mono (fun r h => ⟨fun c => (h c).2.2, sem_eq_zero_of_no_sems (by decide) r.2⟩)
    (Cert.Reference4Ideal.Value.run m g),
  fun m g _ => Cert.Kernel5.Gen.frame m g,
  fun m g _ => Cert.Kernel5Ideal.Gen.frame m g,
  fun m g _ => (θ_run Cert.Reference5Ideal.defs _ _).mono (fun r h => ⟨fun c => (h c).2, sem_eq_zero_of_no_sems (by decide) r.2⟩)
    (Cert.Reference5Ideal.Value.run m g),
  fun m g _ => Cert.Kernel6.Gen.frame m g,
  fun m g _ => Cert.Kernel6Ideal.Gen.frame m g,
  fun m g _ => (θ_run Cert.Reference6Ideal.defs _ _).mono (fun r h => ⟨fun c => (h c).2.2.2, sem_eq_zero_of_no_sems (by decide) r.2⟩)
    (Cert.Reference6Ideal.Value.run m g),
  fun m g _ => Cert.Kernel7.Gen.frame m g,
  fun m g _ => Cert.Kernel7Ideal.Gen.frame m g,
  fun m g _ => (θ_run Cert.Reference7Ideal.defs _ _).mono (fun r h => ⟨fun c => (h c).2, sem_eq_zero_of_no_sems (by decide) r.2⟩)
    (Cert.Reference7Ideal.Value.run m g),
  fun m g _ => Cert.Kernel8.Gen.frame m g,
  fun m g _ => Cert.Kernel8Ideal.Gen.frame m g,
  fun m g _ => (θ_run Cert.Reference8Ideal.defs _ _).mono (fun r h => ⟨fun c => (h c).2, sem_eq_zero_of_no_sems (by decide) r.2⟩)
    (Cert.Reference8Ideal.Value.run m g),
  fun m g _ => Cert.Kernel9.Gen.frame m g,
  fun m g _ => Cert.Kernel9Ideal.Gen.frame m g,
  fun m g _ => (θ_run Cert.Reference9Ideal.defs _ _).mono (fun r h => ⟨fun c => (h c).2, sem_eq_zero_of_no_sems (by decide) r.2⟩)
    (Cert.Reference9Ideal.Value.run m g),
  fun m g _ => Cert.Kernel10.Gen.frame m g,
  fun m g _ => Cert.Kernel10Ideal.Gen.frame m g,
  fun m g _ => Cert.Kernel10Ideal.Gen.frame m g,
  fun m g _ => (θ_run Cert.Reference10Ideal.defs _ _).mono (fun r h => ⟨fun c => (h c).2, sem_eq_zero_of_no_sems (by decide) r.2⟩)
    (Cert.Reference10Ideal.Value.run m g),
  fun m g _ => (θ_run Cert.Reference10Ideal.defs _ _).mono (fun r h => ⟨fun c => (h c).2, sem_eq_zero_of_no_sems (by decide) r.2⟩)
    (Cert.Reference10Ideal.Value.run m g),
  fun m g _ => Cert.Kernel11.Gen.frame m g,
  fun m g _ => Cert.Kernel11Ideal.Gen.frame m g,
  fun m g _ => (θ_run Cert.Reference11Ideal.defs _ _).mono (fun r h => ⟨fun c => (h c).2.2.2, sem_eq_zero_of_no_sems (by decide) r.2⟩)
    (Cert.Reference11Ideal.Value.run m g),
  fun m g _ => Cert.Kernel12.Gen.frame m g,
  fun m g _ => Cert.Kernel12Ideal.Gen.frame m g,
  fun m g _ => (θ_run Cert.Reference12Ideal.defs _ _).mono (fun r h => ⟨fun c => (h c).2.2.2, sem_eq_zero_of_no_sems (by decide) r.2⟩)
    (Cert.Reference12Ideal.Value.run m g),
  fun m g _ => Cert.Kernel13.Gen.frame m g,
  fun m g _ => Cert.Kernel13Ideal.Gen.frame m g,
  fun m g _ => (θ_run Cert.Reference13Ideal.defs _ _).mono (fun r h => ⟨fun c => (h c).2.2.2, sem_eq_zero_of_no_sems (by decide) r.2⟩)
    (Cert.Reference13Ideal.Value.run m g),
  fun m g _ => Cert.Kernel14.Gen.frame m g,
  fun m g _ => Cert.Kernel14Ideal.Gen.frame m g,
  fun m g _ => (θ_run Cert.Reference14Ideal.defs _ _).mono (fun r h => ⟨fun c => (h c).2.2.2, sem_eq_zero_of_no_sems (by decide) r.2⟩)
    (Cert.Reference14Ideal.Value.run m g),
  fun m g _ => Cert.Kernel15.Gen.frame m g,
  fun m g _ => Cert.Kernel15Ideal.Gen.frame m g,
  fun m g _ => (θ_run Cert.Reference15Ideal.defs _ _).mono (fun r h => ⟨fun c => (h c).2.2.2, sem_eq_zero_of_no_sems (by decide) r.2⟩)
    (Cert.Reference15Ideal.Value.run m g),
  fun m g _ => Cert.Kernel16.Gen.frame m g,
  fun m g _ => Cert.Kernel16Ideal.Gen.frame m g,
  fun m g _ => (θ_run Cert.Reference16Ideal.defs _ _).mono (fun r h => ⟨fun c => (h c).2.2.2, sem_eq_zero_of_no_sems (by decide) r.2⟩)
    (Cert.Reference16Ideal.Value.run m g),
  fun m g _ => Cert.Kernel17.Gen.frame m g,
  fun m g _ => Cert.Kernel17Ideal.Gen.frame m g,
  fun m g _ => (θ_run Cert.Reference17Ideal.defs _ _).mono (fun r h => ⟨fun c => (h c).2, sem_eq_zero_of_no_sems (by decide) r.2⟩)
    (Cert.Reference17Ideal.Value.run m g),
  fun m g _ => Cert.Kernel18.Gen.frame m g,
  fun m g _ => Cert.Kernel18Ideal.Gen.frame m g,
  fun m g _ => (θ_run Cert.Reference18Ideal.defs _ _).mono (fun r h => ⟨fun c => (h c).2, sem_eq_zero_of_no_sems (by decide) r.2⟩)
    (Cert.Reference18Ideal.Value.run m g),
  fun m g _ => Cert.Kernel19.Gen.frame m g,
  fun m g _ => Cert.Kernel19Ideal.Gen.frame m g,
  fun m g _ => (θ_run Cert.Reference19Ideal.defs _ _).mono (fun r h => ⟨fun c => (h c).2, sem_eq_zero_of_no_sems (by decide) r.2⟩)
    (Cert.Reference19Ideal.Value.run m g),
  fun m g _ => Cert.Kernel20.Gen.frame m g,
  fun m g _ => Cert.Kernel20Ideal.Gen.frame m g,
  fun m g _ => (θ_run Cert.Reference20Ideal.defs _ _).mono (fun r h => ⟨fun c => (h c).2, sem_eq_zero_of_no_sems (by decide) r.2⟩)
    (Cert.Reference20Ideal.Value.run m g),
  fun m g _ => Cert.Kernel21.Gen.frame m g,
  fun m g _ => Cert.Kernel21Ideal.Gen.frame m g,
  fun m g _ => (θ_run Cert.Reference21Ideal.defs _ _).mono (fun r h => ⟨fun c => (h c).2, sem_eq_zero_of_no_sems (by decide) r.2⟩)
    (Cert.Reference21Ideal.Value.run m g),
  fun m g _ => Cert.Kernel22.Gen.frame m g,
  fun m g _ => Cert.Kernel22Ideal.Gen.frame m g,
  fun m g _ => (θ_run Cert.Reference22Ideal.defs _ _).mono (fun r h => ⟨fun c => (h c).2, sem_eq_zero_of_no_sems (by decide) r.2⟩)
    (Cert.Reference22Ideal.Value.run m g),
  fun m g _ => Cert.Kernel23.Gen.frame m g,
  fun m g _ => Cert.Kernel23Ideal.Gen.frame m g,
  fun m g _ => (θ_run Cert.Reference23Ideal.defs _ _).mono (fun r h => ⟨fun c => (h c).2, sem_eq_zero_of_no_sems (by decide) r.2⟩)
    (Cert.Reference23Ideal.Value.run m g),
  fun m g _ => Cert.Kernel24.Gen.frame m g,
  fun m g _ => Cert.Kernel24Ideal.Gen.frame m g,
  fun m g _ => (θ_run Cert.Reference24Ideal.defs _ _).mono (fun r h => ⟨fun c => (h c).2, sem_eq_zero_of_no_sems (by decide) r.2⟩)
    (Cert.Reference24Ideal.Value.run m g),
  fun m g _ => Cert.Kernel25.Gen.frame m g,
  fun m g _ => Cert.Kernel25Ideal.Gen.frame m g,
  fun m g _ => (θ_run Cert.Reference25Ideal.defs _ _).mono (fun r h => ⟨fun c => (h c).2, sem_eq_zero_of_no_sems (by decide) r.2⟩)
    (Cert.Reference25Ideal.Value.run m g),
  fun m g _ => Cert.Kernel26.Gen.frame m g,
  fun m g _ => Cert.Kernel26Ideal.Gen.frame m g,
  fun m g _ => (θ_run Cert.Reference26Ideal.defs _ _).mono (fun r h => ⟨fun c => (h c).2, sem_eq_zero_of_no_sems (by decide) r.2⟩)
    (Cert.Reference26Ideal.Value.run m g),
  fun m g _ => Cert.Kernel27.Gen.frame m g,
  fun m g _ => Cert.Kernel27Ideal.Gen.frame m g,
  fun m g _ => (θ_run Cert.Reference27Ideal.defs _ _).mono (fun r h => ⟨fun c => (h c).2, sem_eq_zero_of_no_sems (by decide) r.2⟩)
    (Cert.Reference27Ideal.Value.run m g),
  fun m g _ => Cert.Kernel28.Gen.frame m g,
  fun m g _ => Cert.Kernel28Ideal.Gen.frame m g,
  fun m g _ => (θ_run Cert.Reference28Ideal.defs _ _).mono (fun r h => ⟨fun c => (h c).2, sem_eq_zero_of_no_sems (by decide) r.2⟩)
    (Cert.Reference28Ideal.Value.run m g),
  fun m g _ => Cert.Kernel29.Gen.frame m g,
  fun m g _ => Cert.Kernel29Ideal.Gen.frame m g,
  fun m g _ => (θ_run Cert.Reference29Ideal.defs _ _).mono (fun r h => ⟨fun c => (h c).2.2, sem_eq_zero_of_no_sems (by decide) r.2⟩)
    (Cert.Reference29Ideal.Value.run m g),
  fun m g _ => Cert.Kernel30.Gen.frame m g,
  fun m g _ => Cert.Kernel30Ideal.Gen.frame m g,
  fun m g _ => (θ_run Cert.Reference30Ideal.defs _ _).mono (fun r h => ⟨fun c => (h c).2.2, sem_eq_zero_of_no_sems (by decide) r.2⟩)
    (Cert.Reference30Ideal.Value.run m g),
  fun m g _ => Cert.Kernel31.Gen.frame m g,
  fun m g _ => Cert.Kernel31Ideal.Gen.frame m g,
  fun m g _ => (θ_run Cert.Reference31Ideal.defs _ _).mono (fun r h => ⟨fun c => (h c).2.2, sem_eq_zero_of_no_sems (by decide) r.2⟩)
    (Cert.Reference31Ideal.Value.run m g),
  fun m g _ => Cert.Kernel32.Gen.frame m g,
  fun m g _ => Cert.Kernel32Ideal.Gen.frame m g,
  fun m g _ => (θ_run Cert.Reference32Ideal.defs _ _).mono (fun r h => ⟨fun c => (h c).2.2.2.2, sem_eq_zero_of_no_sems (by decide) r.2⟩)
    (Cert.Reference32Ideal.Value.run m g),
  fun m g _ => Cert.Kernel33.Gen.frame m g,
  fun m g _ => Cert.Kernel33Ideal.Gen.frame m g,
  fun m g _ => (θ_run Cert.Reference33Ideal.defs _ _).mono (fun r h => ⟨fun c => (h c).2, sem_eq_zero_of_no_sems (by decide) r.2⟩)
    (Cert.Reference33Ideal.Value.run m g),
  trivial,
  algebraic2,
  trivial,
  algebraic3,
  trivial,
  algebraic4,
  trivial,
  algebraic5,
  trivial,
  algebraic6,
  trivial,
  algebraic7,
  trivial,
  algebraic8,
  trivial,
  algebraic9,
  IdealRules.named_const.statement Cert.Kernel10Ideal.κ "mask" .f32 0xF149F2CA#32 ⊥ rfl,
  algebraic10,
  trivial,
  algebraic11,
  trivial,
  algebraic12,
  trivial,
  algebraic13,
  trivial,
  algebraic14,
  trivial,
  algebraic15,
  trivial,
  algebraic16,
  trivial,
  algebraic17,
  trivial,
  algebraic18,
  trivial,
  algebraic19,
  trivial,
  algebraic20,
  trivial,
  algebraic21,
  trivial,
  algebraic22,
  trivial,
  algebraic23,
  trivial,
  algebraic24,
  trivial,
  algebraic25,
  trivial,
  algebraic26,
  trivial,
  algebraic27,
  trivial,
  algebraic28,
  trivial,
  algebraic29,
  trivial,
  algebraic30,
  trivial,
  algebraic31,
  trivial,
  algebraic32,
  trivial,
  algebraic33⟩

end Cert.Proof

end
